-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S256x4096 : Shape := ⟨2, ![256, 4096]⟩
abbrev S8192x4096 : Shape := ⟨2, ![8192, 4096]⟩
abbrev S2x256x2048 : Shape := ⟨3, ![2, 256, 2048]⟩
abbrev S256x2048 : Shape := ⟨2, ![256, 2048]⟩
abbrev S2 : Shape := ⟨1, ![2]⟩
abbrev S_ : Shape := ⟨0, ![]⟩
abbrev S256x256 : Shape := ⟨2, ![256, 256]⟩
abbrev S1x256x2048 : Shape := ⟨3, ![1, 256, 2048]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x4096, .bf16⟩
  | .hbm, ⟨2, _⟩ => ⟨S8192x4096, .f32⟩
  | .local _ .vmem, ⟨0, _⟩ => ⟨S8192x256, .bf16⟩
  | .local _ .vmem, ⟨1, _⟩ => ⟨S256x4096, .bf16⟩
  | .local _ .vmem, ⟨2, _⟩ => ⟨S2x256x2048, .bf16⟩
  | .local _ .vmem, ⟨3, _⟩ => ⟨S2x256x2048, .bf16⟩
  | .local _ .vmem, ⟨4, _⟩ => ⟨S256x2048, .f32⟩
  | .local _ .vmem, ⟨5, _⟩ => ⟨S256x2048, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 6 → Bool
  | ⟨0, _⟩ => true
  | ⟨1, _⟩ => true
  | ⟨2, _⟩ => true
  | ⟨3, _⟩ => true
  | ⟨4, _⟩ => true
  | ⟨5, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 6 12 bufScoped semScoped dmaSemScoped tileCredit tileCredit_eq_zero tileCredit_pos).withBarriers [(0, 5)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 5

abbrev nD : Nat := 32
abbrev τ : Topo := Topo.v7x

variable {F : FTy → Type} [FloatOps F]

abbrev grid0 : Pipeline.Grid := .none

def k0_dev1 (d0 : Dev nD) : Nat :=
  let c0_i32_122 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_121 : BitVec 32 := 1#32
  let v245 : BitVec 32 := Scalar.muli v243 c1_i32_121
  let v246 : BitVec 32 := Scalar.addi c0_i32_122 v245
  v246.toNat
def k0_dev2 (d0 : Dev nD) : Nat :=
  let c0_i32_125 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_124 : BitVec 32 := 1#32
  let v247 : BitVec 32 := Scalar.muli v155 c1_i32_124
  let v248 : BitVec 32 := Scalar.addi c0_i32_125 v247
  v248.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c256_i32 : BitVec 32 := 256#32
  let v249 : BitVec 32 := Scalar.muli v67 c256_i32
  let v250 : Index := Scalar.indexCast v249
  let c0 : Index := 0#32
  ![v250.toNat, 0]
def k0_dev3 (d0 : Dev nD) : Nat :=
  let c0_i32_144 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_143 : BitVec 32 := 1#32
  let v271 : BitVec 32 := Scalar.muli v155 c1_i32_143
  let v272 : BitVec 32 := Scalar.addi c0_i32_144 v271
  v272.toNat
def k0_dev4 (d0 : Dev nD) : Nat :=
  let c0_i32_154 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_153 : BitVec 32 := 1#32
  let v281 : BitVec 32 := Scalar.muli v243 c1_i32_153
  let v282 : BitVec 32 := Scalar.addi c0_i32_154 v281
  v282.toNat
def k0_off2 (d0 : Dev nD) (c_m1_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let v291 : BitVec 32 := Scalar.addi v67 c_m1_i32
  let c32_i32_159 : BitVec 32 := 32#32
  let c0_i32_160 : BitVec 32 := 0#32
  let v292 : BitVec 1 := Scalar.cmpi .eq c32_i32_159 c0_i32_160
  let c1_i32_161 : BitVec 32 := 1#32
  let v293 : BitVec 32 := Scalar.select v292 c1_i32_161 c32_i32_159
  let v294 : BitVec 32 := Scalar.remsi v291 v293
  let c0_i32_163 : BitVec 32 := 0#32
  let v296 : BitVec 1 := Scalar.cmpi .slt v294 c0_i32_163
  let c0_i32_164 : BitVec 32 := 0#32
  let v297 : BitVec 1 := Scalar.cmpi .slt v293 c0_i32_164
  let v298 : BitVec 1 := Scalar.xori v296 v297
  let c0_i32_162 : BitVec 32 := 0#32
  let v295 : BitVec 1 := Scalar.cmpi .ne v294 c0_i32_162
  let v299 : BitVec 1 := Scalar.andi v298 v295
  let v300 : BitVec 32 := Scalar.addi v294 v293
  let v301 : BitVec 32 := Scalar.select v299 v300 v294
  let c256_i32_165 : BitVec 32 := 256#32
  let v302 : BitVec 32 := Scalar.muli v301 c256_i32_165
  let v303 : Index := Scalar.indexCast v302
  let c0_166 : Index := 0#32
  ![v303.toNat, 0]
def k0_off2_at (r : Fin 62) : BitVec 32 :=
  if r.val < 31 then
    if r.val < 15 then
      if r.val < 7 then
        if r.val < 3 then
          if r.val < 1 then
            4294967295#32
          else
            if r.val < 2 then
              1#32
            else
              4294967294#32
        else
          if r.val < 5 then
            if r.val < 4 then
              2#32
            else
              4294967293#32
          else
            if r.val < 6 then
              3#32
            else
              4294967292#32
      else
        if r.val < 11 then
          if r.val < 9 then
            if r.val < 8 then
              4#32
            else
              4294967291#32
          else
            if r.val < 10 then
              5#32
            else
              4294967290#32
        else
          if r.val < 13 then
            if r.val < 12 then
              6#32
            else
              4294967289#32
          else
            if r.val < 14 then
              7#32
            else
              4294967288#32
    else
      if r.val < 23 then
        if r.val < 19 then
          if r.val < 17 then
            if r.val < 16 then
              8#32
            else
              4294967287#32
          else
            if r.val < 18 then
              9#32
            else
              4294967286#32
        else
          if r.val < 21 then
            if r.val < 20 then
              10#32
            else
              4294967285#32
          else
            if r.val < 22 then
              11#32
            else
              4294967284#32
      else
        if r.val < 27 then
          if r.val < 25 then
            if r.val < 24 then
              12#32
            else
              4294967283#32
          else
            if r.val < 26 then
              13#32
            else
              4294967282#32
        else
          if r.val < 29 then
            if r.val < 28 then
              14#32
            else
              4294967281#32
          else
            if r.val < 30 then
              15#32
            else
              4294967280#32
  else
    if r.val < 46 then
      if r.val < 38 then
        if r.val < 34 then
          if r.val < 32 then
            16#32
          else
            if r.val < 33 then
              4294967279#32
            else
              17#32
        else
          if r.val < 36 then
            if r.val < 35 then
              4294967278#32
            else
              18#32
          else
            if r.val < 37 then
              4294967277#32
            else
              19#32
      else
        if r.val < 42 then
          if r.val < 40 then
            if r.val < 39 then
              4294967276#32
            else
              20#32
          else
            if r.val < 41 then
              4294967275#32
            else
              21#32
        else
          if r.val < 44 then
            if r.val < 43 then
              4294967274#32
            else
              22#32
          else
            if r.val < 45 then
              4294967273#32
            else
              23#32
    else
      if r.val < 54 then
        if r.val < 50 then
          if r.val < 48 then
            if r.val < 47 then
              4294967272#32
            else
              24#32
          else
            if r.val < 49 then
              4294967271#32
            else
              25#32
        else
          if r.val < 52 then
            if r.val < 51 then
              4294967270#32
            else
              26#32
          else
            if r.val < 53 then
              4294967269#32
            else
              27#32
      else
        if r.val < 58 then
          if r.val < 56 then
            if r.val < 55 then
              4294967268#32
            else
              28#32
          else
            if r.val < 57 then
              4294967267#32
            else
              29#32
        else
          if r.val < 60 then
            if r.val < 59 then
              4294967266#32
            else
              30#32
          else
            if r.val < 61 then
              4294967265#32
            else
              31#32
def k0_dev5 (d0 : Dev nD) : Nat :=
  let c0_i32_225 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_224 : BitVec 32 := 1#32
  let v367 : BitVec 32 := Scalar.muli v243 c1_i32_224
  let v368 : BitVec 32 := Scalar.addi c0_i32_225 v367
  v368.toNat
def k0_dev6 (d0 : Dev nD) : Nat :=
  let c0_i32_238 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_237 : BitVec 32 := 1#32
  let v377 : BitVec 32 := Scalar.muli v155 c1_i32_237
  let v378 : BitVec 32 := Scalar.addi c0_i32_238 v377
  v378.toNat
def k0_dev7 (d0 : Dev nD) : Nat :=
  let c0_i32_247 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_246 : BitVec 32 := 1#32
  let v381 : BitVec 32 := Scalar.muli v155 c1_i32_246
  let v382 : BitVec 32 := Scalar.addi c0_i32_247 v381
  v382.toNat
def k0_dev8 (d0 : Dev nD) : Nat :=
  let c0_i32_260 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_259 : BitVec 32 := 1#32
  let v393 : BitVec 32 := Scalar.muli v243 c1_i32_259
  let v394 : BitVec 32 := Scalar.addi c0_i32_260 v393
  v394.toNat
def k0_dev9 (d0 : Dev nD) : Nat :=
  let c0_i32_332 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_331 : BitVec 32 := 1#32
  let v479 : BitVec 32 := Scalar.muli v243 c1_i32_331
  let v480 : BitVec 32 := Scalar.addi c0_i32_332 v479
  v480.toNat
def k0_dev10 (d0 : Dev nD) : Nat :=
  let c0_i32_345 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_344 : BitVec 32 := 1#32
  let v489 : BitVec 32 := Scalar.muli v155 c1_i32_344
  let v490 : BitVec 32 := Scalar.addi c0_i32_345 v489
  v490.toNat
def k0_dev11 (d0 : Dev nD) : Nat :=
  let c0_i32_354 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_353 : BitVec 32 := 1#32
  let v493 : BitVec 32 := Scalar.muli v155 c1_i32_353
  let v494 : BitVec 32 := Scalar.addi c0_i32_354 v493
  v494.toNat
def k0_dev12 (d0 : Dev nD) : Nat :=
  let c0_i32_367 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_366 : BitVec 32 := 1#32
  let v505 : BitVec 32 := Scalar.muli v243 c1_i32_366
  let v506 : BitVec 32 := Scalar.addi c0_i32_367 v505
  v506.toNat
def k0_dev13 (d0 : Dev nD) : Nat :=
  let c0_i32_439 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_438 : BitVec 32 := 1#32
  let v591 : BitVec 32 := Scalar.muli v243 c1_i32_438
  let v592 : BitVec 32 := Scalar.addi c0_i32_439 v591
  v592.toNat
def k0_dev14 (d0 : Dev nD) : Nat :=
  let c0_i32_452 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_451 : BitVec 32 := 1#32
  let v601 : BitVec 32 := Scalar.muli v155 c1_i32_451
  let v602 : BitVec 32 := Scalar.addi c0_i32_452 v601
  v602.toNat
def k0_dev15 (d0 : Dev nD) : Nat :=
  let c0_i32_461 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_460 : BitVec 32 := 1#32
  let v605 : BitVec 32 := Scalar.muli v155 c1_i32_460
  let v606 : BitVec 32 := Scalar.addi c0_i32_461 v605
  v606.toNat
def k0_dev16 (d0 : Dev nD) : Nat :=
  let c0_i32_474 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_473 : BitVec 32 := 1#32
  let v617 : BitVec 32 := Scalar.muli v243 c1_i32_473
  let v618 : BitVec 32 := Scalar.addi c0_i32_474 v617
  v618.toNat
def k0_dev17 (d0 : Dev nD) : Nat :=
  let c0_i32_546 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_545 : BitVec 32 := 1#32
  let v703 : BitVec 32 := Scalar.muli v243 c1_i32_545
  let v704 : BitVec 32 := Scalar.addi c0_i32_546 v703
  v704.toNat
def k0_dev18 (d0 : Dev nD) : Nat :=
  let c0_i32_559 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_558 : BitVec 32 := 1#32
  let v713 : BitVec 32 := Scalar.muli v155 c1_i32_558
  let v714 : BitVec 32 := Scalar.addi c0_i32_559 v713
  v714.toNat
def k0_dev19 (d0 : Dev nD) : Nat :=
  let c0_i32_568 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_567 : BitVec 32 := 1#32
  let v717 : BitVec 32 := Scalar.muli v155 c1_i32_567
  let v718 : BitVec 32 := Scalar.addi c0_i32_568 v717
  v718.toNat
def k0_dev20 (d0 : Dev nD) : Nat :=
  let c0_i32_581 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_580 : BitVec 32 := 1#32
  let v729 : BitVec 32 := Scalar.muli v243 c1_i32_580
  let v730 : BitVec 32 := Scalar.addi c0_i32_581 v729
  v730.toNat
def k0_dev21 (d0 : Dev nD) : Nat :=
  let c0_i32_652 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_651 : BitVec 32 := 1#32
  let v815 : BitVec 32 := Scalar.muli v243 c1_i32_651
  let v816 : BitVec 32 := Scalar.addi c0_i32_652 v815
  v816.toNat
def k0_dev22 (d0 : Dev nD) : Nat :=
  let c0_i32_665 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_664 : BitVec 32 := 1#32
  let v825 : BitVec 32 := Scalar.muli v155 c1_i32_664
  let v826 : BitVec 32 := Scalar.addi c0_i32_665 v825
  v826.toNat
def k0_dev23 (d0 : Dev nD) : Nat :=
  let c0_i32_674 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_673 : BitVec 32 := 1#32
  let v829 : BitVec 32 := Scalar.muli v155 c1_i32_673
  let v830 : BitVec 32 := Scalar.addi c0_i32_674 v829
  v830.toNat
def k0_dev24 (d0 : Dev nD) : Nat :=
  let c0_i32_687 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_686 : BitVec 32 := 1#32
  let v841 : BitVec 32 := Scalar.muli v243 c1_i32_686
  let v842 : BitVec 32 := Scalar.addi c0_i32_687 v841
  v842.toNat
def k0_dev25 (d0 : Dev nD) : Nat :=
  let c0_i32_758 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_757 : BitVec 32 := 1#32
  let v927 : BitVec 32 := Scalar.muli v243 c1_i32_757
  let v928 : BitVec 32 := Scalar.addi c0_i32_758 v927
  v928.toNat
def k0_dev26 (d0 : Dev nD) : Nat :=
  let c0_i32_771 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_770 : BitVec 32 := 1#32
  let v937 : BitVec 32 := Scalar.muli v155 c1_i32_770
  let v938 : BitVec 32 := Scalar.addi c0_i32_771 v937
  v938.toNat
def k0_dev27 (d0 : Dev nD) : Nat :=
  let c0_i32_780 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_779 : BitVec 32 := 1#32
  let v941 : BitVec 32 := Scalar.muli v155 c1_i32_779
  let v942 : BitVec 32 := Scalar.addi c0_i32_780 v941
  v942.toNat
def k0_dev28 (d0 : Dev nD) : Nat :=
  let c0_i32_793 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_792 : BitVec 32 := 1#32
  let v953 : BitVec 32 := Scalar.muli v243 c1_i32_792
  let v954 : BitVec 32 := Scalar.addi c0_i32_793 v953
  v954.toNat
def k0_dev29 (d0 : Dev nD) : Nat :=
  let c0_i32_864 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_863 : BitVec 32 := 1#32
  let v1039 : BitVec 32 := Scalar.muli v243 c1_i32_863
  let v1040 : BitVec 32 := Scalar.addi c0_i32_864 v1039
  v1040.toNat
def k0_dev30 (d0 : Dev nD) : Nat :=
  let c0_i32_877 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_876 : BitVec 32 := 1#32
  let v1049 : BitVec 32 := Scalar.muli v155 c1_i32_876
  let v1050 : BitVec 32 := Scalar.addi c0_i32_877 v1049
  v1050.toNat
def k0_dev31 (d0 : Dev nD) : Nat :=
  let c0_i32_886 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_885 : BitVec 32 := 1#32
  let v1053 : BitVec 32 := Scalar.muli v155 c1_i32_885
  let v1054 : BitVec 32 := Scalar.addi c0_i32_886 v1053
  v1054.toNat
def k0_dev32 (d0 : Dev nD) : Nat :=
  let c0_i32_899 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_898 : BitVec 32 := 1#32
  let v1065 : BitVec 32 := Scalar.muli v243 c1_i32_898
  let v1066 : BitVec 32 := Scalar.addi c0_i32_899 v1065
  v1066.toNat
def k0_dev33 (d0 : Dev nD) : Nat :=
  let c0_i32_971 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_970 : BitVec 32 := 1#32
  let v1151 : BitVec 32 := Scalar.muli v243 c1_i32_970
  let v1152 : BitVec 32 := Scalar.addi c0_i32_971 v1151
  v1152.toNat
def k0_dev34 (d0 : Dev nD) : Nat :=
  let c0_i32_984 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_983 : BitVec 32 := 1#32
  let v1161 : BitVec 32 := Scalar.muli v155 c1_i32_983
  let v1162 : BitVec 32 := Scalar.addi c0_i32_984 v1161
  v1162.toNat
def k0_dev35 (d0 : Dev nD) : Nat :=
  let c0_i32_993 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_992 : BitVec 32 := 1#32
  let v1165 : BitVec 32 := Scalar.muli v155 c1_i32_992
  let v1166 : BitVec 32 := Scalar.addi c0_i32_993 v1165
  v1166.toNat
def k0_dev36 (d0 : Dev nD) : Nat :=
  let c0_i32_1006 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1005 : BitVec 32 := 1#32
  let v1177 : BitVec 32 := Scalar.muli v243 c1_i32_1005
  let v1178 : BitVec 32 := Scalar.addi c0_i32_1006 v1177
  v1178.toNat
def k0_dev37 (d0 : Dev nD) : Nat :=
  let c0_i32_1077 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1076 : BitVec 32 := 1#32
  let v1263 : BitVec 32 := Scalar.muli v243 c1_i32_1076
  let v1264 : BitVec 32 := Scalar.addi c0_i32_1077 v1263
  v1264.toNat
def k0_dev38 (d0 : Dev nD) : Nat :=
  let c0_i32_1090 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1089 : BitVec 32 := 1#32
  let v1273 : BitVec 32 := Scalar.muli v155 c1_i32_1089
  let v1274 : BitVec 32 := Scalar.addi c0_i32_1090 v1273
  v1274.toNat
def k0_dev39 (d0 : Dev nD) : Nat :=
  let c0_i32_1099 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1098 : BitVec 32 := 1#32
  let v1277 : BitVec 32 := Scalar.muli v155 c1_i32_1098
  let v1278 : BitVec 32 := Scalar.addi c0_i32_1099 v1277
  v1278.toNat
def k0_dev40 (d0 : Dev nD) : Nat :=
  let c0_i32_1112 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1111 : BitVec 32 := 1#32
  let v1289 : BitVec 32 := Scalar.muli v243 c1_i32_1111
  let v1290 : BitVec 32 := Scalar.addi c0_i32_1112 v1289
  v1290.toNat
def k0_dev41 (d0 : Dev nD) : Nat :=
  let c0_i32_1183 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1182 : BitVec 32 := 1#32
  let v1375 : BitVec 32 := Scalar.muli v243 c1_i32_1182
  let v1376 : BitVec 32 := Scalar.addi c0_i32_1183 v1375
  v1376.toNat
def k0_dev42 (d0 : Dev nD) : Nat :=
  let c0_i32_1196 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1195 : BitVec 32 := 1#32
  let v1385 : BitVec 32 := Scalar.muli v155 c1_i32_1195
  let v1386 : BitVec 32 := Scalar.addi c0_i32_1196 v1385
  v1386.toNat
def k0_dev43 (d0 : Dev nD) : Nat :=
  let c0_i32_1205 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1204 : BitVec 32 := 1#32
  let v1389 : BitVec 32 := Scalar.muli v155 c1_i32_1204
  let v1390 : BitVec 32 := Scalar.addi c0_i32_1205 v1389
  v1390.toNat
def k0_dev44 (d0 : Dev nD) : Nat :=
  let c0_i32_1218 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1217 : BitVec 32 := 1#32
  let v1401 : BitVec 32 := Scalar.muli v243 c1_i32_1217
  let v1402 : BitVec 32 := Scalar.addi c0_i32_1218 v1401
  v1402.toNat
def k0_dev45 (d0 : Dev nD) : Nat :=
  let c0_i32_1289 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1288 : BitVec 32 := 1#32
  let v1487 : BitVec 32 := Scalar.muli v243 c1_i32_1288
  let v1488 : BitVec 32 := Scalar.addi c0_i32_1289 v1487
  v1488.toNat
def k0_dev46 (d0 : Dev nD) : Nat :=
  let c0_i32_1302 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1301 : BitVec 32 := 1#32
  let v1497 : BitVec 32 := Scalar.muli v155 c1_i32_1301
  let v1498 : BitVec 32 := Scalar.addi c0_i32_1302 v1497
  v1498.toNat
def k0_dev47 (d0 : Dev nD) : Nat :=
  let c0_i32_1311 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1310 : BitVec 32 := 1#32
  let v1501 : BitVec 32 := Scalar.muli v155 c1_i32_1310
  let v1502 : BitVec 32 := Scalar.addi c0_i32_1311 v1501
  v1502.toNat
def k0_dev48 (d0 : Dev nD) : Nat :=
  let c0_i32_1324 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1323 : BitVec 32 := 1#32
  let v1513 : BitVec 32 := Scalar.muli v243 c1_i32_1323
  let v1514 : BitVec 32 := Scalar.addi c0_i32_1324 v1513
  v1514.toNat
def k0_dev49 (d0 : Dev nD) : Nat :=
  let c0_i32_1395 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1394 : BitVec 32 := 1#32
  let v1599 : BitVec 32 := Scalar.muli v243 c1_i32_1394
  let v1600 : BitVec 32 := Scalar.addi c0_i32_1395 v1599
  v1600.toNat
def k0_dev50 (d0 : Dev nD) : Nat :=
  let c0_i32_1408 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1407 : BitVec 32 := 1#32
  let v1609 : BitVec 32 := Scalar.muli v155 c1_i32_1407
  let v1610 : BitVec 32 := Scalar.addi c0_i32_1408 v1609
  v1610.toNat
def k0_dev51 (d0 : Dev nD) : Nat :=
  let c0_i32_1417 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1416 : BitVec 32 := 1#32
  let v1613 : BitVec 32 := Scalar.muli v155 c1_i32_1416
  let v1614 : BitVec 32 := Scalar.addi c0_i32_1417 v1613
  v1614.toNat
def k0_dev52 (d0 : Dev nD) : Nat :=
  let c0_i32_1430 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1429 : BitVec 32 := 1#32
  let v1625 : BitVec 32 := Scalar.muli v243 c1_i32_1429
  let v1626 : BitVec 32 := Scalar.addi c0_i32_1430 v1625
  v1626.toNat
def k0_dev53 (d0 : Dev nD) : Nat :=
  let c0_i32_1501 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1500 : BitVec 32 := 1#32
  let v1711 : BitVec 32 := Scalar.muli v243 c1_i32_1500
  let v1712 : BitVec 32 := Scalar.addi c0_i32_1501 v1711
  v1712.toNat
def k0_dev54 (d0 : Dev nD) : Nat :=
  let c0_i32_1514 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1513 : BitVec 32 := 1#32
  let v1721 : BitVec 32 := Scalar.muli v155 c1_i32_1513
  let v1722 : BitVec 32 := Scalar.addi c0_i32_1514 v1721
  v1722.toNat
def k0_dev55 (d0 : Dev nD) : Nat :=
  let c0_i32_1523 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1522 : BitVec 32 := 1#32
  let v1725 : BitVec 32 := Scalar.muli v155 c1_i32_1522
  let v1726 : BitVec 32 := Scalar.addi c0_i32_1523 v1725
  v1726.toNat
def k0_dev56 (d0 : Dev nD) : Nat :=
  let c0_i32_1536 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1535 : BitVec 32 := 1#32
  let v1737 : BitVec 32 := Scalar.muli v243 c1_i32_1535
  let v1738 : BitVec 32 := Scalar.addi c0_i32_1536 v1737
  v1738.toNat
def k0_dev57 (d0 : Dev nD) : Nat :=
  let c0_i32_1607 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1606 : BitVec 32 := 1#32
  let v1823 : BitVec 32 := Scalar.muli v243 c1_i32_1606
  let v1824 : BitVec 32 := Scalar.addi c0_i32_1607 v1823
  v1824.toNat
def k0_dev58 (d0 : Dev nD) : Nat :=
  let c0_i32_1620 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1619 : BitVec 32 := 1#32
  let v1833 : BitVec 32 := Scalar.muli v155 c1_i32_1619
  let v1834 : BitVec 32 := Scalar.addi c0_i32_1620 v1833
  v1834.toNat
def k0_dev59 (d0 : Dev nD) : Nat :=
  let c0_i32_1629 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1628 : BitVec 32 := 1#32
  let v1837 : BitVec 32 := Scalar.muli v155 c1_i32_1628
  let v1838 : BitVec 32 := Scalar.addi c0_i32_1629 v1837
  v1838.toNat
def k0_dev60 (d0 : Dev nD) : Nat :=
  let c0_i32_1642 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1641 : BitVec 32 := 1#32
  let v1849 : BitVec 32 := Scalar.muli v243 c1_i32_1641
  let v1850 : BitVec 32 := Scalar.addi c0_i32_1642 v1849
  v1850.toNat
def k0_dev61 (d0 : Dev nD) : Nat :=
  let c0_i32_1713 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1712 : BitVec 32 := 1#32
  let v1935 : BitVec 32 := Scalar.muli v243 c1_i32_1712
  let v1936 : BitVec 32 := Scalar.addi c0_i32_1713 v1935
  v1936.toNat
def k0_dev62 (d0 : Dev nD) : Nat :=
  let c0_i32_1726 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1725 : BitVec 32 := 1#32
  let v1945 : BitVec 32 := Scalar.muli v155 c1_i32_1725
  let v1946 : BitVec 32 := Scalar.addi c0_i32_1726 v1945
  v1946.toNat
def k0_dev63 (d0 : Dev nD) : Nat :=
  let c0_i32_1735 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1734 : BitVec 32 := 1#32
  let v1949 : BitVec 32 := Scalar.muli v155 c1_i32_1734
  let v1950 : BitVec 32 := Scalar.addi c0_i32_1735 v1949
  v1950.toNat
def k0_dev64 (d0 : Dev nD) : Nat :=
  let c0_i32_1748 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1747 : BitVec 32 := 1#32
  let v1961 : BitVec 32 := Scalar.muli v243 c1_i32_1747
  let v1962 : BitVec 32 := Scalar.addi c0_i32_1748 v1961
  v1962.toNat
def k0_dev65 (d0 : Dev nD) : Nat :=
  let c0_i32_1820 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1819 : BitVec 32 := 1#32
  let v2047 : BitVec 32 := Scalar.muli v243 c1_i32_1819
  let v2048 : BitVec 32 := Scalar.addi c0_i32_1820 v2047
  v2048.toNat
def k0_dev66 (d0 : Dev nD) : Nat :=
  let c0_i32_1833 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1832 : BitVec 32 := 1#32
  let v2057 : BitVec 32 := Scalar.muli v155 c1_i32_1832
  let v2058 : BitVec 32 := Scalar.addi c0_i32_1833 v2057
  v2058.toNat
def k0_dev67 (d0 : Dev nD) : Nat :=
  let c0_i32_1842 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1841 : BitVec 32 := 1#32
  let v2061 : BitVec 32 := Scalar.muli v155 c1_i32_1841
  let v2062 : BitVec 32 := Scalar.addi c0_i32_1842 v2061
  v2062.toNat
def k0_dev68 (d0 : Dev nD) : Nat :=
  let c0_i32_1855 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1854 : BitVec 32 := 1#32
  let v2073 : BitVec 32 := Scalar.muli v243 c1_i32_1854
  let v2074 : BitVec 32 := Scalar.addi c0_i32_1855 v2073
  v2074.toNat
def k0_dev69 (d0 : Dev nD) : Nat :=
  let c0_i32_1926 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1925 : BitVec 32 := 1#32
  let v2159 : BitVec 32 := Scalar.muli v243 c1_i32_1925
  let v2160 : BitVec 32 := Scalar.addi c0_i32_1926 v2159
  v2160.toNat
def k0_dev70 (d0 : Dev nD) : Nat :=
  let c0_i32_1939 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1938 : BitVec 32 := 1#32
  let v2169 : BitVec 32 := Scalar.muli v155 c1_i32_1938
  let v2170 : BitVec 32 := Scalar.addi c0_i32_1939 v2169
  v2170.toNat
def k0_dev71 (d0 : Dev nD) : Nat :=
  let c0_i32_1948 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_1947 : BitVec 32 := 1#32
  let v2173 : BitVec 32 := Scalar.muli v155 c1_i32_1947
  let v2174 : BitVec 32 := Scalar.addi c0_i32_1948 v2173
  v2174.toNat
def k0_dev72 (d0 : Dev nD) : Nat :=
  let c0_i32_1961 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_1960 : BitVec 32 := 1#32
  let v2185 : BitVec 32 := Scalar.muli v243 c1_i32_1960
  let v2186 : BitVec 32 := Scalar.addi c0_i32_1961 v2185
  v2186.toNat
def k0_dev73 (d0 : Dev nD) : Nat :=
  let c0_i32_2032 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2031 : BitVec 32 := 1#32
  let v2271 : BitVec 32 := Scalar.muli v243 c1_i32_2031
  let v2272 : BitVec 32 := Scalar.addi c0_i32_2032 v2271
  v2272.toNat
def k0_dev74 (d0 : Dev nD) : Nat :=
  let c0_i32_2045 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2044 : BitVec 32 := 1#32
  let v2281 : BitVec 32 := Scalar.muli v155 c1_i32_2044
  let v2282 : BitVec 32 := Scalar.addi c0_i32_2045 v2281
  v2282.toNat
def k0_dev75 (d0 : Dev nD) : Nat :=
  let c0_i32_2054 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2053 : BitVec 32 := 1#32
  let v2285 : BitVec 32 := Scalar.muli v155 c1_i32_2053
  let v2286 : BitVec 32 := Scalar.addi c0_i32_2054 v2285
  v2286.toNat
def k0_dev76 (d0 : Dev nD) : Nat :=
  let c0_i32_2067 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2066 : BitVec 32 := 1#32
  let v2297 : BitVec 32 := Scalar.muli v243 c1_i32_2066
  let v2298 : BitVec 32 := Scalar.addi c0_i32_2067 v2297
  v2298.toNat
def k0_dev77 (d0 : Dev nD) : Nat :=
  let c0_i32_2138 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2137 : BitVec 32 := 1#32
  let v2383 : BitVec 32 := Scalar.muli v243 c1_i32_2137
  let v2384 : BitVec 32 := Scalar.addi c0_i32_2138 v2383
  v2384.toNat
def k0_dev78 (d0 : Dev nD) : Nat :=
  let c0_i32_2151 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2150 : BitVec 32 := 1#32
  let v2393 : BitVec 32 := Scalar.muli v155 c1_i32_2150
  let v2394 : BitVec 32 := Scalar.addi c0_i32_2151 v2393
  v2394.toNat
def k0_dev79 (d0 : Dev nD) : Nat :=
  let c0_i32_2160 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2159 : BitVec 32 := 1#32
  let v2397 : BitVec 32 := Scalar.muli v155 c1_i32_2159
  let v2398 : BitVec 32 := Scalar.addi c0_i32_2160 v2397
  v2398.toNat
def k0_dev80 (d0 : Dev nD) : Nat :=
  let c0_i32_2173 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2172 : BitVec 32 := 1#32
  let v2409 : BitVec 32 := Scalar.muli v243 c1_i32_2172
  let v2410 : BitVec 32 := Scalar.addi c0_i32_2173 v2409
  v2410.toNat
def k0_dev81 (d0 : Dev nD) : Nat :=
  let c0_i32_2244 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2243 : BitVec 32 := 1#32
  let v2495 : BitVec 32 := Scalar.muli v243 c1_i32_2243
  let v2496 : BitVec 32 := Scalar.addi c0_i32_2244 v2495
  v2496.toNat
def k0_dev82 (d0 : Dev nD) : Nat :=
  let c0_i32_2257 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2256 : BitVec 32 := 1#32
  let v2505 : BitVec 32 := Scalar.muli v155 c1_i32_2256
  let v2506 : BitVec 32 := Scalar.addi c0_i32_2257 v2505
  v2506.toNat
def k0_dev83 (d0 : Dev nD) : Nat :=
  let c0_i32_2266 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2265 : BitVec 32 := 1#32
  let v2509 : BitVec 32 := Scalar.muli v155 c1_i32_2265
  let v2510 : BitVec 32 := Scalar.addi c0_i32_2266 v2509
  v2510.toNat
def k0_dev84 (d0 : Dev nD) : Nat :=
  let c0_i32_2279 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2278 : BitVec 32 := 1#32
  let v2521 : BitVec 32 := Scalar.muli v243 c1_i32_2278
  let v2522 : BitVec 32 := Scalar.addi c0_i32_2279 v2521
  v2522.toNat
def k0_dev85 (d0 : Dev nD) : Nat :=
  let c0_i32_2350 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2349 : BitVec 32 := 1#32
  let v2607 : BitVec 32 := Scalar.muli v243 c1_i32_2349
  let v2608 : BitVec 32 := Scalar.addi c0_i32_2350 v2607
  v2608.toNat
def k0_dev86 (d0 : Dev nD) : Nat :=
  let c0_i32_2363 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2362 : BitVec 32 := 1#32
  let v2617 : BitVec 32 := Scalar.muli v155 c1_i32_2362
  let v2618 : BitVec 32 := Scalar.addi c0_i32_2363 v2617
  v2618.toNat
def k0_dev87 (d0 : Dev nD) : Nat :=
  let c0_i32_2372 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2371 : BitVec 32 := 1#32
  let v2621 : BitVec 32 := Scalar.muli v155 c1_i32_2371
  let v2622 : BitVec 32 := Scalar.addi c0_i32_2372 v2621
  v2622.toNat
def k0_dev88 (d0 : Dev nD) : Nat :=
  let c0_i32_2385 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2384 : BitVec 32 := 1#32
  let v2633 : BitVec 32 := Scalar.muli v243 c1_i32_2384
  let v2634 : BitVec 32 := Scalar.addi c0_i32_2385 v2633
  v2634.toNat
def k0_dev89 (d0 : Dev nD) : Nat :=
  let c0_i32_2456 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2455 : BitVec 32 := 1#32
  let v2719 : BitVec 32 := Scalar.muli v243 c1_i32_2455
  let v2720 : BitVec 32 := Scalar.addi c0_i32_2456 v2719
  v2720.toNat
def k0_dev90 (d0 : Dev nD) : Nat :=
  let c0_i32_2469 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2468 : BitVec 32 := 1#32
  let v2729 : BitVec 32 := Scalar.muli v155 c1_i32_2468
  let v2730 : BitVec 32 := Scalar.addi c0_i32_2469 v2729
  v2730.toNat
def k0_dev91 (d0 : Dev nD) : Nat :=
  let c0_i32_2478 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2477 : BitVec 32 := 1#32
  let v2733 : BitVec 32 := Scalar.muli v155 c1_i32_2477
  let v2734 : BitVec 32 := Scalar.addi c0_i32_2478 v2733
  v2734.toNat
def k0_dev92 (d0 : Dev nD) : Nat :=
  let c0_i32_2491 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2490 : BitVec 32 := 1#32
  let v2745 : BitVec 32 := Scalar.muli v243 c1_i32_2490
  let v2746 : BitVec 32 := Scalar.addi c0_i32_2491 v2745
  v2746.toNat
def k0_dev93 (d0 : Dev nD) : Nat :=
  let c0_i32_2562 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2561 : BitVec 32 := 1#32
  let v2831 : BitVec 32 := Scalar.muli v243 c1_i32_2561
  let v2832 : BitVec 32 := Scalar.addi c0_i32_2562 v2831
  v2832.toNat
def k0_dev94 (d0 : Dev nD) : Nat :=
  let c0_i32_2575 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2574 : BitVec 32 := 1#32
  let v2841 : BitVec 32 := Scalar.muli v155 c1_i32_2574
  let v2842 : BitVec 32 := Scalar.addi c0_i32_2575 v2841
  v2842.toNat
def k0_dev95 (d0 : Dev nD) : Nat :=
  let c0_i32_2584 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2583 : BitVec 32 := 1#32
  let v2845 : BitVec 32 := Scalar.muli v155 c1_i32_2583
  let v2846 : BitVec 32 := Scalar.addi c0_i32_2584 v2845
  v2846.toNat
def k0_dev96 (d0 : Dev nD) : Nat :=
  let c0_i32_2597 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2596 : BitVec 32 := 1#32
  let v2857 : BitVec 32 := Scalar.muli v243 c1_i32_2596
  let v2858 : BitVec 32 := Scalar.addi c0_i32_2597 v2857
  v2858.toNat
def k0_dev97 (d0 : Dev nD) : Nat :=
  let c0_i32_2668 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2667 : BitVec 32 := 1#32
  let v2943 : BitVec 32 := Scalar.muli v243 c1_i32_2667
  let v2944 : BitVec 32 := Scalar.addi c0_i32_2668 v2943
  v2944.toNat
def k0_dev98 (d0 : Dev nD) : Nat :=
  let c0_i32_2681 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2680 : BitVec 32 := 1#32
  let v2953 : BitVec 32 := Scalar.muli v155 c1_i32_2680
  let v2954 : BitVec 32 := Scalar.addi c0_i32_2681 v2953
  v2954.toNat
def k0_dev99 (d0 : Dev nD) : Nat :=
  let c0_i32_2690 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2689 : BitVec 32 := 1#32
  let v2957 : BitVec 32 := Scalar.muli v155 c1_i32_2689
  let v2958 : BitVec 32 := Scalar.addi c0_i32_2690 v2957
  v2958.toNat
def k0_dev100 (d0 : Dev nD) : Nat :=
  let c0_i32_2703 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2702 : BitVec 32 := 1#32
  let v2969 : BitVec 32 := Scalar.muli v243 c1_i32_2702
  let v2970 : BitVec 32 := Scalar.addi c0_i32_2703 v2969
  v2970.toNat
def k0_dev101 (d0 : Dev nD) : Nat :=
  let c0_i32_2774 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2773 : BitVec 32 := 1#32
  let v3055 : BitVec 32 := Scalar.muli v243 c1_i32_2773
  let v3056 : BitVec 32 := Scalar.addi c0_i32_2774 v3055
  v3056.toNat
def k0_dev102 (d0 : Dev nD) : Nat :=
  let c0_i32_2787 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2786 : BitVec 32 := 1#32
  let v3065 : BitVec 32 := Scalar.muli v155 c1_i32_2786
  let v3066 : BitVec 32 := Scalar.addi c0_i32_2787 v3065
  v3066.toNat
def k0_dev103 (d0 : Dev nD) : Nat :=
  let c0_i32_2796 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2795 : BitVec 32 := 1#32
  let v3069 : BitVec 32 := Scalar.muli v155 c1_i32_2795
  let v3070 : BitVec 32 := Scalar.addi c0_i32_2796 v3069
  v3070.toNat
def k0_dev104 (d0 : Dev nD) : Nat :=
  let c0_i32_2809 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2808 : BitVec 32 := 1#32
  let v3081 : BitVec 32 := Scalar.muli v243 c1_i32_2808
  let v3082 : BitVec 32 := Scalar.addi c0_i32_2809 v3081
  v3082.toNat
def k0_dev105 (d0 : Dev nD) : Nat :=
  let c0_i32_2880 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2879 : BitVec 32 := 1#32
  let v3167 : BitVec 32 := Scalar.muli v243 c1_i32_2879
  let v3168 : BitVec 32 := Scalar.addi c0_i32_2880 v3167
  v3168.toNat
def k0_dev106 (d0 : Dev nD) : Nat :=
  let c0_i32_2893 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2892 : BitVec 32 := 1#32
  let v3177 : BitVec 32 := Scalar.muli v155 c1_i32_2892
  let v3178 : BitVec 32 := Scalar.addi c0_i32_2893 v3177
  v3178.toNat
def k0_dev107 (d0 : Dev nD) : Nat :=
  let c0_i32_2902 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2901 : BitVec 32 := 1#32
  let v3181 : BitVec 32 := Scalar.muli v155 c1_i32_2901
  let v3182 : BitVec 32 := Scalar.addi c0_i32_2902 v3181
  v3182.toNat
def k0_dev108 (d0 : Dev nD) : Nat :=
  let c0_i32_2915 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2914 : BitVec 32 := 1#32
  let v3193 : BitVec 32 := Scalar.muli v243 c1_i32_2914
  let v3194 : BitVec 32 := Scalar.addi c0_i32_2915 v3193
  v3194.toNat
def k0_dev109 (d0 : Dev nD) : Nat :=
  let c0_i32_2986 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_2985 : BitVec 32 := 1#32
  let v3279 : BitVec 32 := Scalar.muli v243 c1_i32_2985
  let v3280 : BitVec 32 := Scalar.addi c0_i32_2986 v3279
  v3280.toNat
def k0_dev110 (d0 : Dev nD) : Nat :=
  let c0_i32_2999 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_2998 : BitVec 32 := 1#32
  let v3289 : BitVec 32 := Scalar.muli v155 c1_i32_2998
  let v3290 : BitVec 32 := Scalar.addi c0_i32_2999 v3289
  v3290.toNat
def k0_dev111 (d0 : Dev nD) : Nat :=
  let c0_i32_3008 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3007 : BitVec 32 := 1#32
  let v3293 : BitVec 32 := Scalar.muli v155 c1_i32_3007
  let v3294 : BitVec 32 := Scalar.addi c0_i32_3008 v3293
  v3294.toNat
def k0_dev112 (d0 : Dev nD) : Nat :=
  let c0_i32_3021 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3020 : BitVec 32 := 1#32
  let v3305 : BitVec 32 := Scalar.muli v243 c1_i32_3020
  let v3306 : BitVec 32 := Scalar.addi c0_i32_3021 v3305
  v3306.toNat
def k0_dev113 (d0 : Dev nD) : Nat :=
  let c0_i32_3092 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3091 : BitVec 32 := 1#32
  let v3391 : BitVec 32 := Scalar.muli v243 c1_i32_3091
  let v3392 : BitVec 32 := Scalar.addi c0_i32_3092 v3391
  v3392.toNat
def k0_dev114 (d0 : Dev nD) : Nat :=
  let c0_i32_3105 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3104 : BitVec 32 := 1#32
  let v3401 : BitVec 32 := Scalar.muli v155 c1_i32_3104
  let v3402 : BitVec 32 := Scalar.addi c0_i32_3105 v3401
  v3402.toNat
def k0_dev115 (d0 : Dev nD) : Nat :=
  let c0_i32_3114 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3113 : BitVec 32 := 1#32
  let v3405 : BitVec 32 := Scalar.muli v155 c1_i32_3113
  let v3406 : BitVec 32 := Scalar.addi c0_i32_3114 v3405
  v3406.toNat
def k0_dev116 (d0 : Dev nD) : Nat :=
  let c0_i32_3127 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3126 : BitVec 32 := 1#32
  let v3417 : BitVec 32 := Scalar.muli v243 c1_i32_3126
  let v3418 : BitVec 32 := Scalar.addi c0_i32_3127 v3417
  v3418.toNat
def k0_dev117 (d0 : Dev nD) : Nat :=
  let c0_i32_3198 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3197 : BitVec 32 := 1#32
  let v3503 : BitVec 32 := Scalar.muli v243 c1_i32_3197
  let v3504 : BitVec 32 := Scalar.addi c0_i32_3198 v3503
  v3504.toNat
def k0_dev118 (d0 : Dev nD) : Nat :=
  let c0_i32_3211 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3210 : BitVec 32 := 1#32
  let v3513 : BitVec 32 := Scalar.muli v155 c1_i32_3210
  let v3514 : BitVec 32 := Scalar.addi c0_i32_3211 v3513
  v3514.toNat
def k0_dev119 (d0 : Dev nD) : Nat :=
  let c0_i32_3220 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3219 : BitVec 32 := 1#32
  let v3517 : BitVec 32 := Scalar.muli v155 c1_i32_3219
  let v3518 : BitVec 32 := Scalar.addi c0_i32_3220 v3517
  v3518.toNat
def k0_dev120 (d0 : Dev nD) : Nat :=
  let c0_i32_3233 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3232 : BitVec 32 := 1#32
  let v3529 : BitVec 32 := Scalar.muli v243 c1_i32_3232
  let v3530 : BitVec 32 := Scalar.addi c0_i32_3233 v3529
  v3530.toNat
def k0_dev121 (d0 : Dev nD) : Nat :=
  let c0_i32_3304 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3303 : BitVec 32 := 1#32
  let v3615 : BitVec 32 := Scalar.muli v243 c1_i32_3303
  let v3616 : BitVec 32 := Scalar.addi c0_i32_3304 v3615
  v3616.toNat
def k0_dev122 (d0 : Dev nD) : Nat :=
  let c0_i32_3317 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3316 : BitVec 32 := 1#32
  let v3625 : BitVec 32 := Scalar.muli v155 c1_i32_3316
  let v3626 : BitVec 32 := Scalar.addi c0_i32_3317 v3625
  v3626.toNat
def k0_dev123 (d0 : Dev nD) : Nat :=
  let c0_i32_3326 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3325 : BitVec 32 := 1#32
  let v3629 : BitVec 32 := Scalar.muli v155 c1_i32_3325
  let v3630 : BitVec 32 := Scalar.addi c0_i32_3326 v3629
  v3630.toNat
def k0_dev124 (d0 : Dev nD) : Nat :=
  let c0_i32_3339 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3338 : BitVec 32 := 1#32
  let v3641 : BitVec 32 := Scalar.muli v243 c1_i32_3338
  let v3642 : BitVec 32 := Scalar.addi c0_i32_3339 v3641
  v3642.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c_m1_i32_3383 : BitVec 32 := 4294967295#32
  let v3703 : BitVec 32 := Scalar.subi v67 c_m1_i32_3383
  let c32_i32_3384 : BitVec 32 := 32#32
  let c0_i32_3385 : BitVec 32 := 0#32
  let v3704 : BitVec 1 := Scalar.cmpi .eq c32_i32_3384 c0_i32_3385
  let c1_i32_3386 : BitVec 32 := 1#32
  let v3705 : BitVec 32 := Scalar.select v3704 c1_i32_3386 c32_i32_3384
  let v3706 : BitVec 32 := Scalar.remsi v3703 v3705
  let c0_i32_3388 : BitVec 32 := 0#32
  let v3708 : BitVec 1 := Scalar.cmpi .slt v3706 c0_i32_3388
  let c0_i32_3389 : BitVec 32 := 0#32
  let v3709 : BitVec 1 := Scalar.cmpi .slt v3705 c0_i32_3389
  let v3710 : BitVec 1 := Scalar.xori v3708 v3709
  let c0_i32_3387 : BitVec 32 := 0#32
  let v3707 : BitVec 1 := Scalar.cmpi .ne v3706 c0_i32_3387
  let v3711 : BitVec 1 := Scalar.andi v3710 v3707
  let v3712 : BitVec 32 := Scalar.addi v3706 v3705
  let v3713 : BitVec 32 := Scalar.select v3711 v3712 v3706
  let c256_i32_3392 : BitVec 32 := 256#32
  let v3717 : BitVec 32 := Scalar.muli v3713 c256_i32_3392
  let c0_i32_3393 : BitVec 32 := 0#32
  ![v3717.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_3411 : BitVec 32 := 1#32
  let v3736 : BitVec 32 := Scalar.subi v67 c1_i32_3411
  let c32_i32_3412 : BitVec 32 := 32#32
  let c0_i32_3413 : BitVec 32 := 0#32
  let v3737 : BitVec 1 := Scalar.cmpi .eq c32_i32_3412 c0_i32_3413
  let c1_i32_3414 : BitVec 32 := 1#32
  let v3738 : BitVec 32 := Scalar.select v3737 c1_i32_3414 c32_i32_3412
  let v3739 : BitVec 32 := Scalar.remsi v3736 v3738
  let c0_i32_3416 : BitVec 32 := 0#32
  let v3741 : BitVec 1 := Scalar.cmpi .slt v3739 c0_i32_3416
  let c0_i32_3417 : BitVec 32 := 0#32
  let v3742 : BitVec 1 := Scalar.cmpi .slt v3738 c0_i32_3417
  let v3743 : BitVec 1 := Scalar.xori v3741 v3742
  let c0_i32_3415 : BitVec 32 := 0#32
  let v3740 : BitVec 1 := Scalar.cmpi .ne v3739 c0_i32_3415
  let v3744 : BitVec 1 := Scalar.andi v3743 v3740
  let v3745 : BitVec 32 := Scalar.addi v3739 v3738
  let v3746 : BitVec 32 := Scalar.select v3744 v3745 v3739
  let c256_i32_3420 : BitVec 32 := 256#32
  let v3750 : BitVec 32 := Scalar.muli v3746 c256_i32_3420
  let c2048_i32 : BitVec 32 := 2048#32
  ![v3750.toNat, 2048]
def k0_dev125 (d0 : Dev nD) : Nat :=
  let c0_i32_3434 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3433 : BitVec 32 := 1#32
  let v3761 : BitVec 32 := Scalar.muli v243 c1_i32_3433
  let v3762 : BitVec 32 := Scalar.addi c0_i32_3434 v3761
  v3762.toNat
def k0_dev126 (d0 : Dev nD) : Nat :=
  let c0_i32_3447 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3446 : BitVec 32 := 1#32
  let v3771 : BitVec 32 := Scalar.muli v155 c1_i32_3446
  let v3772 : BitVec 32 := Scalar.addi c0_i32_3447 v3771
  v3772.toNat
def k0_dev127 (d0 : Dev nD) : Nat :=
  let c0_i32_3456 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3455 : BitVec 32 := 1#32
  let v3775 : BitVec 32 := Scalar.muli v155 c1_i32_3455
  let v3776 : BitVec 32 := Scalar.addi c0_i32_3456 v3775
  v3776.toNat
def k0_dev128 (d0 : Dev nD) : Nat :=
  let c0_i32_3469 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3468 : BitVec 32 := 1#32
  let v3787 : BitVec 32 := Scalar.muli v243 c1_i32_3468
  let v3788 : BitVec 32 := Scalar.addi c0_i32_3469 v3787
  v3788.toNat
def k0_off5 (d0 : Dev nD) (c0_i32_3484 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let v3805 : BitVec 32 := Scalar.addi v67 c0_i32_3484
  let c32_i32_3485 : BitVec 32 := 32#32
  let c0_i32_3486 : BitVec 32 := 0#32
  let v3806 : BitVec 1 := Scalar.cmpi .eq c32_i32_3485 c0_i32_3486
  let c1_i32_3487 : BitVec 32 := 1#32
  let v3807 : BitVec 32 := Scalar.select v3806 c1_i32_3487 c32_i32_3485
  let v3808 : BitVec 32 := Scalar.remsi v3805 v3807
  let c0_i32_3489 : BitVec 32 := 0#32
  let v3810 : BitVec 1 := Scalar.cmpi .slt v3808 c0_i32_3489
  let c0_i32_3490 : BitVec 32 := 0#32
  let v3811 : BitVec 1 := Scalar.cmpi .slt v3807 c0_i32_3490
  let v3812 : BitVec 1 := Scalar.xori v3810 v3811
  let c0_i32_3488 : BitVec 32 := 0#32
  let v3809 : BitVec 1 := Scalar.cmpi .ne v3808 c0_i32_3488
  let v3813 : BitVec 1 := Scalar.andi v3812 v3809
  let v3814 : BitVec 32 := Scalar.addi v3808 v3807
  let v3815 : BitVec 32 := Scalar.select v3813 v3814 v3808
  let c256_i32_3496 : BitVec 32 := 256#32
  let v3822 : BitVec 32 := Scalar.muli v3815 c256_i32_3496
  let c0_i32_3497 : BitVec 32 := 0#32
  ![v3822.toNat, 0]
def k0_off5_at (r : Fin 31) : BitVec 32 :=
  if r.val < 15 then
    if r.val < 7 then
      if r.val < 3 then
        if r.val < 1 then
          0#32
        else
          if r.val < 2 then
            4294967295#32
          else
            4294967294#32
      else
        if r.val < 5 then
          if r.val < 4 then
            4294967293#32
          else
            4294967292#32
        else
          if r.val < 6 then
            4294967291#32
          else
            4294967290#32
    else
      if r.val < 11 then
        if r.val < 9 then
          if r.val < 8 then
            4294967289#32
          else
            4294967288#32
        else
          if r.val < 10 then
            4294967287#32
          else
            4294967286#32
      else
        if r.val < 13 then
          if r.val < 12 then
            4294967285#32
          else
            4294967284#32
        else
          if r.val < 14 then
            4294967283#32
          else
            4294967282#32
  else
    if r.val < 23 then
      if r.val < 19 then
        if r.val < 17 then
          if r.val < 16 then
            4294967281#32
          else
            4294967280#32
        else
          if r.val < 18 then
            4294967279#32
          else
            4294967278#32
      else
        if r.val < 21 then
          if r.val < 20 then
            4294967277#32
          else
            4294967276#32
        else
          if r.val < 22 then
            4294967275#32
          else
            4294967274#32
    else
      if r.val < 27 then
        if r.val < 25 then
          if r.val < 24 then
            4294967273#32
          else
            4294967272#32
        else
          if r.val < 26 then
            4294967271#32
          else
            4294967270#32
      else
        if r.val < 29 then
          if r.val < 28 then
            4294967269#32
          else
            4294967268#32
        else
          if r.val < 30 then
            4294967267#32
          else
            4294967266#32
def k0_off6 (d0 : Dev nD) (c0_i32_3509 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let v3833 : BitVec 32 := Scalar.addi v67 c0_i32_3509
  let c32_i32_3510 : BitVec 32 := 32#32
  let c0_i32_3511 : BitVec 32 := 0#32
  let v3834 : BitVec 1 := Scalar.cmpi .eq c32_i32_3510 c0_i32_3511
  let c1_i32_3512 : BitVec 32 := 1#32
  let v3835 : BitVec 32 := Scalar.select v3834 c1_i32_3512 c32_i32_3510
  let v3836 : BitVec 32 := Scalar.remsi v3833 v3835
  let c0_i32_3514 : BitVec 32 := 0#32
  let v3838 : BitVec 1 := Scalar.cmpi .slt v3836 c0_i32_3514
  let c0_i32_3515 : BitVec 32 := 0#32
  let v3839 : BitVec 1 := Scalar.cmpi .slt v3835 c0_i32_3515
  let v3840 : BitVec 1 := Scalar.xori v3838 v3839
  let c0_i32_3513 : BitVec 32 := 0#32
  let v3837 : BitVec 1 := Scalar.cmpi .ne v3836 c0_i32_3513
  let v3841 : BitVec 1 := Scalar.andi v3840 v3837
  let v3842 : BitVec 32 := Scalar.addi v3836 v3835
  let v3843 : BitVec 32 := Scalar.select v3841 v3842 v3836
  let c256_i32_3521 : BitVec 32 := 256#32
  let v3850 : BitVec 32 := Scalar.muli v3843 c256_i32_3521
  let c2048_i32_3522 : BitVec 32 := 2048#32
  ![v3850.toNat, 2048]
def k0_dev129 (d0 : Dev nD) : Nat :=
  let c0_i32_3536 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3535 : BitVec 32 := 1#32
  let v3861 : BitVec 32 := Scalar.muli v243 c1_i32_3535
  let v3862 : BitVec 32 := Scalar.addi c0_i32_3536 v3861
  v3862.toNat
def k0_dev130 (d0 : Dev nD) : Nat :=
  let c0_i32_3549 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3548 : BitVec 32 := 1#32
  let v3871 : BitVec 32 := Scalar.muli v155 c1_i32_3548
  let v3872 : BitVec 32 := Scalar.addi c0_i32_3549 v3871
  v3872.toNat
def k0_dev131 (d0 : Dev nD) : Nat :=
  let c0_i32_3558 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3557 : BitVec 32 := 1#32
  let v3875 : BitVec 32 := Scalar.muli v155 c1_i32_3557
  let v3876 : BitVec 32 := Scalar.addi c0_i32_3558 v3875
  v3876.toNat
def k0_dev132 (d0 : Dev nD) : Nat :=
  let c0_i32_3571 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3570 : BitVec 32 := 1#32
  let v3887 : BitVec 32 := Scalar.muli v243 c1_i32_3570
  let v3888 : BitVec 32 := Scalar.addi c0_i32_3571 v3887
  v3888.toNat
def k0_dev133 (d0 : Dev nD) : Nat :=
  let c0_i32_3638 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3637 : BitVec 32 := 1#32
  let v3961 : BitVec 32 := Scalar.muli v243 c1_i32_3637
  let v3962 : BitVec 32 := Scalar.addi c0_i32_3638 v3961
  v3962.toNat
def k0_dev134 (d0 : Dev nD) : Nat :=
  let c0_i32_3651 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3650 : BitVec 32 := 1#32
  let v3971 : BitVec 32 := Scalar.muli v155 c1_i32_3650
  let v3972 : BitVec 32 := Scalar.addi c0_i32_3651 v3971
  v3972.toNat
def k0_dev135 (d0 : Dev nD) : Nat :=
  let c0_i32_3660 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3659 : BitVec 32 := 1#32
  let v3975 : BitVec 32 := Scalar.muli v155 c1_i32_3659
  let v3976 : BitVec 32 := Scalar.addi c0_i32_3660 v3975
  v3976.toNat
def k0_dev136 (d0 : Dev nD) : Nat :=
  let c0_i32_3673 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3672 : BitVec 32 := 1#32
  let v3987 : BitVec 32 := Scalar.muli v243 c1_i32_3672
  let v3988 : BitVec 32 := Scalar.addi c0_i32_3673 v3987
  v3988.toNat
def k0_dev137 (d0 : Dev nD) : Nat :=
  let c0_i32_3740 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3739 : BitVec 32 := 1#32
  let v4061 : BitVec 32 := Scalar.muli v243 c1_i32_3739
  let v4062 : BitVec 32 := Scalar.addi c0_i32_3740 v4061
  v4062.toNat
def k0_dev138 (d0 : Dev nD) : Nat :=
  let c0_i32_3753 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3752 : BitVec 32 := 1#32
  let v4071 : BitVec 32 := Scalar.muli v155 c1_i32_3752
  let v4072 : BitVec 32 := Scalar.addi c0_i32_3753 v4071
  v4072.toNat
def k0_dev139 (d0 : Dev nD) : Nat :=
  let c0_i32_3762 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3761 : BitVec 32 := 1#32
  let v4075 : BitVec 32 := Scalar.muli v155 c1_i32_3761
  let v4076 : BitVec 32 := Scalar.addi c0_i32_3762 v4075
  v4076.toNat
def k0_dev140 (d0 : Dev nD) : Nat :=
  let c0_i32_3775 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3774 : BitVec 32 := 1#32
  let v4087 : BitVec 32 := Scalar.muli v243 c1_i32_3774
  let v4088 : BitVec 32 := Scalar.addi c0_i32_3775 v4087
  v4088.toNat
def k0_dev141 (d0 : Dev nD) : Nat :=
  let c0_i32_3842 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3841 : BitVec 32 := 1#32
  let v4161 : BitVec 32 := Scalar.muli v243 c1_i32_3841
  let v4162 : BitVec 32 := Scalar.addi c0_i32_3842 v4161
  v4162.toNat
def k0_dev142 (d0 : Dev nD) : Nat :=
  let c0_i32_3855 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3854 : BitVec 32 := 1#32
  let v4171 : BitVec 32 := Scalar.muli v155 c1_i32_3854
  let v4172 : BitVec 32 := Scalar.addi c0_i32_3855 v4171
  v4172.toNat
def k0_dev143 (d0 : Dev nD) : Nat :=
  let c0_i32_3864 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3863 : BitVec 32 := 1#32
  let v4175 : BitVec 32 := Scalar.muli v155 c1_i32_3863
  let v4176 : BitVec 32 := Scalar.addi c0_i32_3864 v4175
  v4176.toNat
def k0_dev144 (d0 : Dev nD) : Nat :=
  let c0_i32_3877 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3876 : BitVec 32 := 1#32
  let v4187 : BitVec 32 := Scalar.muli v243 c1_i32_3876
  let v4188 : BitVec 32 := Scalar.addi c0_i32_3877 v4187
  v4188.toNat
def k0_dev145 (d0 : Dev nD) : Nat :=
  let c0_i32_3944 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3943 : BitVec 32 := 1#32
  let v4261 : BitVec 32 := Scalar.muli v243 c1_i32_3943
  let v4262 : BitVec 32 := Scalar.addi c0_i32_3944 v4261
  v4262.toNat
def k0_dev146 (d0 : Dev nD) : Nat :=
  let c0_i32_3957 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3956 : BitVec 32 := 1#32
  let v4271 : BitVec 32 := Scalar.muli v155 c1_i32_3956
  let v4272 : BitVec 32 := Scalar.addi c0_i32_3957 v4271
  v4272.toNat
def k0_dev147 (d0 : Dev nD) : Nat :=
  let c0_i32_3966 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_3965 : BitVec 32 := 1#32
  let v4275 : BitVec 32 := Scalar.muli v155 c1_i32_3965
  let v4276 : BitVec 32 := Scalar.addi c0_i32_3966 v4275
  v4276.toNat
def k0_dev148 (d0 : Dev nD) : Nat :=
  let c0_i32_3979 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_3978 : BitVec 32 := 1#32
  let v4287 : BitVec 32 := Scalar.muli v243 c1_i32_3978
  let v4288 : BitVec 32 := Scalar.addi c0_i32_3979 v4287
  v4288.toNat
def k0_dev149 (d0 : Dev nD) : Nat :=
  let c0_i32_4046 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4045 : BitVec 32 := 1#32
  let v4361 : BitVec 32 := Scalar.muli v243 c1_i32_4045
  let v4362 : BitVec 32 := Scalar.addi c0_i32_4046 v4361
  v4362.toNat
def k0_dev150 (d0 : Dev nD) : Nat :=
  let c0_i32_4059 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4058 : BitVec 32 := 1#32
  let v4371 : BitVec 32 := Scalar.muli v155 c1_i32_4058
  let v4372 : BitVec 32 := Scalar.addi c0_i32_4059 v4371
  v4372.toNat
def k0_dev151 (d0 : Dev nD) : Nat :=
  let c0_i32_4068 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4067 : BitVec 32 := 1#32
  let v4375 : BitVec 32 := Scalar.muli v155 c1_i32_4067
  let v4376 : BitVec 32 := Scalar.addi c0_i32_4068 v4375
  v4376.toNat
def k0_dev152 (d0 : Dev nD) : Nat :=
  let c0_i32_4081 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4080 : BitVec 32 := 1#32
  let v4387 : BitVec 32 := Scalar.muli v243 c1_i32_4080
  let v4388 : BitVec 32 := Scalar.addi c0_i32_4081 v4387
  v4388.toNat
def k0_dev153 (d0 : Dev nD) : Nat :=
  let c0_i32_4148 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4147 : BitVec 32 := 1#32
  let v4461 : BitVec 32 := Scalar.muli v243 c1_i32_4147
  let v4462 : BitVec 32 := Scalar.addi c0_i32_4148 v4461
  v4462.toNat
def k0_dev154 (d0 : Dev nD) : Nat :=
  let c0_i32_4161 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4160 : BitVec 32 := 1#32
  let v4471 : BitVec 32 := Scalar.muli v155 c1_i32_4160
  let v4472 : BitVec 32 := Scalar.addi c0_i32_4161 v4471
  v4472.toNat
def k0_dev155 (d0 : Dev nD) : Nat :=
  let c0_i32_4170 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4169 : BitVec 32 := 1#32
  let v4475 : BitVec 32 := Scalar.muli v155 c1_i32_4169
  let v4476 : BitVec 32 := Scalar.addi c0_i32_4170 v4475
  v4476.toNat
def k0_dev156 (d0 : Dev nD) : Nat :=
  let c0_i32_4183 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4182 : BitVec 32 := 1#32
  let v4487 : BitVec 32 := Scalar.muli v243 c1_i32_4182
  let v4488 : BitVec 32 := Scalar.addi c0_i32_4183 v4487
  v4488.toNat
def k0_dev157 (d0 : Dev nD) : Nat :=
  let c0_i32_4250 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4249 : BitVec 32 := 1#32
  let v4561 : BitVec 32 := Scalar.muli v243 c1_i32_4249
  let v4562 : BitVec 32 := Scalar.addi c0_i32_4250 v4561
  v4562.toNat
def k0_dev158 (d0 : Dev nD) : Nat :=
  let c0_i32_4263 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4262 : BitVec 32 := 1#32
  let v4571 : BitVec 32 := Scalar.muli v155 c1_i32_4262
  let v4572 : BitVec 32 := Scalar.addi c0_i32_4263 v4571
  v4572.toNat
def k0_dev159 (d0 : Dev nD) : Nat :=
  let c0_i32_4272 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4271 : BitVec 32 := 1#32
  let v4575 : BitVec 32 := Scalar.muli v155 c1_i32_4271
  let v4576 : BitVec 32 := Scalar.addi c0_i32_4272 v4575
  v4576.toNat
def k0_dev160 (d0 : Dev nD) : Nat :=
  let c0_i32_4285 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4284 : BitVec 32 := 1#32
  let v4587 : BitVec 32 := Scalar.muli v243 c1_i32_4284
  let v4588 : BitVec 32 := Scalar.addi c0_i32_4285 v4587
  v4588.toNat
def k0_dev161 (d0 : Dev nD) : Nat :=
  let c0_i32_4352 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4351 : BitVec 32 := 1#32
  let v4661 : BitVec 32 := Scalar.muli v243 c1_i32_4351
  let v4662 : BitVec 32 := Scalar.addi c0_i32_4352 v4661
  v4662.toNat
def k0_dev162 (d0 : Dev nD) : Nat :=
  let c0_i32_4365 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4364 : BitVec 32 := 1#32
  let v4671 : BitVec 32 := Scalar.muli v155 c1_i32_4364
  let v4672 : BitVec 32 := Scalar.addi c0_i32_4365 v4671
  v4672.toNat
def k0_dev163 (d0 : Dev nD) : Nat :=
  let c0_i32_4374 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4373 : BitVec 32 := 1#32
  let v4675 : BitVec 32 := Scalar.muli v155 c1_i32_4373
  let v4676 : BitVec 32 := Scalar.addi c0_i32_4374 v4675
  v4676.toNat
def k0_dev164 (d0 : Dev nD) : Nat :=
  let c0_i32_4387 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4386 : BitVec 32 := 1#32
  let v4687 : BitVec 32 := Scalar.muli v243 c1_i32_4386
  let v4688 : BitVec 32 := Scalar.addi c0_i32_4387 v4687
  v4688.toNat
def k0_dev165 (d0 : Dev nD) : Nat :=
  let c0_i32_4454 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4453 : BitVec 32 := 1#32
  let v4761 : BitVec 32 := Scalar.muli v243 c1_i32_4453
  let v4762 : BitVec 32 := Scalar.addi c0_i32_4454 v4761
  v4762.toNat
def k0_dev166 (d0 : Dev nD) : Nat :=
  let c0_i32_4467 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4466 : BitVec 32 := 1#32
  let v4771 : BitVec 32 := Scalar.muli v155 c1_i32_4466
  let v4772 : BitVec 32 := Scalar.addi c0_i32_4467 v4771
  v4772.toNat
def k0_dev167 (d0 : Dev nD) : Nat :=
  let c0_i32_4476 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4475 : BitVec 32 := 1#32
  let v4775 : BitVec 32 := Scalar.muli v155 c1_i32_4475
  let v4776 : BitVec 32 := Scalar.addi c0_i32_4476 v4775
  v4776.toNat
def k0_dev168 (d0 : Dev nD) : Nat :=
  let c0_i32_4489 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4488 : BitVec 32 := 1#32
  let v4787 : BitVec 32 := Scalar.muli v243 c1_i32_4488
  let v4788 : BitVec 32 := Scalar.addi c0_i32_4489 v4787
  v4788.toNat
def k0_dev169 (d0 : Dev nD) : Nat :=
  let c0_i32_4556 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4555 : BitVec 32 := 1#32
  let v4861 : BitVec 32 := Scalar.muli v243 c1_i32_4555
  let v4862 : BitVec 32 := Scalar.addi c0_i32_4556 v4861
  v4862.toNat
def k0_dev170 (d0 : Dev nD) : Nat :=
  let c0_i32_4569 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4568 : BitVec 32 := 1#32
  let v4871 : BitVec 32 := Scalar.muli v155 c1_i32_4568
  let v4872 : BitVec 32 := Scalar.addi c0_i32_4569 v4871
  v4872.toNat
def k0_dev171 (d0 : Dev nD) : Nat :=
  let c0_i32_4578 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4577 : BitVec 32 := 1#32
  let v4875 : BitVec 32 := Scalar.muli v155 c1_i32_4577
  let v4876 : BitVec 32 := Scalar.addi c0_i32_4578 v4875
  v4876.toNat
def k0_dev172 (d0 : Dev nD) : Nat :=
  let c0_i32_4591 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4590 : BitVec 32 := 1#32
  let v4887 : BitVec 32 := Scalar.muli v243 c1_i32_4590
  let v4888 : BitVec 32 := Scalar.addi c0_i32_4591 v4887
  v4888.toNat
def k0_dev173 (d0 : Dev nD) : Nat :=
  let c0_i32_4658 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4657 : BitVec 32 := 1#32
  let v4961 : BitVec 32 := Scalar.muli v243 c1_i32_4657
  let v4962 : BitVec 32 := Scalar.addi c0_i32_4658 v4961
  v4962.toNat
def k0_dev174 (d0 : Dev nD) : Nat :=
  let c0_i32_4671 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4670 : BitVec 32 := 1#32
  let v4971 : BitVec 32 := Scalar.muli v155 c1_i32_4670
  let v4972 : BitVec 32 := Scalar.addi c0_i32_4671 v4971
  v4972.toNat
def k0_dev175 (d0 : Dev nD) : Nat :=
  let c0_i32_4680 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4679 : BitVec 32 := 1#32
  let v4975 : BitVec 32 := Scalar.muli v155 c1_i32_4679
  let v4976 : BitVec 32 := Scalar.addi c0_i32_4680 v4975
  v4976.toNat

variable {F : FTy → Type} [FloatOps F]

def k0_dev176 (d0 : Dev nD) : Nat :=
  let c0_i32_4693 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4692 : BitVec 32 := 1#32
  let v4987 : BitVec 32 := Scalar.muli v243 c1_i32_4692
  let v4988 : BitVec 32 := Scalar.addi c0_i32_4693 v4987
  v4988.toNat
def k0_dev177 (d0 : Dev nD) : Nat :=
  let c0_i32_4760 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4759 : BitVec 32 := 1#32
  let v5061 : BitVec 32 := Scalar.muli v243 c1_i32_4759
  let v5062 : BitVec 32 := Scalar.addi c0_i32_4760 v5061
  v5062.toNat
def k0_dev178 (d0 : Dev nD) : Nat :=
  let c0_i32_4773 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4772 : BitVec 32 := 1#32
  let v5071 : BitVec 32 := Scalar.muli v155 c1_i32_4772
  let v5072 : BitVec 32 := Scalar.addi c0_i32_4773 v5071
  v5072.toNat
def k0_dev179 (d0 : Dev nD) : Nat :=
  let c0_i32_4782 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4781 : BitVec 32 := 1#32
  let v5075 : BitVec 32 := Scalar.muli v155 c1_i32_4781
  let v5076 : BitVec 32 := Scalar.addi c0_i32_4782 v5075
  v5076.toNat
def k0_dev180 (d0 : Dev nD) : Nat :=
  let c0_i32_4795 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4794 : BitVec 32 := 1#32
  let v5087 : BitVec 32 := Scalar.muli v243 c1_i32_4794
  let v5088 : BitVec 32 := Scalar.addi c0_i32_4795 v5087
  v5088.toNat
def k0_dev181 (d0 : Dev nD) : Nat :=
  let c0_i32_4862 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4861 : BitVec 32 := 1#32
  let v5161 : BitVec 32 := Scalar.muli v243 c1_i32_4861
  let v5162 : BitVec 32 := Scalar.addi c0_i32_4862 v5161
  v5162.toNat
def k0_dev182 (d0 : Dev nD) : Nat :=
  let c0_i32_4875 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4874 : BitVec 32 := 1#32
  let v5171 : BitVec 32 := Scalar.muli v155 c1_i32_4874
  let v5172 : BitVec 32 := Scalar.addi c0_i32_4875 v5171
  v5172.toNat
def k0_dev183 (d0 : Dev nD) : Nat :=
  let c0_i32_4884 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4883 : BitVec 32 := 1#32
  let v5175 : BitVec 32 := Scalar.muli v155 c1_i32_4883
  let v5176 : BitVec 32 := Scalar.addi c0_i32_4884 v5175
  v5176.toNat
def k0_dev184 (d0 : Dev nD) : Nat :=
  let c0_i32_4897 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4896 : BitVec 32 := 1#32
  let v5187 : BitVec 32 := Scalar.muli v243 c1_i32_4896
  let v5188 : BitVec 32 := Scalar.addi c0_i32_4897 v5187
  v5188.toNat
def k0_dev185 (d0 : Dev nD) : Nat :=
  let c0_i32_4964 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4963 : BitVec 32 := 1#32
  let v5261 : BitVec 32 := Scalar.muli v243 c1_i32_4963
  let v5262 : BitVec 32 := Scalar.addi c0_i32_4964 v5261
  v5262.toNat
def k0_dev186 (d0 : Dev nD) : Nat :=
  let c0_i32_4977 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4976 : BitVec 32 := 1#32
  let v5271 : BitVec 32 := Scalar.muli v155 c1_i32_4976
  let v5272 : BitVec 32 := Scalar.addi c0_i32_4977 v5271
  v5272.toNat
def k0_dev187 (d0 : Dev nD) : Nat :=
  let c0_i32_4986 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_4985 : BitVec 32 := 1#32
  let v5275 : BitVec 32 := Scalar.muli v155 c1_i32_4985
  let v5276 : BitVec 32 := Scalar.addi c0_i32_4986 v5275
  v5276.toNat
def k0_dev188 (d0 : Dev nD) : Nat :=
  let c0_i32_4999 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_4998 : BitVec 32 := 1#32
  let v5287 : BitVec 32 := Scalar.muli v243 c1_i32_4998
  let v5288 : BitVec 32 := Scalar.addi c0_i32_4999 v5287
  v5288.toNat
def k0_dev189 (d0 : Dev nD) : Nat :=
  let c0_i32_5066 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5065 : BitVec 32 := 1#32
  let v5361 : BitVec 32 := Scalar.muli v243 c1_i32_5065
  let v5362 : BitVec 32 := Scalar.addi c0_i32_5066 v5361
  v5362.toNat
def k0_dev190 (d0 : Dev nD) : Nat :=
  let c0_i32_5079 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5078 : BitVec 32 := 1#32
  let v5371 : BitVec 32 := Scalar.muli v155 c1_i32_5078
  let v5372 : BitVec 32 := Scalar.addi c0_i32_5079 v5371
  v5372.toNat
def k0_dev191 (d0 : Dev nD) : Nat :=
  let c0_i32_5088 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5087 : BitVec 32 := 1#32
  let v5375 : BitVec 32 := Scalar.muli v155 c1_i32_5087
  let v5376 : BitVec 32 := Scalar.addi c0_i32_5088 v5375
  v5376.toNat
def k0_dev192 (d0 : Dev nD) : Nat :=
  let c0_i32_5101 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5100 : BitVec 32 := 1#32
  let v5387 : BitVec 32 := Scalar.muli v243 c1_i32_5100
  let v5388 : BitVec 32 := Scalar.addi c0_i32_5101 v5387
  v5388.toNat
def k0_dev193 (d0 : Dev nD) : Nat :=
  let c0_i32_5168 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5167 : BitVec 32 := 1#32
  let v5461 : BitVec 32 := Scalar.muli v243 c1_i32_5167
  let v5462 : BitVec 32 := Scalar.addi c0_i32_5168 v5461
  v5462.toNat
def k0_dev194 (d0 : Dev nD) : Nat :=
  let c0_i32_5181 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5180 : BitVec 32 := 1#32
  let v5471 : BitVec 32 := Scalar.muli v155 c1_i32_5180
  let v5472 : BitVec 32 := Scalar.addi c0_i32_5181 v5471
  v5472.toNat
def k0_dev195 (d0 : Dev nD) : Nat :=
  let c0_i32_5190 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5189 : BitVec 32 := 1#32
  let v5475 : BitVec 32 := Scalar.muli v155 c1_i32_5189
  let v5476 : BitVec 32 := Scalar.addi c0_i32_5190 v5475
  v5476.toNat
def k0_dev196 (d0 : Dev nD) : Nat :=
  let c0_i32_5203 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5202 : BitVec 32 := 1#32
  let v5487 : BitVec 32 := Scalar.muli v243 c1_i32_5202
  let v5488 : BitVec 32 := Scalar.addi c0_i32_5203 v5487
  v5488.toNat
def k0_dev197 (d0 : Dev nD) : Nat :=
  let c0_i32_5270 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5269 : BitVec 32 := 1#32
  let v5561 : BitVec 32 := Scalar.muli v243 c1_i32_5269
  let v5562 : BitVec 32 := Scalar.addi c0_i32_5270 v5561
  v5562.toNat
def k0_dev198 (d0 : Dev nD) : Nat :=
  let c0_i32_5283 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5282 : BitVec 32 := 1#32
  let v5571 : BitVec 32 := Scalar.muli v155 c1_i32_5282
  let v5572 : BitVec 32 := Scalar.addi c0_i32_5283 v5571
  v5572.toNat
def k0_dev199 (d0 : Dev nD) : Nat :=
  let c0_i32_5292 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5291 : BitVec 32 := 1#32
  let v5575 : BitVec 32 := Scalar.muli v155 c1_i32_5291
  let v5576 : BitVec 32 := Scalar.addi c0_i32_5292 v5575
  v5576.toNat
def k0_dev200 (d0 : Dev nD) : Nat :=
  let c0_i32_5305 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5304 : BitVec 32 := 1#32
  let v5587 : BitVec 32 := Scalar.muli v243 c1_i32_5304
  let v5588 : BitVec 32 := Scalar.addi c0_i32_5305 v5587
  v5588.toNat
def k0_dev201 (d0 : Dev nD) : Nat :=
  let c0_i32_5372 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5371 : BitVec 32 := 1#32
  let v5661 : BitVec 32 := Scalar.muli v243 c1_i32_5371
  let v5662 : BitVec 32 := Scalar.addi c0_i32_5372 v5661
  v5662.toNat
def k0_dev202 (d0 : Dev nD) : Nat :=
  let c0_i32_5385 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5384 : BitVec 32 := 1#32
  let v5671 : BitVec 32 := Scalar.muli v155 c1_i32_5384
  let v5672 : BitVec 32 := Scalar.addi c0_i32_5385 v5671
  v5672.toNat
def k0_dev203 (d0 : Dev nD) : Nat :=
  let c0_i32_5394 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5393 : BitVec 32 := 1#32
  let v5675 : BitVec 32 := Scalar.muli v155 c1_i32_5393
  let v5676 : BitVec 32 := Scalar.addi c0_i32_5394 v5675
  v5676.toNat
def k0_dev204 (d0 : Dev nD) : Nat :=
  let c0_i32_5407 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5406 : BitVec 32 := 1#32
  let v5687 : BitVec 32 := Scalar.muli v243 c1_i32_5406
  let v5688 : BitVec 32 := Scalar.addi c0_i32_5407 v5687
  v5688.toNat
def k0_dev205 (d0 : Dev nD) : Nat :=
  let c0_i32_5474 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5473 : BitVec 32 := 1#32
  let v5761 : BitVec 32 := Scalar.muli v243 c1_i32_5473
  let v5762 : BitVec 32 := Scalar.addi c0_i32_5474 v5761
  v5762.toNat
def k0_dev206 (d0 : Dev nD) : Nat :=
  let c0_i32_5487 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5486 : BitVec 32 := 1#32
  let v5771 : BitVec 32 := Scalar.muli v155 c1_i32_5486
  let v5772 : BitVec 32 := Scalar.addi c0_i32_5487 v5771
  v5772.toNat
def k0_dev207 (d0 : Dev nD) : Nat :=
  let c0_i32_5496 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5495 : BitVec 32 := 1#32
  let v5775 : BitVec 32 := Scalar.muli v155 c1_i32_5495
  let v5776 : BitVec 32 := Scalar.addi c0_i32_5496 v5775
  v5776.toNat
def k0_dev208 (d0 : Dev nD) : Nat :=
  let c0_i32_5509 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5508 : BitVec 32 := 1#32
  let v5787 : BitVec 32 := Scalar.muli v243 c1_i32_5508
  let v5788 : BitVec 32 := Scalar.addi c0_i32_5509 v5787
  v5788.toNat
def k0_dev209 (d0 : Dev nD) : Nat :=
  let c0_i32_5576 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5575 : BitVec 32 := 1#32
  let v5861 : BitVec 32 := Scalar.muli v243 c1_i32_5575
  let v5862 : BitVec 32 := Scalar.addi c0_i32_5576 v5861
  v5862.toNat
def k0_dev210 (d0 : Dev nD) : Nat :=
  let c0_i32_5589 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5588 : BitVec 32 := 1#32
  let v5871 : BitVec 32 := Scalar.muli v155 c1_i32_5588
  let v5872 : BitVec 32 := Scalar.addi c0_i32_5589 v5871
  v5872.toNat
def k0_dev211 (d0 : Dev nD) : Nat :=
  let c0_i32_5598 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5597 : BitVec 32 := 1#32
  let v5875 : BitVec 32 := Scalar.muli v155 c1_i32_5597
  let v5876 : BitVec 32 := Scalar.addi c0_i32_5598 v5875
  v5876.toNat
def k0_dev212 (d0 : Dev nD) : Nat :=
  let c0_i32_5611 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5610 : BitVec 32 := 1#32
  let v5887 : BitVec 32 := Scalar.muli v243 c1_i32_5610
  let v5888 : BitVec 32 := Scalar.addi c0_i32_5611 v5887
  v5888.toNat
def k0_dev213 (d0 : Dev nD) : Nat :=
  let c0_i32_5678 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5677 : BitVec 32 := 1#32
  let v5961 : BitVec 32 := Scalar.muli v243 c1_i32_5677
  let v5962 : BitVec 32 := Scalar.addi c0_i32_5678 v5961
  v5962.toNat
def k0_dev214 (d0 : Dev nD) : Nat :=
  let c0_i32_5691 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5690 : BitVec 32 := 1#32
  let v5971 : BitVec 32 := Scalar.muli v155 c1_i32_5690
  let v5972 : BitVec 32 := Scalar.addi c0_i32_5691 v5971
  v5972.toNat
def k0_dev215 (d0 : Dev nD) : Nat :=
  let c0_i32_5700 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5699 : BitVec 32 := 1#32
  let v5975 : BitVec 32 := Scalar.muli v155 c1_i32_5699
  let v5976 : BitVec 32 := Scalar.addi c0_i32_5700 v5975
  v5976.toNat
def k0_dev216 (d0 : Dev nD) : Nat :=
  let c0_i32_5713 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5712 : BitVec 32 := 1#32
  let v5987 : BitVec 32 := Scalar.muli v243 c1_i32_5712
  let v5988 : BitVec 32 := Scalar.addi c0_i32_5713 v5987
  v5988.toNat
def k0_dev217 (d0 : Dev nD) : Nat :=
  let c0_i32_5780 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5779 : BitVec 32 := 1#32
  let v6061 : BitVec 32 := Scalar.muli v243 c1_i32_5779
  let v6062 : BitVec 32 := Scalar.addi c0_i32_5780 v6061
  v6062.toNat
def k0_dev218 (d0 : Dev nD) : Nat :=
  let c0_i32_5793 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5792 : BitVec 32 := 1#32
  let v6071 : BitVec 32 := Scalar.muli v155 c1_i32_5792
  let v6072 : BitVec 32 := Scalar.addi c0_i32_5793 v6071
  v6072.toNat
def k0_dev219 (d0 : Dev nD) : Nat :=
  let c0_i32_5802 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5801 : BitVec 32 := 1#32
  let v6075 : BitVec 32 := Scalar.muli v155 c1_i32_5801
  let v6076 : BitVec 32 := Scalar.addi c0_i32_5802 v6075
  v6076.toNat
def k0_dev220 (d0 : Dev nD) : Nat :=
  let c0_i32_5815 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5814 : BitVec 32 := 1#32
  let v6087 : BitVec 32 := Scalar.muli v243 c1_i32_5814
  let v6088 : BitVec 32 := Scalar.addi c0_i32_5815 v6087
  v6088.toNat
def k0_dev221 (d0 : Dev nD) : Nat :=
  let c0_i32_5882 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5881 : BitVec 32 := 1#32
  let v6161 : BitVec 32 := Scalar.muli v243 c1_i32_5881
  let v6162 : BitVec 32 := Scalar.addi c0_i32_5882 v6161
  v6162.toNat
def k0_dev222 (d0 : Dev nD) : Nat :=
  let c0_i32_5895 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5894 : BitVec 32 := 1#32
  let v6171 : BitVec 32 := Scalar.muli v155 c1_i32_5894
  let v6172 : BitVec 32 := Scalar.addi c0_i32_5895 v6171
  v6172.toNat
def k0_dev223 (d0 : Dev nD) : Nat :=
  let c0_i32_5904 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5903 : BitVec 32 := 1#32
  let v6175 : BitVec 32 := Scalar.muli v155 c1_i32_5903
  let v6176 : BitVec 32 := Scalar.addi c0_i32_5904 v6175
  v6176.toNat
def k0_dev224 (d0 : Dev nD) : Nat :=
  let c0_i32_5917 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5916 : BitVec 32 := 1#32
  let v6187 : BitVec 32 := Scalar.muli v243 c1_i32_5916
  let v6188 : BitVec 32 := Scalar.addi c0_i32_5917 v6187
  v6188.toNat
def k0_dev225 (d0 : Dev nD) : Nat :=
  let c0_i32_5984 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_5983 : BitVec 32 := 1#32
  let v6261 : BitVec 32 := Scalar.muli v243 c1_i32_5983
  let v6262 : BitVec 32 := Scalar.addi c0_i32_5984 v6261
  v6262.toNat
def k0_dev226 (d0 : Dev nD) : Nat :=
  let c0_i32_5997 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_5996 : BitVec 32 := 1#32
  let v6271 : BitVec 32 := Scalar.muli v155 c1_i32_5996
  let v6272 : BitVec 32 := Scalar.addi c0_i32_5997 v6271
  v6272.toNat
def k0_dev227 (d0 : Dev nD) : Nat :=
  let c0_i32_6006 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6005 : BitVec 32 := 1#32
  let v6275 : BitVec 32 := Scalar.muli v155 c1_i32_6005
  let v6276 : BitVec 32 := Scalar.addi c0_i32_6006 v6275
  v6276.toNat
def k0_dev228 (d0 : Dev nD) : Nat :=
  let c0_i32_6019 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6018 : BitVec 32 := 1#32
  let v6287 : BitVec 32 := Scalar.muli v243 c1_i32_6018
  let v6288 : BitVec 32 := Scalar.addi c0_i32_6019 v6287
  v6288.toNat
def k0_dev229 (d0 : Dev nD) : Nat :=
  let c0_i32_6086 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6085 : BitVec 32 := 1#32
  let v6361 : BitVec 32 := Scalar.muli v243 c1_i32_6085
  let v6362 : BitVec 32 := Scalar.addi c0_i32_6086 v6361
  v6362.toNat
def k0_dev230 (d0 : Dev nD) : Nat :=
  let c0_i32_6099 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6098 : BitVec 32 := 1#32
  let v6371 : BitVec 32 := Scalar.muli v155 c1_i32_6098
  let v6372 : BitVec 32 := Scalar.addi c0_i32_6099 v6371
  v6372.toNat
def k0_dev231 (d0 : Dev nD) : Nat :=
  let c0_i32_6108 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6107 : BitVec 32 := 1#32
  let v6375 : BitVec 32 := Scalar.muli v155 c1_i32_6107
  let v6376 : BitVec 32 := Scalar.addi c0_i32_6108 v6375
  v6376.toNat
def k0_dev232 (d0 : Dev nD) : Nat :=
  let c0_i32_6121 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6120 : BitVec 32 := 1#32
  let v6387 : BitVec 32 := Scalar.muli v243 c1_i32_6120
  let v6388 : BitVec 32 := Scalar.addi c0_i32_6121 v6387
  v6388.toNat
def k0_dev233 (d0 : Dev nD) : Nat :=
  let c0_i32_6188 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6187 : BitVec 32 := 1#32
  let v6461 : BitVec 32 := Scalar.muli v243 c1_i32_6187
  let v6462 : BitVec 32 := Scalar.addi c0_i32_6188 v6461
  v6462.toNat
def k0_dev234 (d0 : Dev nD) : Nat :=
  let c0_i32_6201 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6200 : BitVec 32 := 1#32
  let v6471 : BitVec 32 := Scalar.muli v155 c1_i32_6200
  let v6472 : BitVec 32 := Scalar.addi c0_i32_6201 v6471
  v6472.toNat
def k0_dev235 (d0 : Dev nD) : Nat :=
  let c0_i32_6210 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6209 : BitVec 32 := 1#32
  let v6475 : BitVec 32 := Scalar.muli v155 c1_i32_6209
  let v6476 : BitVec 32 := Scalar.addi c0_i32_6210 v6475
  v6476.toNat
def k0_dev236 (d0 : Dev nD) : Nat :=
  let c0_i32_6223 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6222 : BitVec 32 := 1#32
  let v6487 : BitVec 32 := Scalar.muli v243 c1_i32_6222
  let v6488 : BitVec 32 := Scalar.addi c0_i32_6223 v6487
  v6488.toNat
def k0_dev237 (d0 : Dev nD) : Nat :=
  let c0_i32_6290 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6289 : BitVec 32 := 1#32
  let v6561 : BitVec 32 := Scalar.muli v243 c1_i32_6289
  let v6562 : BitVec 32 := Scalar.addi c0_i32_6290 v6561
  v6562.toNat
def k0_dev238 (d0 : Dev nD) : Nat :=
  let c0_i32_6303 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6302 : BitVec 32 := 1#32
  let v6571 : BitVec 32 := Scalar.muli v155 c1_i32_6302
  let v6572 : BitVec 32 := Scalar.addi c0_i32_6303 v6571
  v6572.toNat
def k0_dev239 (d0 : Dev nD) : Nat :=
  let c0_i32_6312 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6311 : BitVec 32 := 1#32
  let v6575 : BitVec 32 := Scalar.muli v155 c1_i32_6311
  let v6576 : BitVec 32 := Scalar.addi c0_i32_6312 v6575
  v6576.toNat
def k0_dev240 (d0 : Dev nD) : Nat :=
  let c0_i32_6325 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6324 : BitVec 32 := 1#32
  let v6587 : BitVec 32 := Scalar.muli v243 c1_i32_6324
  let v6588 : BitVec 32 := Scalar.addi c0_i32_6325 v6587
  v6588.toNat
def k0_dev241 (d0 : Dev nD) : Nat :=
  let c0_i32_6392 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6391 : BitVec 32 := 1#32
  let v6661 : BitVec 32 := Scalar.muli v243 c1_i32_6391
  let v6662 : BitVec 32 := Scalar.addi c0_i32_6392 v6661
  v6662.toNat
def k0_dev242 (d0 : Dev nD) : Nat :=
  let c0_i32_6405 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6404 : BitVec 32 := 1#32
  let v6671 : BitVec 32 := Scalar.muli v155 c1_i32_6404
  let v6672 : BitVec 32 := Scalar.addi c0_i32_6405 v6671
  v6672.toNat
def k0_dev243 (d0 : Dev nD) : Nat :=
  let c0_i32_6414 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6413 : BitVec 32 := 1#32
  let v6675 : BitVec 32 := Scalar.muli v155 c1_i32_6413
  let v6676 : BitVec 32 := Scalar.addi c0_i32_6414 v6675
  v6676.toNat
def k0_dev244 (d0 : Dev nD) : Nat :=
  let c0_i32_6427 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6426 : BitVec 32 := 1#32
  let v6687 : BitVec 32 := Scalar.muli v243 c1_i32_6426
  let v6688 : BitVec 32 := Scalar.addi c0_i32_6427 v6687
  v6688.toNat
def k0_dev245 (d0 : Dev nD) : Nat :=
  let c0_i32_6494 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6493 : BitVec 32 := 1#32
  let v6761 : BitVec 32 := Scalar.muli v243 c1_i32_6493
  let v6762 : BitVec 32 := Scalar.addi c0_i32_6494 v6761
  v6762.toNat
def k0_dev246 (d0 : Dev nD) : Nat :=
  let c0_i32_6507 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6506 : BitVec 32 := 1#32
  let v6771 : BitVec 32 := Scalar.muli v155 c1_i32_6506
  let v6772 : BitVec 32 := Scalar.addi c0_i32_6507 v6771
  v6772.toNat
def k0_dev247 (d0 : Dev nD) : Nat :=
  let c0_i32_6516 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6515 : BitVec 32 := 1#32
  let v6775 : BitVec 32 := Scalar.muli v155 c1_i32_6515
  let v6776 : BitVec 32 := Scalar.addi c0_i32_6516 v6775
  v6776.toNat
def k0_dev248 (d0 : Dev nD) : Nat :=
  let c0_i32_6529 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6528 : BitVec 32 := 1#32
  let v6787 : BitVec 32 := Scalar.muli v243 c1_i32_6528
  let v6788 : BitVec 32 := Scalar.addi c0_i32_6529 v6787
  v6788.toNat
def k0_dev249 (d0 : Dev nD) : Nat :=
  let c0_i32_6604 : BitVec 32 := 0#32
  let c8_i32_118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_73 : BitVec 32 := 1#32
  let v156 : BitVec 32 := Scalar.subi v67 c1_i32_73
  let c32_i32_74 : BitVec 32 := 32#32
  let c0_i32_75 : BitVec 32 := 0#32
  let v157 : BitVec 1 := Scalar.cmpi .eq c32_i32_74 c0_i32_75
  let c1_i32_76 : BitVec 32 := 1#32
  let v158 : BitVec 32 := Scalar.select v157 c1_i32_76 c32_i32_74
  let v159 : BitVec 32 := Scalar.remsi v156 v158
  let c0_i32_78 : BitVec 32 := 0#32
  let v161 : BitVec 1 := Scalar.cmpi .slt v159 c0_i32_78
  let c0_i32_79 : BitVec 32 := 0#32
  let v162 : BitVec 1 := Scalar.cmpi .slt v158 c0_i32_79
  let v163 : BitVec 1 := Scalar.xori v161 v162
  let c0_i32_77 : BitVec 32 := 0#32
  let v160 : BitVec 1 := Scalar.cmpi .ne v159 c0_i32_77
  let v164 : BitVec 1 := Scalar.andi v163 v160
  let v165 : BitVec 32 := Scalar.addi v159 v158
  let v166 : BitVec 32 := Scalar.select v164 v165 v159
  let c16_i32_87 : BitVec 32 := 16#32
  let v184 : BitVec 1 := Scalar.cmpi .slt v166 c16_i32_87
  let c31_i32_88 : BitVec 32 := 31#32
  let v185 : BitVec 32 := Scalar.subi c31_i32_88 v166
  let v186 : BitVec 32 := Scalar.select v184 v166 v185
  let c0_i32_90 : BitVec 32 := 0#32
  let v188 : BitVec 1 := Scalar.cmpi .sgt v186 c0_i32_90
  let v189 : BitVec 32 := Scalar.extui v188
  let c0_i32_91 : BitVec 32 := 0#32
  let v190 : BitVec 1 := Scalar.cmpi .slt v186 c0_i32_91
  let v191 : BitVec 32 := Scalar.extui v190
  let v192 : BitVec 32 := Scalar.subi v189 v191
  let c4_i32_89 : BitVec 32 := 4#32
  let c0_i32_92 : BitVec 32 := 0#32
  let v193 : BitVec 1 := Scalar.cmpi .sgt c4_i32_89 c0_i32_92
  let v194 : BitVec 32 := Scalar.extui v193
  let c0_i32_93 : BitVec 32 := 0#32
  let v195 : BitVec 1 := Scalar.cmpi .slt c4_i32_89 c0_i32_93
  let v196 : BitVec 32 := Scalar.extui v195
  let v197 : BitVec 32 := Scalar.subi v194 v196
  let v198 : BitVec 1 := Scalar.cmpi .ne v192 v197
  let v199 : BitVec 32 := Scalar.remsi v186 c4_i32_89
  let c0_i32_94 : BitVec 32 := 0#32
  let v200 : BitVec 1 := Scalar.cmpi .ne v199 c0_i32_94
  let v201 : BitVec 1 := Scalar.andi v198 v200
  let v187 : BitVec 32 := Scalar.divsi v186 c4_i32_89
  let c1_i32_95 : BitVec 32 := 1#32
  let v202 : BitVec 32 := Scalar.subi v187 c1_i32_95
  let v203 : BitVec 32 := Scalar.select v201 v202 v187
  let c2_i32_102 : BitVec 32 := 2#32
  let c0_i32_103 : BitVec 32 := 0#32
  let v214 : BitVec 1 := Scalar.cmpi .eq c2_i32_102 c0_i32_103
  let c1_i32_104 : BitVec 32 := 1#32
  let v215 : BitVec 32 := Scalar.select v214 c1_i32_104 c2_i32_102
  let v216 : BitVec 32 := Scalar.remsi v203 v215
  let c0_i32_106 : BitVec 32 := 0#32
  let v218 : BitVec 1 := Scalar.cmpi .slt v216 c0_i32_106
  let c0_i32_107 : BitVec 32 := 0#32
  let v219 : BitVec 1 := Scalar.cmpi .slt v215 c0_i32_107
  let v220 : BitVec 1 := Scalar.xori v218 v219
  let c0_i32_105 : BitVec 32 := 0#32
  let v217 : BitVec 1 := Scalar.cmpi .ne v216 c0_i32_105
  let v221 : BitVec 1 := Scalar.andi v220 v217
  let v222 : BitVec 32 := Scalar.addi v216 v215
  let v223 : BitVec 32 := Scalar.select v221 v222 v216
  let c0_i32_108 : BitVec 32 := 0#32
  let v224 : BitVec 1 := Scalar.cmpi .eq v223 c0_i32_108
  let c4_i32_96 : BitVec 32 := 4#32
  let c0_i32_97 : BitVec 32 := 0#32
  let v204 : BitVec 1 := Scalar.cmpi .eq c4_i32_96 c0_i32_97
  let c1_i32_98 : BitVec 32 := 1#32
  let v205 : BitVec 32 := Scalar.select v204 c1_i32_98 c4_i32_96
  let v206 : BitVec 32 := Scalar.remsi v186 v205
  let c0_i32_100 : BitVec 32 := 0#32
  let v208 : BitVec 1 := Scalar.cmpi .slt v206 c0_i32_100
  let c0_i32_101 : BitVec 32 := 0#32
  let v209 : BitVec 1 := Scalar.cmpi .slt v205 c0_i32_101
  let v210 : BitVec 1 := Scalar.xori v208 v209
  let c0_i32_99 : BitVec 32 := 0#32
  let v207 : BitVec 1 := Scalar.cmpi .ne v206 c0_i32_99
  let v211 : BitVec 1 := Scalar.andi v210 v207
  let v212 : BitVec 32 := Scalar.addi v206 v205
  let v213 : BitVec 32 := Scalar.select v211 v212 v206
  let c3_i32_109 : BitVec 32 := 3#32
  let v225 : BitVec 32 := Scalar.subi c3_i32_109 v213
  let v226 : BitVec 32 := Scalar.select v224 v213 v225
  let v240 : BitVec 32 := Scalar.muli c8_i32_118 v226
  let c2_i32_119 : BitVec 32 := 2#32
  let v241 : BitVec 32 := Scalar.muli c2_i32_119 v203
  let v242 : BitVec 32 := Scalar.addi v240 v241
  let c2_i32_110 : BitVec 32 := 2#32
  let c0_i32_111 : BitVec 32 := 0#32
  let v227 : BitVec 1 := Scalar.cmpi .eq c2_i32_110 c0_i32_111
  let c1_i32_112 : BitVec 32 := 1#32
  let v228 : BitVec 32 := Scalar.select v227 c1_i32_112 c2_i32_110
  let v229 : BitVec 32 := Scalar.remsi v203 v228
  let c0_i32_114 : BitVec 32 := 0#32
  let v231 : BitVec 1 := Scalar.cmpi .slt v229 c0_i32_114
  let c0_i32_115 : BitVec 32 := 0#32
  let v232 : BitVec 1 := Scalar.cmpi .slt v228 c0_i32_115
  let v233 : BitVec 1 := Scalar.xori v231 v232
  let c0_i32_113 : BitVec 32 := 0#32
  let v230 : BitVec 1 := Scalar.cmpi .ne v229 c0_i32_113
  let v234 : BitVec 1 := Scalar.andi v233 v230
  let v235 : BitVec 32 := Scalar.addi v229 v228
  let v236 : BitVec 32 := Scalar.select v234 v235 v229
  let c0_i32_116 : BitVec 32 := 0#32
  let v237 : BitVec 1 := Scalar.cmpi .eq v236 c0_i32_116
  let c0_i32_81 : BitVec 32 := 0#32
  let v168 : BitVec 1 := Scalar.cmpi .sgt v166 c0_i32_81
  let v169 : BitVec 32 := Scalar.extui v168
  let c0_i32_82 : BitVec 32 := 0#32
  let v170 : BitVec 1 := Scalar.cmpi .slt v166 c0_i32_82
  let v171 : BitVec 32 := Scalar.extui v170
  let v172 : BitVec 32 := Scalar.subi v169 v171
  let c16_i32_80 : BitVec 32 := 16#32
  let c0_i32_83 : BitVec 32 := 0#32
  let v173 : BitVec 1 := Scalar.cmpi .sgt c16_i32_80 c0_i32_83
  let v174 : BitVec 32 := Scalar.extui v173
  let c0_i32_84 : BitVec 32 := 0#32
  let v175 : BitVec 1 := Scalar.cmpi .slt c16_i32_80 c0_i32_84
  let v176 : BitVec 32 := Scalar.extui v175
  let v177 : BitVec 32 := Scalar.subi v174 v176
  let v178 : BitVec 1 := Scalar.cmpi .ne v172 v177
  let v179 : BitVec 32 := Scalar.remsi v166 c16_i32_80
  let c0_i32_85 : BitVec 32 := 0#32
  let v180 : BitVec 1 := Scalar.cmpi .ne v179 c0_i32_85
  let v181 : BitVec 1 := Scalar.andi v178 v180
  let v167 : BitVec 32 := Scalar.divsi v166 c16_i32_80
  let c1_i32_86 : BitVec 32 := 1#32
  let v182 : BitVec 32 := Scalar.subi v167 c1_i32_86
  let v183 : BitVec 32 := Scalar.select v181 v182 v167
  let c1_i32_117 : BitVec 32 := 1#32
  let v238 : BitVec 32 := Scalar.subi c1_i32_117 v183
  let v239 : BitVec 32 := Scalar.select v237 v183 v238
  let v243 : BitVec 32 := Scalar.addi v242 v239
  let c1_i32_6603 : BitVec 32 := 1#32
  let v6865 : BitVec 32 := Scalar.muli v243 c1_i32_6603
  let v6866 : BitVec 32 := Scalar.addi c0_i32_6604 v6865
  v6866.toNat
def k0_dev250 (d0 : Dev nD) : Nat :=
  let c0_i32_6607 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c0_i32_26 : BitVec 32 := 0#32
  let v65 : BitVec 1 := Scalar.cmpi .eq v32 c0_i32_26
  let c4_i32 : BitVec 32 := 4#32
  let c0_i32_13 : BitVec 32 := 0#32
  let v34 : BitVec 1 := Scalar.cmpi .sgt v29 c0_i32_13
  let v35 : BitVec 32 := Scalar.extui v34
  let c0_i32_14 : BitVec 32 := 0#32
  let v36 : BitVec 1 := Scalar.cmpi .slt v29 c0_i32_14
  let v37 : BitVec 32 := Scalar.extui v36
  let v38 : BitVec 32 := Scalar.subi v35 v37
  let c2_i32 : BitVec 32 := 2#32
  let c0_i32_15 : BitVec 32 := 0#32
  let v39 : BitVec 1 := Scalar.cmpi .sgt c2_i32 c0_i32_15
  let v40 : BitVec 32 := Scalar.extui v39
  let c0_i32_16 : BitVec 32 := 0#32
  let v41 : BitVec 1 := Scalar.cmpi .slt c2_i32 c0_i32_16
  let v42 : BitVec 32 := Scalar.extui v41
  let v43 : BitVec 32 := Scalar.subi v40 v42
  let v44 : BitVec 1 := Scalar.cmpi .ne v38 v43
  let v45 : BitVec 32 := Scalar.remsi v29 c2_i32
  let c0_i32_17 : BitVec 32 := 0#32
  let v46 : BitVec 1 := Scalar.cmpi .ne v45 c0_i32_17
  let v47 : BitVec 1 := Scalar.andi v44 v46
  let v33 : BitVec 32 := Scalar.divsi v29 c2_i32
  let c1_i32_18 : BitVec 32 := 1#32
  let v48 : BitVec 32 := Scalar.subi v33 c1_i32_18
  let v49 : BitVec 32 := Scalar.select v47 v48 v33
  let v50 : BitVec 32 := Scalar.muli c4_i32 v49
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v49 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_25 : BitVec 32 := 0#32
  let v61 : BitVec 1 := Scalar.cmpi .eq v60 c0_i32_25
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v62 : BitVec 32 := Scalar.subi c3_i32 v19
  let v63 : BitVec 32 := Scalar.select v61 v19 v62
  let v64 : BitVec 32 := Scalar.addi v50 v63
  let c31_i32 : BitVec 32 := 31#32
  let v66 : BitVec 32 := Scalar.subi c31_i32 v64
  let v67 : BitVec 32 := Scalar.select v65 v64 v66
  let c1_i32_27 : BitVec 32 := 1#32
  let v68 : BitVec 32 := Scalar.addi v67 c1_i32_27
  let c32_i32_28 : BitVec 32 := 32#32
  let c0_i32_29 : BitVec 32 := 0#32
  let v69 : BitVec 1 := Scalar.cmpi .eq c32_i32_28 c0_i32_29
  let c1_i32_30 : BitVec 32 := 1#32
  let v70 : BitVec 32 := Scalar.select v69 c1_i32_30 c32_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c16_i32_40 : BitVec 32 := 16#32
  let v96 : BitVec 1 := Scalar.cmpi .slt v78 c16_i32_40
  let c31_i32_41 : BitVec 32 := 31#32
  let v97 : BitVec 32 := Scalar.subi c31_i32_41 v78
  let v98 : BitVec 32 := Scalar.select v96 v78 v97
  let c0_i32_43 : BitVec 32 := 0#32
  let v100 : BitVec 1 := Scalar.cmpi .sgt v98 c0_i32_43
  let v101 : BitVec 32 := Scalar.extui v100
  let c0_i32_44 : BitVec 32 := 0#32
  let v102 : BitVec 1 := Scalar.cmpi .slt v98 c0_i32_44
  let v103 : BitVec 32 := Scalar.extui v102
  let v104 : BitVec 32 := Scalar.subi v101 v103
  let c4_i32_42 : BitVec 32 := 4#32
  let c0_i32_45 : BitVec 32 := 0#32
  let v105 : BitVec 1 := Scalar.cmpi .sgt c4_i32_42 c0_i32_45
  let v106 : BitVec 32 := Scalar.extui v105
  let c0_i32_46 : BitVec 32 := 0#32
  let v107 : BitVec 1 := Scalar.cmpi .slt c4_i32_42 c0_i32_46
  let v108 : BitVec 32 := Scalar.extui v107
  let v109 : BitVec 32 := Scalar.subi v106 v108
  let v110 : BitVec 1 := Scalar.cmpi .ne v104 v109
  let v111 : BitVec 32 := Scalar.remsi v98 c4_i32_42
  let c0_i32_47 : BitVec 32 := 0#32
  let v112 : BitVec 1 := Scalar.cmpi .ne v111 c0_i32_47
  let v113 : BitVec 1 := Scalar.andi v110 v112
  let v99 : BitVec 32 := Scalar.divsi v98 c4_i32_42
  let c1_i32_48 : BitVec 32 := 1#32
  let v114 : BitVec 32 := Scalar.subi v99 c1_i32_48
  let v115 : BitVec 32 := Scalar.select v113 v114 v99
  let c2_i32_55 : BitVec 32 := 2#32
  let c0_i32_56 : BitVec 32 := 0#32
  let v126 : BitVec 1 := Scalar.cmpi .eq c2_i32_55 c0_i32_56
  let c1_i32_57 : BitVec 32 := 1#32
  let v127 : BitVec 32 := Scalar.select v126 c1_i32_57 c2_i32_55
  let v128 : BitVec 32 := Scalar.remsi v115 v127
  let c0_i32_59 : BitVec 32 := 0#32
  let v130 : BitVec 1 := Scalar.cmpi .slt v128 c0_i32_59
  let c0_i32_60 : BitVec 32 := 0#32
  let v131 : BitVec 1 := Scalar.cmpi .slt v127 c0_i32_60
  let v132 : BitVec 1 := Scalar.xori v130 v131
  let c0_i32_58 : BitVec 32 := 0#32
  let v129 : BitVec 1 := Scalar.cmpi .ne v128 c0_i32_58
  let v133 : BitVec 1 := Scalar.andi v132 v129
  let v134 : BitVec 32 := Scalar.addi v128 v127
  let v135 : BitVec 32 := Scalar.select v133 v134 v128
  let c0_i32_61 : BitVec 32 := 0#32
  let v136 : BitVec 1 := Scalar.cmpi .eq v135 c0_i32_61
  let c4_i32_49 : BitVec 32 := 4#32
  let c0_i32_50 : BitVec 32 := 0#32
  let v116 : BitVec 1 := Scalar.cmpi .eq c4_i32_49 c0_i32_50
  let c1_i32_51 : BitVec 32 := 1#32
  let v117 : BitVec 32 := Scalar.select v116 c1_i32_51 c4_i32_49
  let v118 : BitVec 32 := Scalar.remsi v98 v117
  let c0_i32_53 : BitVec 32 := 0#32
  let v120 : BitVec 1 := Scalar.cmpi .slt v118 c0_i32_53
  let c0_i32_54 : BitVec 32 := 0#32
  let v121 : BitVec 1 := Scalar.cmpi .slt v117 c0_i32_54
  let v122 : BitVec 1 := Scalar.xori v120 v121
  let c0_i32_52 : BitVec 32 := 0#32
  let v119 : BitVec 1 := Scalar.cmpi .ne v118 c0_i32_52
  let v123 : BitVec 1 := Scalar.andi v122 v119
  let v124 : BitVec 32 := Scalar.addi v118 v117
  let v125 : BitVec 32 := Scalar.select v123 v124 v118
  let c3_i32_62 : BitVec 32 := 3#32
  let v137 : BitVec 32 := Scalar.subi c3_i32_62 v125
  let v138 : BitVec 32 := Scalar.select v136 v125 v137
  let v152 : BitVec 32 := Scalar.muli c8_i32_71 v138
  let c2_i32_72 : BitVec 32 := 2#32
  let v153 : BitVec 32 := Scalar.muli c2_i32_72 v115
  let v154 : BitVec 32 := Scalar.addi v152 v153
  let c2_i32_63 : BitVec 32 := 2#32
  let c0_i32_64 : BitVec 32 := 0#32
  let v139 : BitVec 1 := Scalar.cmpi .eq c2_i32_63 c0_i32_64
  let c1_i32_65 : BitVec 32 := 1#32
  let v140 : BitVec 32 := Scalar.select v139 c1_i32_65 c2_i32_63
  let v141 : BitVec 32 := Scalar.remsi v115 v140
  let c0_i32_67 : BitVec 32 := 0#32
  let v143 : BitVec 1 := Scalar.cmpi .slt v141 c0_i32_67
  let c0_i32_68 : BitVec 32 := 0#32
  let v144 : BitVec 1 := Scalar.cmpi .slt v140 c0_i32_68
  let v145 : BitVec 1 := Scalar.xori v143 v144
  let c0_i32_66 : BitVec 32 := 0#32
  let v142 : BitVec 1 := Scalar.cmpi .ne v141 c0_i32_66
  let v146 : BitVec 1 := Scalar.andi v145 v142
  let v147 : BitVec 32 := Scalar.addi v141 v140
  let v148 : BitVec 32 := Scalar.select v146 v147 v141
  let c0_i32_69 : BitVec 32 := 0#32
  let v149 : BitVec 1 := Scalar.cmpi .eq v148 c0_i32_69
  let c0_i32_34 : BitVec 32 := 0#32
  let v80 : BitVec 1 := Scalar.cmpi .sgt v78 c0_i32_34
  let v81 : BitVec 32 := Scalar.extui v80
  let c0_i32_35 : BitVec 32 := 0#32
  let v82 : BitVec 1 := Scalar.cmpi .slt v78 c0_i32_35
  let v83 : BitVec 32 := Scalar.extui v82
  let v84 : BitVec 32 := Scalar.subi v81 v83
  let c16_i32 : BitVec 32 := 16#32
  let c0_i32_36 : BitVec 32 := 0#32
  let v85 : BitVec 1 := Scalar.cmpi .sgt c16_i32 c0_i32_36
  let v86 : BitVec 32 := Scalar.extui v85
  let c0_i32_37 : BitVec 32 := 0#32
  let v87 : BitVec 1 := Scalar.cmpi .slt c16_i32 c0_i32_37
  let v88 : BitVec 32 := Scalar.extui v87
  let v89 : BitVec 32 := Scalar.subi v86 v88
  let v90 : BitVec 1 := Scalar.cmpi .ne v84 v89
  let v91 : BitVec 32 := Scalar.remsi v78 c16_i32
  let c0_i32_38 : BitVec 32 := 0#32
  let v92 : BitVec 1 := Scalar.cmpi .ne v91 c0_i32_38
  let v93 : BitVec 1 := Scalar.andi v90 v92
  let v79 : BitVec 32 := Scalar.divsi v78 c16_i32
  let c1_i32_39 : BitVec 32 := 1#32
  let v94 : BitVec 32 := Scalar.subi v79 c1_i32_39
  let v95 : BitVec 32 := Scalar.select v93 v94 v79
  let c1_i32_70 : BitVec 32 := 1#32
  let v150 : BitVec 32 := Scalar.subi c1_i32_70 v95
  let v151 : BitVec 32 := Scalar.select v149 v95 v150
  let v155 : BitVec 32 := Scalar.addi v154 v151
  let c1_i32_6606 : BitVec 32 := 1#32
  let v6867 : BitVec 32 := Scalar.muli v155 c1_i32_6606
  let v6868 : BitVec 32 := Scalar.addi c0_i32_6607 v6867
  v6868.toNat
abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Pieces.lean ====
/-
  The kernel's body said again as a short program: a prologue, sixty-two steps that differ only in their slots,
  their neighbours and their offsets, and an epilogue. `Pieces.lean` holds the pieces of a step, each over the
  memrefs and semaphores it touches.
-/
module

public import proofs.«01_k».proof.Proof.Gen.KernelIdeal

@[expose] public section

noncomputable section

namespace Cert.KernelIdeal.Ring

open Cert.KernelIdeal Cert.KernelIdeal.Gen
open Idealize.ShloMosaic Idealize.SL.Sem

variable (F : FTy → Type) [FloatOps F]

/-! ## Side conditions at a slot -/

theorem inb_slot {s : ℕ} (hs : s < 2) : ∀ a, (![s, 0, 0] : Fin 3 → Nat) a + S1x256x2048.size a ≤ S2x256x2048.size a := by
  match s, hs with
  | 0, _ => exact Gen.inb_S2x256x2048_S1x256x2048_0_0_0
  | 1, _ => exact Gen.inb_S2x256x2048_S1x256x2048_1_0_0

theorem inb_sem {s : ℕ} (hs : s < 2) : ∀ a, (![s] : Fin 1 → Nat) a + S1.size a ≤ S2.size a := by
  match s, hs with
  | 0, _ => exact Gen.inb_S2_S1_0
  | 1, _ => exact Gen.inb_S2_S1_1

theorem packed_slot {s : ℕ} (hs : s < 2) :
    (Rect.unit (s := S2x256x2048) ![s, 0, 0] S1x256x2048.size (inb_slot hs)).PackedRows (EltTy.packing .bf16) := by
  match s, hs with
  | 0, _ => exact Gen.packedbf16_S2x256x2048_S1x256x2048_0_0_0
  | 1, _ => exact Gen.packedbf16_S2x256x2048_S1x256x2048_1_0_0

theorem words_slot {s : ℕ} (hs : s < 2) :
    (Rect.unit (s := S2x256x2048) ![s, 0, 0] S1x256x2048.size (inb_slot hs)).WholeWords (EltTy.packing .bf16) := by
  match s, hs with
  | 0, _ => exact Gen.wordsbf16_S2x256x2048_S1x256x2048_0_0_0
  | 1, _ => exact Gen.wordsbf16_S2x256x2048_S1x256x2048_1_0_0

theorem inb_cols {k : ℕ} (hk : k ≤ 2048) : ∀ a, (![0, k] : Fin 2 → Nat) a + S256x2048.size a ≤ S256x4096.size a := by
  intro a
  match a with
  | 0 => exact Nat.le_refl 256
  | 1 => exact Nat.add_le_add_right hk 2048

/-! ## The arithmetic of a step -/

variable {F} in
/-- The product of a device's rows of `x` for one chunk with half its columns of `w`. -/
def prodOf (x : Vec F S256x256 .bf16) (w : Vec F S256x2048 .bf16) : FVec F S256x2048 .f32 :=
  matmul dot_S256x256_S256x2048_S256x2048_1_0_0_1_n_n none (shapeCast S256x256 x shapeCasts_S256x256_S256x256 : FVec F S256x256 .bf16)
    (shapeCast S256x2048 w shapeCasts_S256x2048_S256x2048 : FVec F S256x2048 .bf16) (constant S256x2048 .f32 0x00000000#32)

variable {F} in
/-- A slot's contents, widened. -/
def wide (v : Vec F S1x256x2048 .bf16) : FVec F S256x2048 .f32 :=
  extf .f32 (shapeCast S256x2048 v shapeCasts_S1x256x2048_S256x2048 : FVec F S256x2048 .bf16) bitsLt_bf16_f32

variable {F} in
/-- A sum, rounded and laid out as a slot's contents. -/
def pack (v : FVec F S256x2048 .f32) : FVec F S1x256x2048 .bf16 :=
  shapeCast S1x256x2048 (truncf .bf16 v bitsLt_bf16_f32) shapeCasts_S256x2048_S1x256x2048

variable {F} in
/-- What arrived plus a device's own product. -/
def accOf (v : Vec F S1x256x2048 .bf16) (q : FVec F S256x2048 .f32) : FVec F S256x2048 .f32 := addf (wide v) q

/-! ## The pieces of a step -/

/-- The programs of the body. -/
abbrev Act (α : Type) : Type 1 := Prog (TpuEff nD τ sig (Elt F) Λ₀ .tc) α

/-- Wait until the neighbour downstream has freed its slot. -/
def takeCredit (C : Sems sig S2) (r : ℕ) (hr : r < 2) : Act F PUnit :=
  let e₀ : Sems sig S1 := C.slice (Rect.unit (s := S2) ![r] S1.size (inb_sem hr))
  let e : Sems sig S_ := e₀.squeeze S_ squeezes_S1_S_
  semWaitWord e.sem 1#32

/-- Tell the neighbour upstream that slot `s` is free. -/
def giveCredit (C : Sems sig S2) (s : ℕ) (hs : s < 2) (up : Dev nD) : Act F PUnit :=
  let e₀ : Sems sig S1 := C.slice (Rect.unit (s := S2) ![s] S1.size (inb_sem hs))
  let e : Sems sig S_ := e₀.squeeze S_ squeezes_S1_S_
  semSignalWord up e.sem 1#32

/-- Start the copy of slot `s` to slot `r` of the neighbour downstream. -/
def send (M : Memref sig .tc .vmem S2x256x2048 .bf16) (hM : M.IsWhole) (SS RS : DmaSems sig S2) (s r : ℕ) (hs : s < 2) (hr : r < 2)
    (dst : Dev nD) : Act F PUnit :=
  let e₀ : DmaSems sig S1 := SS.slice (Rect.unit (s := S2) ![s] S1.size (inb_sem hs))
  let e : DmaSems sig S_ := e₀.squeeze S_ squeezes_S1_S_
  let f₀ : DmaSems sig S1 := RS.slice (Rect.unit (s := S2) ![r] S1.size (inb_sem hr))
  let f : DmaSems sig S_ := f₀.squeeze S_ squeezes_S1_S_
  let a₀ : Memref sig .tc .vmem S1x256x2048 .bf16 := M.slice (Rect.unit (s := S2x256x2048) ![s, 0, 0] S1x256x2048.size (inb_slot hs)) (fun _ => rfl)
  let a : Memref sig .tc .vmem S256x2048 .bf16 := a₀.squeeze S256x2048 squeezes_S1x256x2048_S256x2048
  let b₀ : Memref sig .tc .vmem S1x256x2048 .bf16 := M.slice (Rect.unit (s := S2x256x2048) ![r, 0, 0] S1x256x2048.size (inb_slot hr)) (fun _ => rfl)
  let b : Memref sig .tc .vmem S256x2048 .bf16 := b₀.squeeze S256x2048 squeezes_S1x256x2048_S256x2048
  Prog.lift (.enqueueDma a (.remote (Dev.tc dst) b (.dma e.sem)) (.dma f.sem)
    ((hM.wordExact_slice rfl _ (words_slot hs)).reshape _ _) ((hM.wordExact_slice rfl _ (words_slot hr)).reshape _ _)
    ⟨⟨rfl, Or.inl rfl⟩, trivial⟩)

/-- Wait on one of the copy's semaphores (`T` at index `k`); the copy went from slot `i` to slot `j` as the wait names them. -/
def await (M : Memref sig .tc .vmem S2x256x2048 .bf16) (hM : M.IsWhole) (T : DmaSems sig S2) (k i j : ℕ) (hk : k < 2) (hi : i < 2) (hj : j < 2) :
    Act F PUnit :=
  let e₀ : DmaSems sig S1 := T.slice (Rect.unit (s := S2) ![k] S1.size (inb_sem hk))
  let e : DmaSems sig S_ := e₀.squeeze S_ squeezes_S1_S_
  let a₀ : Memref sig .tc .vmem S1x256x2048 .bf16 := M.slice (Rect.unit (s := S2x256x2048) ![i, 0, 0] S1x256x2048.size (inb_slot hi)) (fun _ => rfl)
  let a : Memref sig .tc .vmem S256x2048 .bf16 := a₀.squeeze S256x2048 squeezes_S1x256x2048_S256x2048
  let b₀ : Memref sig .tc .vmem S1x256x2048 .bf16 := M.slice (Rect.unit (s := S2x256x2048) ![j, 0, 0] S1x256x2048.size (inb_slot hj)) (fun _ => rfl)
  let b : Memref sig .tc .vmem S256x2048 .bf16 := b₀.squeeze S256x2048 squeezes_S1x256x2048_S256x2048
  Prog.lift (.waitDma2 e.sem a b ((hM.wordExact_slice rfl _ (words_slot hi)).reshape _ _) ((hM.wordExact_slice rfl _ (words_slot hj)).reshape _ _))

/-- The product for the chunk at row offset `o`, columns from `k` on. -/
def product (X : Memref sig .tc .vmem S8192x256 .bf16) (W : Memref sig .tc .vmem S256x4096 .bf16) (o : Fin 2 → ℕ)
    (ho : ∀ a, o a + S256x256.size a ≤ S8192x256.size a) (k : ℕ) (hk : k ≤ 2048) : Act F (FVec F S256x2048 .f32) := do
  let x : Vec F S256x256 .bf16 ← Prog.lift (.load X (Rect.unit (s := S8192x256) o S256x256.size ho).toLoadRect (View.loadsAt_vmem h_S256x256))
  let w : Vec F S256x2048 .bf16 ← Prog.lift (.load W (Rect.unit (s := S256x4096) ![0, k] S256x2048.size (inb_cols hk)).toLoadRect (View.loadsAt_vmem h_S256x2048))
  pure (prodOf x w)

/-- What slot `s` holds. -/
def loadSlot (M : Memref sig .tc .vmem S2x256x2048 .bf16) (s : ℕ) (hs : s < 2) : Act F (Vec F S1x256x2048 .bf16) :=
  Prog.lift (.load M (Rect.unit (s := S2x256x2048) ![s, 0, 0] S1x256x2048.size (inb_slot hs)).toLoadRect (View.loadsAt_vmem h_S1x256x2048))

/-- Put a value in slot `s`, which the print reads first. -/
def fill (M : Memref sig .tc .vmem S2x256x2048 .bf16) (hM : M.IsWhole) (s : ℕ) (hs : s < 2) (v : FVec F S1x256x2048 .bf16) : Act F PUnit := do
  let _ : Vec F S1x256x2048 .bf16 ← Prog.lift (.load M (Rect.unit (s := S2x256x2048) ![s, 0, 0] S1x256x2048.size (inb_slot hs)).toLoadRect (View.loadsAt_vmem h_S1x256x2048))
  Prog.lift (.store M (Rect.unit (s := S2x256x2048) ![s, 0, 0] S1x256x2048.size (inb_slot hs)) v Finset.univ
    (View.stores_vmem h_S1x256x2048 (hM.storeExact_slice rfl _ (packed_slot hs)) (fun _ => rfl)) (.inl rfl))

/-- Put a finished block in the staging buffer and copy it to the result at offset `o`. -/
def emit (O : Memref sig .tc .hbm S8192x4096 .f32) (G : Memref sig .tc .vmem S256x2048 .f32) (hG : G.IsWhole) (K : DmaSems sig S_)
    (o : Fin 2 → ℕ) (ho : ∀ a, o a + S256x2048.size a ≤ S8192x4096.size a) (v : FVec F S256x2048 .f32) : Act F PUnit := do
  let _ : Vec F S256x2048 .f32 ← Prog.lift (.load G (Rect.unit (s := S256x2048) ![0, 0] S256x2048.size Gen.inb_S256x2048_S256x2048_0_0).toLoadRect (View.loadsAt_vmem h_S256x2048))
  Prog.lift (.store G (Rect.unit (s := S256x2048) ![0, 0] S256x2048.size Gen.inb_S256x2048_S256x2048_0_0)
    (shapeCast S256x2048 v shapeCasts_S256x2048_S256x2048 : FVec F S256x2048 .f32) Finset.univ (View.stores_vmem_bits_univ h_S256x2048 rfl) (.inl rfl))
  let d : Memref sig .tc .hbm S256x2048 .f32 := O.slice (Rect.unit (s := S8192x4096) o S256x2048.size ho) (fun _ => rfl)
  Prog.lift (.enqueueDma G (.here d) (.dma K.sem) hG.wordExact (View.wordExact_bits rfl) ⟨Or.inl rfl, trivial⟩)
  Prog.lift (.waitDma2 K.sem G d hG.wordExact (View.wordExact_bits rfl))

end Cert.KernelIdeal.Ring

end
-- ==== Proof.Program.lean ====
/-
  The printed body is the short program of `Pieces.lean`'s pieces: the table below names, for each step, its slots,
  neighbours and offsets as the print has them.
-/
module

public import proofs.«01_k».proof.Proof.Pieces
public meta import Idealize.ShloMosaic.Lib.Tactic.ProgEq

@[expose] public section

noncomputable section

namespace Cert.KernelIdeal.Ring

open Cert.KernelIdeal Cert.KernelIdeal.Gen
open Idealize.ShloMosaic Idealize.SL.Sem
open scoped Idealize.ShloMosaic.ProgEq

variable (F : FTy → Type) [FloatOps F]

/-! ## The parts of a step -/

section Parts

variable (X : Memref sig .tc .vmem S8192x256 .bf16) (W : Memref sig .tc .vmem S256x4096 .bf16) (O : Memref sig .tc .hbm S8192x4096 .f32)
variable (M N : Memref sig .tc .vmem S2x256x2048 .bf16) (hM : M.IsWhole) (hN : N.IsWhole)
variable (G H : Memref sig .tc .vmem S256x2048 .f32) (hG : G.IsWhole) (hH : H.IsWhole)
variable (SM SN RM RN : DmaSems sig S2) (KM KN : DmaSems sig S_) (CM CN : Sems sig S2) (E : Sems sig S_)

/-- The two neighbours know the device is there, and it waits for both. -/
def greet (l r : Dev nD) : Act F PUnit := do
  semSignalWord l (SemArray.scalar (sig.barrier 0 rfl) : Sems sig S_).sem 1#32
  semSignalWord r (SemArray.scalar (sig.barrier 0 rfl) : Sems sig S_).sem 1#32
  semWaitWord (SemArray.scalar (sig.barrier 0 rfl) : Sems sig S_).sem 2#32

/-- The device's own products, for its own chunk, go in slot `0`. -/
def seed (o : Fin 2 → ℕ) (ho : ∀ a, o a + S256x256.size a ≤ S8192x256.size a) : Act F PUnit := do
  let p ← product F X W o ho 0 (by decide)
  fill F M hM 0 (by decide) (pack p)
  let q ← product F X W o ho 2048 (by decide)
  fill F N hN 0 (by decide) (pack q)

/-- Both copies of the first step. -/
def launch (s r : ℕ) (hs : s < 2) (hr : r < 2) (a b : Dev nD) : Act F PUnit := do
  send F M hM SM RM s r hs hr a
  send F N hN SN RN s r hs hr b

/-- Both copies of a later step, each after its credit. -/
def relaunch (s r : ℕ) (hs : s < 2) (hr : r < 2) (a b : Dev nD) : Act F PUnit := do
  takeCredit F CM r hr
  send F M hM SM RM s r hs hr a
  takeCredit F CN r hr
  send F N hN SN RN s r hs hr b

/-- A step of the reduction: what arrives gains the device's own product. -/
def reduce (s r : ℕ) (hs : s < 2) (hr : r < 2) (o o' : Fin 2 → ℕ) (ho : ∀ a, o a + S256x256.size a ≤ S8192x256.size a)
    (ho' : ∀ a, o' a + S256x256.size a ≤ S8192x256.size a) : Act F PUnit := do
  let p ← product F X W o ho 0 (by decide)
  let q ← product F X W o' ho' 2048 (by decide)
  await F M hM RM r s r hr hs hr
  let v ← loadSlot F M r hr
  fill F M hM r hr (pack (accOf v p))
  await F N hN RN r s r hr hs hr
  let v ← loadSlot F N r hr
  fill F N hN r hr (pack (accOf v q))

/-- The reduction's last step: the sum is also a finished block. -/
def turn (s r : ℕ) (hs : s < 2) (hr : r < 2) (o o' : Fin 2 → ℕ) (ho : ∀ a, o a + S256x256.size a ≤ S8192x256.size a)
    (ho' : ∀ a, o' a + S256x256.size a ≤ S8192x256.size a) (b b' : Fin 2 → ℕ)
    (hb : ∀ a, b a + S256x2048.size a ≤ S8192x4096.size a) (hb' : ∀ a, b' a + S256x2048.size a ≤ S8192x4096.size a) : Act F PUnit := do
  let p ← product F X W o ho 0 (by decide)
  let q ← product F X W o' ho' 2048 (by decide)
  await F M hM RM r s r hr hs hr
  let v ← loadSlot F M r hr
  fill F M hM r hr (pack (accOf v p))
  emit F O G hG KM b hb (accOf v p)
  await F N hN RN r s r hr hs hr
  let v ← loadSlot F N r hr
  fill F N hN r hr (pack (accOf v q))
  emit F O H hH KN b' hb' (accOf v q)

/-- A step of the spreading: what arrives is a finished block. -/
def spread (s r : ℕ) (hs : s < 2) (hr : r < 2) (b b' : Fin 2 → ℕ)
    (hb : ∀ a, b a + S256x2048.size a ≤ S8192x4096.size a) (hb' : ∀ a, b' a + S256x2048.size a ≤ S8192x4096.size a) : Act F PUnit := do
  await F M hM RM r s r hr hs hr
  let v ← loadSlot F M r hr
  emit F O G hG KM b hb (wide v)
  await F N hN RN r s r hr hs hr
  let v ← loadSlot F N r hr
  emit F O H hH KN b' hb' (wide v)

/-- The step's copies have left, and the slots they left are free. -/
def release (s r : ℕ) (hs : s < 2) (hr : r < 2) (a b : Dev nD) : Act F PUnit := do
  await F M hM SM s r s hs hr hs
  giveCredit F CM s hs a
  await F N hN SN s r s hs hr hs
  giveCredit F CN s hs b

/-- The last step's copies have left. -/
def settle (s r : ℕ) (hs : s < 2) (hr : r < 2) : Act F PUnit := do
  await F M hM SM s r s hs hr hs
  await F N hN SN s r s hs hr hs

/-- Both neighbours are told the device is done, and it waits for both. -/
def part (l r : Dev nD) : Act F PUnit := do
  semSignalWord l E.sem 1#32
  semSignalWord r E.sem 1#32
  semWaitWord E.sem 2#32
  pure ⟨⟩

end Parts

/-! ## The whole body -/

/-- The print's body, its float type after two arguments that say nothing. -/
def printed (_ _ : Unit) (F : FTy → Type) [FloatOps F] (X : Memref sig .tc .vmem S8192x256 .bf16) (hX : X.IsWhole) (W : Memref sig .tc .vmem S256x4096 .bf16) (hW : W.IsWhole)
    (O : Memref sig .tc .hbm S8192x4096 .f32) (hO : O.IsWhole) (M : Memref sig .tc .vmem S2x256x2048 .bf16) (hM : M.IsWhole)
    (N : Memref sig .tc .vmem S2x256x2048 .bf16) (hN : N.IsWhole) (G : Memref sig .tc .vmem S256x2048 .f32) (hG : G.IsWhole)
    (H : Memref sig .tc .vmem S256x2048 .f32) (hH : H.IsWhole) (SM SN RM RN : DmaSems sig S2) (KM KN : DmaSems sig S_)
    (CM CN : Sems sig S2) (E : Sems sig S_) : Act F PUnit :=
  cc0_body (F := F) X hX W hW O hO M hM N hN G hG H hH SM SN RM RN KM KN CM CN E

/-- The short program, step by step with the print's names for its neighbours and offsets. -/
def stated (_ _ : Unit) (F : FTy → Type) [FloatOps F] (X : Memref sig .tc .vmem S8192x256 .bf16) (hX : X.IsWhole) (W : Memref sig .tc .vmem S256x4096 .bf16) (hW : W.IsWhole)
    (O : Memref sig .tc .hbm S8192x4096 .f32) (hO : O.IsWhole) (M : Memref sig .tc .vmem S2x256x2048 .bf16) (hM : M.IsWhole)
    (N : Memref sig .tc .vmem S2x256x2048 .bf16) (hN : N.IsWhole) (G : Memref sig .tc .vmem S256x2048 .f32) (hG : G.IsWhole)
    (H : Memref sig .tc .vmem S256x2048 .f32) (hH : H.IsWhole) (SM SN RM RN : DmaSems sig S2) (KM KN : DmaSems sig S_)
    (CM CN : Sems sig S2) (E : Sems sig S_) : Act F PUnit := do
  let d0 : Dev nD ← Prog.lift .deviceId
  greet F ⟨k0_dev1 d0, k0_dev1_lt d0⟩ ⟨k0_dev2 d0, k0_dev2_lt d0⟩
  seed F X W M N hM hN (k0_off1 d0) (k0_off1_inb d0)
  launch F M N hM hN SM SN RM RN 0 1 (by decide) (by decide) ⟨k0_dev3 d0, k0_dev3_lt d0⟩ ⟨k0_dev4 d0, k0_dev4_lt d0⟩
  reduce F X W M N hM hN RM RN 0 1 (by decide) (by decide) (k0_off2 d0 4294967295#32) (k0_off2 d0 1#32) (k0_off2_inb d0 0) (k0_off2_inb d0 1)
  release F M N hM hN SM SN CM CN 0 1 (by decide) (by decide) ⟨k0_dev5 d0, k0_dev5_lt d0⟩ ⟨k0_dev6 d0, k0_dev6_lt d0⟩
  relaunch F M N hM hN SM SN RM RN CM CN 1 0 (by decide) (by decide) ⟨k0_dev7 d0, k0_dev7_lt d0⟩ ⟨k0_dev8 d0, k0_dev8_lt d0⟩
  reduce F X W M N hM hN RM RN 1 0 (by decide) (by decide) (k0_off2 d0 4294967294#32) (k0_off2 d0 2#32) (k0_off2_inb d0 2) (k0_off2_inb d0 3)
  release F M N hM hN SM SN CM CN 1 0 (by decide) (by decide) ⟨k0_dev9 d0, k0_dev9_lt d0⟩ ⟨k0_dev10 d0, k0_dev10_lt d0⟩
  relaunch F M N hM hN SM SN RM RN CM CN 0 1 (by decide) (by decide) ⟨k0_dev11 d0, k0_dev11_lt d0⟩ ⟨k0_dev12 d0, k0_dev12_lt d0⟩
  reduce F X W M N hM hN RM RN 0 1 (by decide) (by decide) (k0_off2 d0 4294967293#32) (k0_off2 d0 3#32) (k0_off2_inb d0 4) (k0_off2_inb d0 5)
  release F M N hM hN SM SN CM CN 0 1 (by decide) (by decide) ⟨k0_dev13 d0, k0_dev13_lt d0⟩ ⟨k0_dev14 d0, k0_dev14_lt d0⟩
  relaunch F M N hM hN SM SN RM RN CM CN 1 0 (by decide) (by decide) ⟨k0_dev15 d0, k0_dev15_lt d0⟩ ⟨k0_dev16 d0, k0_dev16_lt d0⟩
  reduce F X W M N hM hN RM RN 1 0 (by decide) (by decide) (k0_off2 d0 4294967292#32) (k0_off2 d0 4#32) (k0_off2_inb d0 6) (k0_off2_inb d0 7)
  release F M N hM hN SM SN CM CN 1 0 (by decide) (by decide) ⟨k0_dev17 d0, k0_dev17_lt d0⟩ ⟨k0_dev18 d0, k0_dev18_lt d0⟩
  relaunch F M N hM hN SM SN RM RN CM CN 0 1 (by decide) (by decide) ⟨k0_dev19 d0, k0_dev19_lt d0⟩ ⟨k0_dev20 d0, k0_dev20_lt d0⟩
  reduce F X W M N hM hN RM RN 0 1 (by decide) (by decide) (k0_off2 d0 4294967291#32) (k0_off2 d0 5#32) (k0_off2_inb d0 8) (k0_off2_inb d0 9)
  release F M N hM hN SM SN CM CN 0 1 (by decide) (by decide) ⟨k0_dev21 d0, k0_dev21_lt d0⟩ ⟨k0_dev22 d0, k0_dev22_lt d0⟩
  relaunch F M N hM hN SM SN RM RN CM CN 1 0 (by decide) (by decide) ⟨k0_dev23 d0, k0_dev23_lt d0⟩ ⟨k0_dev24 d0, k0_dev24_lt d0⟩
  reduce F X W M N hM hN RM RN 1 0 (by decide) (by decide) (k0_off2 d0 4294967290#32) (k0_off2 d0 6#32) (k0_off2_inb d0 10) (k0_off2_inb d0 11)
  release F M N hM hN SM SN CM CN 1 0 (by decide) (by decide) ⟨k0_dev25 d0, k0_dev25_lt d0⟩ ⟨k0_dev26 d0, k0_dev26_lt d0⟩
  relaunch F M N hM hN SM SN RM RN CM CN 0 1 (by decide) (by decide) ⟨k0_dev27 d0, k0_dev27_lt d0⟩ ⟨k0_dev28 d0, k0_dev28_lt d0⟩
  reduce F X W M N hM hN RM RN 0 1 (by decide) (by decide) (k0_off2 d0 4294967289#32) (k0_off2 d0 7#32) (k0_off2_inb d0 12) (k0_off2_inb d0 13)
  release F M N hM hN SM SN CM CN 0 1 (by decide) (by decide) ⟨k0_dev29 d0, k0_dev29_lt d0⟩ ⟨k0_dev30 d0, k0_dev30_lt d0⟩
  relaunch F M N hM hN SM SN RM RN CM CN 1 0 (by decide) (by decide) ⟨k0_dev31 d0, k0_dev31_lt d0⟩ ⟨k0_dev32 d0, k0_dev32_lt d0⟩
  reduce F X W M N hM hN RM RN 1 0 (by decide) (by decide) (k0_off2 d0 4294967288#32) (k0_off2 d0 8#32) (k0_off2_inb d0 14) (k0_off2_inb d0 15)
  release F M N hM hN SM SN CM CN 1 0 (by decide) (by decide) ⟨k0_dev33 d0, k0_dev33_lt d0⟩ ⟨k0_dev34 d0, k0_dev34_lt d0⟩
  relaunch F M N hM hN SM SN RM RN CM CN 0 1 (by decide) (by decide) ⟨k0_dev35 d0, k0_dev35_lt d0⟩ ⟨k0_dev36 d0, k0_dev36_lt d0⟩
  reduce F X W M N hM hN RM RN 0 1 (by decide) (by decide) (k0_off2 d0 4294967287#32) (k0_off2 d0 9#32) (k0_off2_inb d0 16) (k0_off2_inb d0 17)
  release F M N hM hN SM SN CM CN 0 1 (by decide) (by decide) ⟨k0_dev37 d0, k0_dev37_lt d0⟩ ⟨k0_dev38 d0, k0_dev38_lt d0⟩
  relaunch F M N hM hN SM SN RM RN CM CN 1 0 (by decide) (by decide) ⟨k0_dev39 d0, k0_dev39_lt d0⟩ ⟨k0_dev40 d0, k0_dev40_lt d0⟩
  reduce F X W M N hM hN RM RN 1 0 (by decide) (by decide) (k0_off2 d0 4294967286#32) (k0_off2 d0 10#32) (k0_off2_inb d0 18) (k0_off2_inb d0 19)
  release F M N hM hN SM SN CM CN 1 0 (by decide) (by decide) ⟨k0_dev41 d0, k0_dev41_lt d0⟩ ⟨k0_dev42 d0, k0_dev42_lt d0⟩
  relaunch F M N hM hN SM SN RM RN CM CN 0 1 (by decide) (by decide) ⟨k0_dev43 d0, k0_dev43_lt d0⟩ ⟨k0_dev44 d0, k0_dev44_lt d0⟩
  reduce F X W M N hM hN RM RN 0 1 (by decide) (by decide) (k0_off2 d0 4294967285#32) (k0_off2 d0 11#32) (k0_off2_inb d0 20) (k0_off2_inb d0 21)
  release F M N hM hN SM SN CM CN 0 1 (by decide) (by decide) ⟨k0_dev45 d0, k0_dev45_lt d0⟩ ⟨k0_dev46 d0, k0_dev46_lt d0⟩
  relaunch F M N hM hN SM SN RM RN CM CN 1 0 (by decide) (by decide) ⟨k0_dev47 d0, k0_dev47_lt d0⟩ ⟨k0_dev48 d0, k0_dev48_lt d0⟩
  reduce F X W M N hM hN RM RN 1 0 (by decide) (by decide) (k0_off2 d0 4294967284#32) (k0_off2 d0 12#32) (k0_off2_inb d0 22) (k0_off2_inb d0 23)
  release F M N hM hN SM SN CM CN 1 0 (by decide) (by decide) ⟨k0_dev49 d0, k0_dev49_lt d0⟩ ⟨k0_dev50 d0, k0_dev50_lt d0⟩
  relaunch F M N hM hN SM SN RM RN CM CN 0 1 (by decide) (by decide) ⟨k0_dev51 d0, k0_dev51_lt d0⟩ ⟨k0_dev52 d0, k0_dev52_lt d0⟩
  reduce F X W M N hM hN RM RN 0 1 (by decide) (by decide) (k0_off2 d0 4294967283#32) (k0_off2 d0 13#32) (k0_off2_inb d0 24) (k0_off2_inb d0 25)
  release F M N hM hN SM SN CM CN 0 1 (by decide) (by decide) ⟨k0_dev53 d0, k0_dev53_lt d0⟩ ⟨k0_dev54 d0, k0_dev54_lt d0⟩
  relaunch F M N hM hN SM SN RM RN CM CN 1 0 (by decide) (by decide) ⟨k0_dev55 d0, k0_dev55_lt d0⟩ ⟨k0_dev56 d0, k0_dev56_lt d0⟩
  reduce F X W M N hM hN RM RN 1 0 (by decide) (by decide) (k0_off2 d0 4294967282#32) (k0_off2 d0 14#32) (k0_off2_inb d0 26) (k0_off2_inb d0 27)
  release F M N hM hN SM SN CM CN 1 0 (by decide) (by decide) ⟨k0_dev57 d0, k0_dev57_lt d0⟩ ⟨k0_dev58 d0, k0_dev58_lt d0⟩
  relaunch F M N hM hN SM SN RM RN CM CN 0 1 (by decide) (by decide) ⟨k0_dev59 d0, k0_dev59_lt d0⟩ ⟨k0_dev60 d0, k0_dev60_lt d0⟩
  reduce F X W M N hM hN RM RN 0 1 (by decide) (by decide) (k0_off2 d0 4294967281#32) (k0_off2 d0 15#32) (k0_off2_inb d0 28) (k0_off2_inb d0 29)
  release F M N hM hN SM SN CM CN 0 1 (by decide) (by decide) ⟨k0_dev61 d0, k0_dev61_lt d0⟩ ⟨k0_dev62 d0, k0_dev62_lt d0⟩
  relaunch F M N hM hN SM SN RM RN CM CN 1 0 (by decide) (by decide) ⟨k0_dev63 d0, k0_dev63_lt d0⟩ ⟨k0_dev64 d0, k0_dev64_lt d0⟩
  reduce F X W M N hM hN RM RN 1 0 (by decide) (by decide) (k0_off2 d0 4294967280#32) (k0_off2 d0 16#32) (k0_off2_inb d0 30) (k0_off2_inb d0 31)
  release F M N hM hN SM SN CM CN 1 0 (by decide) (by decide) ⟨k0_dev65 d0, k0_dev65_lt d0⟩ ⟨k0_dev66 d0, k0_dev66_lt d0⟩
  relaunch F M N hM hN SM SN RM RN CM CN 0 1 (by decide) (by decide) ⟨k0_dev67 d0, k0_dev67_lt d0⟩ ⟨k0_dev68 d0, k0_dev68_lt d0⟩
  reduce F X W M N hM hN RM RN 0 1 (by decide) (by decide) (k0_off2 d0 4294967279#32) (k0_off2 d0 17#32) (k0_off2_inb d0 32) (k0_off2_inb d0 33)
  release F M N hM hN SM SN CM CN 0 1 (by decide) (by decide) ⟨k0_dev69 d0, k0_dev69_lt d0⟩ ⟨k0_dev70 d0, k0_dev70_lt d0⟩
  relaunch F M N hM hN SM SN RM RN CM CN 1 0 (by decide) (by decide) ⟨k0_dev71 d0, k0_dev71_lt d0⟩ ⟨k0_dev72 d0, k0_dev72_lt d0⟩
  reduce F X W M N hM hN RM RN 1 0 (by decide) (by decide) (k0_off2 d0 4294967278#32) (k0_off2 d0 18#32) (k0_off2_inb d0 34) (k0_off2_inb d0 35)
  release F M N hM hN SM SN CM CN 1 0 (by decide) (by decide) ⟨k0_dev73 d0, k0_dev73_lt d0⟩ ⟨k0_dev74 d0, k0_dev74_lt d0⟩
  relaunch F M N hM hN SM SN RM RN CM CN 0 1 (by decide) (by decide) ⟨k0_dev75 d0, k0_dev75_lt d0⟩ ⟨k0_dev76 d0, k0_dev76_lt d0⟩
  reduce F X W M N hM hN RM RN 0 1 (by decide) (by decide) (k0_off2 d0 4294967277#32) (k0_off2 d0 19#32) (k0_off2_inb d0 36) (k0_off2_inb d0 37)
  release F M N hM hN SM SN CM CN 0 1 (by decide) (by decide) ⟨k0_dev77 d0, k0_dev77_lt d0⟩ ⟨k0_dev78 d0, k0_dev78_lt d0⟩
  relaunch F M N hM hN SM SN RM RN CM CN 1 0 (by decide) (by decide) ⟨k0_dev79 d0, k0_dev79_lt d0⟩ ⟨k0_dev80 d0, k0_dev80_lt d0⟩
  reduce F X W M N hM hN RM RN 1 0 (by decide) (by decide) (k0_off2 d0 4294967276#32) (k0_off2 d0 20#32) (k0_off2_inb d0 38) (k0_off2_inb d0 39)
  release F M N hM hN SM SN CM CN 1 0 (by decide) (by decide) ⟨k0_dev81 d0, k0_dev81_lt d0⟩ ⟨k0_dev82 d0, k0_dev82_lt d0⟩
  relaunch F M N hM hN SM SN RM RN CM CN 0 1 (by decide) (by decide) ⟨k0_dev83 d0, k0_dev83_lt d0⟩ ⟨k0_dev84 d0, k0_dev84_lt d0⟩
  reduce F X W M N hM hN RM RN 0 1 (by decide) (by decide) (k0_off2 d0 4294967275#32) (k0_off2 d0 21#32) (k0_off2_inb d0 40) (k0_off2_inb d0 41)
  release F M N hM hN SM SN CM CN 0 1 (by decide) (by decide) ⟨k0_dev85 d0, k0_dev85_lt d0⟩ ⟨k0_dev86 d0, k0_dev86_lt d0⟩
  relaunch F M N hM hN SM SN RM RN CM CN 1 0 (by decide) (by decide) ⟨k0_dev87 d0, k0_dev87_lt d0⟩ ⟨k0_dev88 d0, k0_dev88_lt d0⟩
  reduce F X W M N hM hN RM RN 1 0 (by decide) (by decide) (k0_off2 d0 4294967274#32) (k0_off2 d0 22#32) (k0_off2_inb d0 42) (k0_off2_inb d0 43)
  release F M N hM hN SM SN CM CN 1 0 (by decide) (by decide) ⟨k0_dev89 d0, k0_dev89_lt d0⟩ ⟨k0_dev90 d0, k0_dev90_lt d0⟩
  relaunch F M N hM hN SM SN RM RN CM CN 0 1 (by decide) (by decide) ⟨k0_dev91 d0, k0_dev91_lt d0⟩ ⟨k0_dev92 d0, k0_dev92_lt d0⟩
  reduce F X W M N hM hN RM RN 0 1 (by decide) (by decide) (k0_off2 d0 4294967273#32) (k0_off2 d0 23#32) (k0_off2_inb d0 44) (k0_off2_inb d0 45)
  release F M N hM hN SM SN CM CN 0 1 (by decide) (by decide) ⟨k0_dev93 d0, k0_dev93_lt d0⟩ ⟨k0_dev94 d0, k0_dev94_lt d0⟩
  relaunch F M N hM hN SM SN RM RN CM CN 1 0 (by decide) (by decide) ⟨k0_dev95 d0, k0_dev95_lt d0⟩ ⟨k0_dev96 d0, k0_dev96_lt d0⟩
  reduce F X W M N hM hN RM RN 1 0 (by decide) (by decide) (k0_off2 d0 4294967272#32) (k0_off2 d0 24#32) (k0_off2_inb d0 46) (k0_off2_inb d0 47)
  release F M N hM hN SM SN CM CN 1 0 (by decide) (by decide) ⟨k0_dev97 d0, k0_dev97_lt d0⟩ ⟨k0_dev98 d0, k0_dev98_lt d0⟩
  relaunch F M N hM hN SM SN RM RN CM CN 0 1 (by decide) (by decide) ⟨k0_dev99 d0, k0_dev99_lt d0⟩ ⟨k0_dev100 d0, k0_dev100_lt d0⟩
  reduce F X W M N hM hN RM RN 0 1 (by decide) (by decide) (k0_off2 d0 4294967271#32) (k0_off2 d0 25#32) (k0_off2_inb d0 48) (k0_off2_inb d0 49)
  release F M N hM hN SM SN CM CN 0 1 (by decide) (by decide) ⟨k0_dev101 d0, k0_dev101_lt d0⟩ ⟨k0_dev102 d0, k0_dev102_lt d0⟩
  relaunch F M N hM hN SM SN RM RN CM CN 1 0 (by decide) (by decide) ⟨k0_dev103 d0, k0_dev103_lt d0⟩ ⟨k0_dev104 d0, k0_dev104_lt d0⟩
  reduce F X W M N hM hN RM RN 1 0 (by decide) (by decide) (k0_off2 d0 4294967270#32) (k0_off2 d0 26#32) (k0_off2_inb d0 50) (k0_off2_inb d0 51)
  release F M N hM hN SM SN CM CN 1 0 (by decide) (by decide) ⟨k0_dev105 d0, k0_dev105_lt d0⟩ ⟨k0_dev106 d0, k0_dev106_lt d0⟩
  relaunch F M N hM hN SM SN RM RN CM CN 0 1 (by decide) (by decide) ⟨k0_dev107 d0, k0_dev107_lt d0⟩ ⟨k0_dev108 d0, k0_dev108_lt d0⟩
  reduce F X W M N hM hN RM RN 0 1 (by decide) (by decide) (k0_off2 d0 4294967269#32) (k0_off2 d0 27#32) (k0_off2_inb d0 52) (k0_off2_inb d0 53)
  release F M N hM hN SM SN CM CN 0 1 (by decide) (by decide) ⟨k0_dev109 d0, k0_dev109_lt d0⟩ ⟨k0_dev110 d0, k0_dev110_lt d0⟩
  relaunch F M N hM hN SM SN RM RN CM CN 1 0 (by decide) (by decide) ⟨k0_dev111 d0, k0_dev111_lt d0⟩ ⟨k0_dev112 d0, k0_dev112_lt d0⟩
  reduce F X W M N hM hN RM RN 1 0 (by decide) (by decide) (k0_off2 d0 4294967268#32) (k0_off2 d0 28#32) (k0_off2_inb d0 54) (k0_off2_inb d0 55)
  release F M N hM hN SM SN CM CN 1 0 (by decide) (by decide) ⟨k0_dev113 d0, k0_dev113_lt d0⟩ ⟨k0_dev114 d0, k0_dev114_lt d0⟩
  relaunch F M N hM hN SM SN RM RN CM CN 0 1 (by decide) (by decide) ⟨k0_dev115 d0, k0_dev115_lt d0⟩ ⟨k0_dev116 d0, k0_dev116_lt d0⟩
  reduce F X W M N hM hN RM RN 0 1 (by decide) (by decide) (k0_off2 d0 4294967267#32) (k0_off2 d0 29#32) (k0_off2_inb d0 56) (k0_off2_inb d0 57)
  release F M N hM hN SM SN CM CN 0 1 (by decide) (by decide) ⟨k0_dev117 d0, k0_dev117_lt d0⟩ ⟨k0_dev118 d0, k0_dev118_lt d0⟩
  relaunch F M N hM hN SM SN RM RN CM CN 1 0 (by decide) (by decide) ⟨k0_dev119 d0, k0_dev119_lt d0⟩ ⟨k0_dev120 d0, k0_dev120_lt d0⟩
  reduce F X W M N hM hN RM RN 1 0 (by decide) (by decide) (k0_off2 d0 4294967266#32) (k0_off2 d0 30#32) (k0_off2_inb d0 58) (k0_off2_inb d0 59)
  release F M N hM hN SM SN CM CN 1 0 (by decide) (by decide) ⟨k0_dev121 d0, k0_dev121_lt d0⟩ ⟨k0_dev122 d0, k0_dev122_lt d0⟩
  relaunch F M N hM hN SM SN RM RN CM CN 0 1 (by decide) (by decide) ⟨k0_dev123 d0, k0_dev123_lt d0⟩ ⟨k0_dev124 d0, k0_dev124_lt d0⟩
  turn F X W O M N hM hN G H hG hH RM RN KM KN 0 1 (by decide) (by decide) (k0_off2 d0 4294967265#32) (k0_off2 d0 31#32) (k0_off2_inb d0 60) (k0_off2_inb d0 61) (k0_off3 d0) (k0_off4 d0) (k0_off3_inb d0) (k0_off4_inb d0)
  release F M N hM hN SM SN CM CN 0 1 (by decide) (by decide) ⟨k0_dev125 d0, k0_dev125_lt d0⟩ ⟨k0_dev126 d0, k0_dev126_lt d0⟩
  relaunch F M N hM hN SM SN RM RN CM CN 1 0 (by decide) (by decide) ⟨k0_dev127 d0, k0_dev127_lt d0⟩ ⟨k0_dev128 d0, k0_dev128_lt d0⟩
  spread F O M N hM hN G H hG hH RM RN KM KN 1 0 (by decide) (by decide) (k0_off5 d0 0#32) (k0_off6 d0 0#32) (k0_off5_inb d0 0) (k0_off6_inb d0 0)
  release F M N hM hN SM SN CM CN 1 0 (by decide) (by decide) ⟨k0_dev129 d0, k0_dev129_lt d0⟩ ⟨k0_dev130 d0, k0_dev130_lt d0⟩
  relaunch F M N hM hN SM SN RM RN CM CN 0 1 (by decide) (by decide) ⟨k0_dev131 d0, k0_dev131_lt d0⟩ ⟨k0_dev132 d0, k0_dev132_lt d0⟩
  spread F O M N hM hN G H hG hH RM RN KM KN 0 1 (by decide) (by decide) (k0_off5 d0 4294967295#32) (k0_off6 d0 1#32) (k0_off5_inb d0 1) (k0_off6_inb d0 1)
  release F M N hM hN SM SN CM CN 0 1 (by decide) (by decide) ⟨k0_dev133 d0, k0_dev133_lt d0⟩ ⟨k0_dev134 d0, k0_dev134_lt d0⟩
  relaunch F M N hM hN SM SN RM RN CM CN 1 0 (by decide) (by decide) ⟨k0_dev135 d0, k0_dev135_lt d0⟩ ⟨k0_dev136 d0, k0_dev136_lt d0⟩
  spread F O M N hM hN G H hG hH RM RN KM KN 1 0 (by decide) (by decide) (k0_off5 d0 4294967294#32) (k0_off6 d0 2#32) (k0_off5_inb d0 2) (k0_off6_inb d0 2)
  release F M N hM hN SM SN CM CN 1 0 (by decide) (by decide) ⟨k0_dev137 d0, k0_dev137_lt d0⟩ ⟨k0_dev138 d0, k0_dev138_lt d0⟩
  relaunch F M N hM hN SM SN RM RN CM CN 0 1 (by decide) (by decide) ⟨k0_dev139 d0, k0_dev139_lt d0⟩ ⟨k0_dev140 d0, k0_dev140_lt d0⟩
  spread F O M N hM hN G H hG hH RM RN KM KN 0 1 (by decide) (by decide) (k0_off5 d0 4294967293#32) (k0_off6 d0 3#32) (k0_off5_inb d0 3) (k0_off6_inb d0 3)
  release F M N hM hN SM SN CM CN 0 1 (by decide) (by decide) ⟨k0_dev141 d0, k0_dev141_lt d0⟩ ⟨k0_dev142 d0, k0_dev142_lt d0⟩
  relaunch F M N hM hN SM SN RM RN CM CN 1 0 (by decide) (by decide) ⟨k0_dev143 d0, k0_dev143_lt d0⟩ ⟨k0_dev144 d0, k0_dev144_lt d0⟩
  spread F O M N hM hN G H hG hH RM RN KM KN 1 0 (by decide) (by decide) (k0_off5 d0 4294967292#32) (k0_off6 d0 4#32) (k0_off5_inb d0 4) (k0_off6_inb d0 4)
  release F M N hM hN SM SN CM CN 1 0 (by decide) (by decide) ⟨k0_dev145 d0, k0_dev145_lt d0⟩ ⟨k0_dev146 d0, k0_dev146_lt d0⟩
  relaunch F M N hM hN SM SN RM RN CM CN 0 1 (by decide) (by decide) ⟨k0_dev147 d0, k0_dev147_lt d0⟩ ⟨k0_dev148 d0, k0_dev148_lt d0⟩
  spread F O M N hM hN G H hG hH RM RN KM KN 0 1 (by decide) (by decide) (k0_off5 d0 4294967291#32) (k0_off6 d0 5#32) (k0_off5_inb d0 5) (k0_off6_inb d0 5)
  release F M N hM hN SM SN CM CN 0 1 (by decide) (by decide) ⟨k0_dev149 d0, k0_dev149_lt d0⟩ ⟨k0_dev150 d0, k0_dev150_lt d0⟩
  relaunch F M N hM hN SM SN RM RN CM CN 1 0 (by decide) (by decide) ⟨k0_dev151 d0, k0_dev151_lt d0⟩ ⟨k0_dev152 d0, k0_dev152_lt d0⟩
  spread F O M N hM hN G H hG hH RM RN KM KN 1 0 (by decide) (by decide) (k0_off5 d0 4294967290#32) (k0_off6 d0 6#32) (k0_off5_inb d0 6) (k0_off6_inb d0 6)
  release F M N hM hN SM SN CM CN 1 0 (by decide) (by decide) ⟨k0_dev153 d0, k0_dev153_lt d0⟩ ⟨k0_dev154 d0, k0_dev154_lt d0⟩
  relaunch F M N hM hN SM SN RM RN CM CN 0 1 (by decide) (by decide) ⟨k0_dev155 d0, k0_dev155_lt d0⟩ ⟨k0_dev156 d0, k0_dev156_lt d0⟩
  spread F O M N hM hN G H hG hH RM RN KM KN 0 1 (by decide) (by decide) (k0_off5 d0 4294967289#32) (k0_off6 d0 7#32) (k0_off5_inb d0 7) (k0_off6_inb d0 7)
  release F M N hM hN SM SN CM CN 0 1 (by decide) (by decide) ⟨k0_dev157 d0, k0_dev157_lt d0⟩ ⟨k0_dev158 d0, k0_dev158_lt d0⟩
  relaunch F M N hM hN SM SN RM RN CM CN 1 0 (by decide) (by decide) ⟨k0_dev159 d0, k0_dev159_lt d0⟩ ⟨k0_dev160 d0, k0_dev160_lt d0⟩
  spread F O M N hM hN G H hG hH RM RN KM KN 1 0 (by decide) (by decide) (k0_off5 d0 4294967288#32) (k0_off6 d0 8#32) (k0_off5_inb d0 8) (k0_off6_inb d0 8)
  release F M N hM hN SM SN CM CN 1 0 (by decide) (by decide) ⟨k0_dev161 d0, k0_dev161_lt d0⟩ ⟨k0_dev162 d0, k0_dev162_lt d0⟩
  relaunch F M N hM hN SM SN RM RN CM CN 0 1 (by decide) (by decide) ⟨k0_dev163 d0, k0_dev163_lt d0⟩ ⟨k0_dev164 d0, k0_dev164_lt d0⟩
  spread F O M N hM hN G H hG hH RM RN KM KN 0 1 (by decide) (by decide) (k0_off5 d0 4294967287#32) (k0_off6 d0 9#32) (k0_off5_inb d0 9) (k0_off6_inb d0 9)
  release F M N hM hN SM SN CM CN 0 1 (by decide) (by decide) ⟨k0_dev165 d0, k0_dev165_lt d0⟩ ⟨k0_dev166 d0, k0_dev166_lt d0⟩
  relaunch F M N hM hN SM SN RM RN CM CN 1 0 (by decide) (by decide) ⟨k0_dev167 d0, k0_dev167_lt d0⟩ ⟨k0_dev168 d0, k0_dev168_lt d0⟩
  spread F O M N hM hN G H hG hH RM RN KM KN 1 0 (by decide) (by decide) (k0_off5 d0 4294967286#32) (k0_off6 d0 10#32) (k0_off5_inb d0 10) (k0_off6_inb d0 10)
  release F M N hM hN SM SN CM CN 1 0 (by decide) (by decide) ⟨k0_dev169 d0, k0_dev169_lt d0⟩ ⟨k0_dev170 d0, k0_dev170_lt d0⟩
  relaunch F M N hM hN SM SN RM RN CM CN 0 1 (by decide) (by decide) ⟨k0_dev171 d0, k0_dev171_lt d0⟩ ⟨k0_dev172 d0, k0_dev172_lt d0⟩
  spread F O M N hM hN G H hG hH RM RN KM KN 0 1 (by decide) (by decide) (k0_off5 d0 4294967285#32) (k0_off6 d0 11#32) (k0_off5_inb d0 11) (k0_off6_inb d0 11)
  release F M N hM hN SM SN CM CN 0 1 (by decide) (by decide) ⟨k0_dev173 d0, k0_dev173_lt d0⟩ ⟨k0_dev174 d0, k0_dev174_lt d0⟩
  relaunch F M N hM hN SM SN RM RN CM CN 1 0 (by decide) (by decide) ⟨k0_dev175 d0, k0_dev175_lt d0⟩ ⟨k0_dev176 d0, k0_dev176_lt d0⟩
  spread F O M N hM hN G H hG hH RM RN KM KN 1 0 (by decide) (by decide) (k0_off5 d0 4294967284#32) (k0_off6 d0 12#32) (k0_off5_inb d0 12) (k0_off6_inb d0 12)
  release F M N hM hN SM SN CM CN 1 0 (by decide) (by decide) ⟨k0_dev177 d0, k0_dev177_lt d0⟩ ⟨k0_dev178 d0, k0_dev178_lt d0⟩
  relaunch F M N hM hN SM SN RM RN CM CN 0 1 (by decide) (by decide) ⟨k0_dev179 d0, k0_dev179_lt d0⟩ ⟨k0_dev180 d0, k0_dev180_lt d0⟩
  spread F O M N hM hN G H hG hH RM RN KM KN 0 1 (by decide) (by decide) (k0_off5 d0 4294967283#32) (k0_off6 d0 13#32) (k0_off5_inb d0 13) (k0_off6_inb d0 13)
  release F M N hM hN SM SN CM CN 0 1 (by decide) (by decide) ⟨k0_dev181 d0, k0_dev181_lt d0⟩ ⟨k0_dev182 d0, k0_dev182_lt d0⟩
  relaunch F M N hM hN SM SN RM RN CM CN 1 0 (by decide) (by decide) ⟨k0_dev183 d0, k0_dev183_lt d0⟩ ⟨k0_dev184 d0, k0_dev184_lt d0⟩
  spread F O M N hM hN G H hG hH RM RN KM KN 1 0 (by decide) (by decide) (k0_off5 d0 4294967282#32) (k0_off6 d0 14#32) (k0_off5_inb d0 14) (k0_off6_inb d0 14)
  release F M N hM hN SM SN CM CN 1 0 (by decide) (by decide) ⟨k0_dev185 d0, k0_dev185_lt d0⟩ ⟨k0_dev186 d0, k0_dev186_lt d0⟩
  relaunch F M N hM hN SM SN RM RN CM CN 0 1 (by decide) (by decide) ⟨k0_dev187 d0, k0_dev187_lt d0⟩ ⟨k0_dev188 d0, k0_dev188_lt d0⟩
  spread F O M N hM hN G H hG hH RM RN KM KN 0 1 (by decide) (by decide) (k0_off5 d0 4294967281#32) (k0_off6 d0 15#32) (k0_off5_inb d0 15) (k0_off6_inb d0 15)
  release F M N hM hN SM SN CM CN 0 1 (by decide) (by decide) ⟨k0_dev189 d0, k0_dev189_lt d0⟩ ⟨k0_dev190 d0, k0_dev190_lt d0⟩
  relaunch F M N hM hN SM SN RM RN CM CN 1 0 (by decide) (by decide) ⟨k0_dev191 d0, k0_dev191_lt d0⟩ ⟨k0_dev192 d0, k0_dev192_lt d0⟩
  spread F O M N hM hN G H hG hH RM RN KM KN 1 0 (by decide) (by decide) (k0_off5 d0 4294967280#32) (k0_off6 d0 16#32) (k0_off5_inb d0 16) (k0_off6_inb d0 16)
  release F M N hM hN SM SN CM CN 1 0 (by decide) (by decide) ⟨k0_dev193 d0, k0_dev193_lt d0⟩ ⟨k0_dev194 d0, k0_dev194_lt d0⟩
  relaunch F M N hM hN SM SN RM RN CM CN 0 1 (by decide) (by decide) ⟨k0_dev195 d0, k0_dev195_lt d0⟩ ⟨k0_dev196 d0, k0_dev196_lt d0⟩
  spread F O M N hM hN G H hG hH RM RN KM KN 0 1 (by decide) (by decide) (k0_off5 d0 4294967279#32) (k0_off6 d0 17#32) (k0_off5_inb d0 17) (k0_off6_inb d0 17)
  release F M N hM hN SM SN CM CN 0 1 (by decide) (by decide) ⟨k0_dev197 d0, k0_dev197_lt d0⟩ ⟨k0_dev198 d0, k0_dev198_lt d0⟩
  relaunch F M N hM hN SM SN RM RN CM CN 1 0 (by decide) (by decide) ⟨k0_dev199 d0, k0_dev199_lt d0⟩ ⟨k0_dev200 d0, k0_dev200_lt d0⟩
  spread F O M N hM hN G H hG hH RM RN KM KN 1 0 (by decide) (by decide) (k0_off5 d0 4294967278#32) (k0_off6 d0 18#32) (k0_off5_inb d0 18) (k0_off6_inb d0 18)
  release F M N hM hN SM SN CM CN 1 0 (by decide) (by decide) ⟨k0_dev201 d0, k0_dev201_lt d0⟩ ⟨k0_dev202 d0, k0_dev202_lt d0⟩
  relaunch F M N hM hN SM SN RM RN CM CN 0 1 (by decide) (by decide) ⟨k0_dev203 d0, k0_dev203_lt d0⟩ ⟨k0_dev204 d0, k0_dev204_lt d0⟩
  spread F O M N hM hN G H hG hH RM RN KM KN 0 1 (by decide) (by decide) (k0_off5 d0 4294967277#32) (k0_off6 d0 19#32) (k0_off5_inb d0 19) (k0_off6_inb d0 19)
  release F M N hM hN SM SN CM CN 0 1 (by decide) (by decide) ⟨k0_dev205 d0, k0_dev205_lt d0⟩ ⟨k0_dev206 d0, k0_dev206_lt d0⟩
  relaunch F M N hM hN SM SN RM RN CM CN 1 0 (by decide) (by decide) ⟨k0_dev207 d0, k0_dev207_lt d0⟩ ⟨k0_dev208 d0, k0_dev208_lt d0⟩
  spread F O M N hM hN G H hG hH RM RN KM KN 1 0 (by decide) (by decide) (k0_off5 d0 4294967276#32) (k0_off6 d0 20#32) (k0_off5_inb d0 20) (k0_off6_inb d0 20)
  release F M N hM hN SM SN CM CN 1 0 (by decide) (by decide) ⟨k0_dev209 d0, k0_dev209_lt d0⟩ ⟨k0_dev210 d0, k0_dev210_lt d0⟩
  relaunch F M N hM hN SM SN RM RN CM CN 0 1 (by decide) (by decide) ⟨k0_dev211 d0, k0_dev211_lt d0⟩ ⟨k0_dev212 d0, k0_dev212_lt d0⟩
  spread F O M N hM hN G H hG hH RM RN KM KN 0 1 (by decide) (by decide) (k0_off5 d0 4294967275#32) (k0_off6 d0 21#32) (k0_off5_inb d0 21) (k0_off6_inb d0 21)
  release F M N hM hN SM SN CM CN 0 1 (by decide) (by decide) ⟨k0_dev213 d0, k0_dev213_lt d0⟩ ⟨k0_dev214 d0, k0_dev214_lt d0⟩
  relaunch F M N hM hN SM SN RM RN CM CN 1 0 (by decide) (by decide) ⟨k0_dev215 d0, k0_dev215_lt d0⟩ ⟨k0_dev216 d0, k0_dev216_lt d0⟩
  spread F O M N hM hN G H hG hH RM RN KM KN 1 0 (by decide) (by decide) (k0_off5 d0 4294967274#32) (k0_off6 d0 22#32) (k0_off5_inb d0 22) (k0_off6_inb d0 22)
  release F M N hM hN SM SN CM CN 1 0 (by decide) (by decide) ⟨k0_dev217 d0, k0_dev217_lt d0⟩ ⟨k0_dev218 d0, k0_dev218_lt d0⟩
  relaunch F M N hM hN SM SN RM RN CM CN 0 1 (by decide) (by decide) ⟨k0_dev219 d0, k0_dev219_lt d0⟩ ⟨k0_dev220 d0, k0_dev220_lt d0⟩
  spread F O M N hM hN G H hG hH RM RN KM KN 0 1 (by decide) (by decide) (k0_off5 d0 4294967273#32) (k0_off6 d0 23#32) (k0_off5_inb d0 23) (k0_off6_inb d0 23)
  release F M N hM hN SM SN CM CN 0 1 (by decide) (by decide) ⟨k0_dev221 d0, k0_dev221_lt d0⟩ ⟨k0_dev222 d0, k0_dev222_lt d0⟩
  relaunch F M N hM hN SM SN RM RN CM CN 1 0 (by decide) (by decide) ⟨k0_dev223 d0, k0_dev223_lt d0⟩ ⟨k0_dev224 d0, k0_dev224_lt d0⟩
  spread F O M N hM hN G H hG hH RM RN KM KN 1 0 (by decide) (by decide) (k0_off5 d0 4294967272#32) (k0_off6 d0 24#32) (k0_off5_inb d0 24) (k0_off6_inb d0 24)
  release F M N hM hN SM SN CM CN 1 0 (by decide) (by decide) ⟨k0_dev225 d0, k0_dev225_lt d0⟩ ⟨k0_dev226 d0, k0_dev226_lt d0⟩
  relaunch F M N hM hN SM SN RM RN CM CN 0 1 (by decide) (by decide) ⟨k0_dev227 d0, k0_dev227_lt d0⟩ ⟨k0_dev228 d0, k0_dev228_lt d0⟩
  spread F O M N hM hN G H hG hH RM RN KM KN 0 1 (by decide) (by decide) (k0_off5 d0 4294967271#32) (k0_off6 d0 25#32) (k0_off5_inb d0 25) (k0_off6_inb d0 25)
  release F M N hM hN SM SN CM CN 0 1 (by decide) (by decide) ⟨k0_dev229 d0, k0_dev229_lt d0⟩ ⟨k0_dev230 d0, k0_dev230_lt d0⟩
  relaunch F M N hM hN SM SN RM RN CM CN 1 0 (by decide) (by decide) ⟨k0_dev231 d0, k0_dev231_lt d0⟩ ⟨k0_dev232 d0, k0_dev232_lt d0⟩
  spread F O M N hM hN G H hG hH RM RN KM KN 1 0 (by decide) (by decide) (k0_off5 d0 4294967270#32) (k0_off6 d0 26#32) (k0_off5_inb d0 26) (k0_off6_inb d0 26)
  release F M N hM hN SM SN CM CN 1 0 (by decide) (by decide) ⟨k0_dev233 d0, k0_dev233_lt d0⟩ ⟨k0_dev234 d0, k0_dev234_lt d0⟩
  relaunch F M N hM hN SM SN RM RN CM CN 0 1 (by decide) (by decide) ⟨k0_dev235 d0, k0_dev235_lt d0⟩ ⟨k0_dev236 d0, k0_dev236_lt d0⟩
  spread F O M N hM hN G H hG hH RM RN KM KN 0 1 (by decide) (by decide) (k0_off5 d0 4294967269#32) (k0_off6 d0 27#32) (k0_off5_inb d0 27) (k0_off6_inb d0 27)
  release F M N hM hN SM SN CM CN 0 1 (by decide) (by decide) ⟨k0_dev237 d0, k0_dev237_lt d0⟩ ⟨k0_dev238 d0, k0_dev238_lt d0⟩
  relaunch F M N hM hN SM SN RM RN CM CN 1 0 (by decide) (by decide) ⟨k0_dev239 d0, k0_dev239_lt d0⟩ ⟨k0_dev240 d0, k0_dev240_lt d0⟩
  spread F O M N hM hN G H hG hH RM RN KM KN 1 0 (by decide) (by decide) (k0_off5 d0 4294967268#32) (k0_off6 d0 28#32) (k0_off5_inb d0 28) (k0_off6_inb d0 28)
  release F M N hM hN SM SN CM CN 1 0 (by decide) (by decide) ⟨k0_dev241 d0, k0_dev241_lt d0⟩ ⟨k0_dev242 d0, k0_dev242_lt d0⟩
  relaunch F M N hM hN SM SN RM RN CM CN 0 1 (by decide) (by decide) ⟨k0_dev243 d0, k0_dev243_lt d0⟩ ⟨k0_dev244 d0, k0_dev244_lt d0⟩
  spread F O M N hM hN G H hG hH RM RN KM KN 0 1 (by decide) (by decide) (k0_off5 d0 4294967267#32) (k0_off6 d0 29#32) (k0_off5_inb d0 29) (k0_off6_inb d0 29)
  release F M N hM hN SM SN CM CN 0 1 (by decide) (by decide) ⟨k0_dev245 d0, k0_dev245_lt d0⟩ ⟨k0_dev246 d0, k0_dev246_lt d0⟩
  relaunch F M N hM hN SM SN RM RN CM CN 1 0 (by decide) (by decide) ⟨k0_dev247 d0, k0_dev247_lt d0⟩ ⟨k0_dev248 d0, k0_dev248_lt d0⟩
  spread F O M N hM hN G H hG hH RM RN KM KN 1 0 (by decide) (by decide) (k0_off5 d0 4294967266#32) (k0_off6 d0 30#32) (k0_off5_inb d0 30) (k0_off6_inb d0 30)
  settle F M N hM hN SM SN 1 0 (by decide) (by decide)
  part F E ⟨k0_dev249 d0, k0_dev249_lt d0⟩ ⟨k0_dev250 d0, k0_dev250_lt d0⟩

end Cert.KernelIdeal.Ring

end
-- ==== Proof.Steps.lean ====
/-
  The steps of the body, each one program in the step's number: the two directions around the ring are one program
  at a direction `b`, the memrefs, semaphores, neighbours and offsets chosen by it.
-/
module

public import proofs.«01_k».proof.Proof.Program
public import Idealize.ShloMosaic.Lib.Pipeline.Regions

@[expose] public section

noncomputable section

namespace Cert.KernelIdeal.Ring

open Cert.KernelIdeal Cert.KernelIdeal.Gen
open Idealize.ShloMosaic Idealize.SL.Sem

variable (F : FTy → Type) [FloatOps F]

/-! ## What a direction chooses -/

/-- The neighbour that sends to device `c` in direction `b`: the left one for `false`. -/
def up : Bool → Dev nD → Dev nD
  | false, c => ⟨k0_dev1 c, k0_dev1_lt c⟩
  | true, c => ⟨k0_dev2 c, k0_dev2_lt c⟩

/-- The neighbour device `c` sends to in direction `b`. -/
abbrev dn (b : Bool) (c : Dev nD) : Dev nD := up (!b) c

abbrev xBuf : Memref sig .tc .vmem S8192x256 .bf16 := Memref.whole cc0_stg0_0
abbrev wBuf : Memref sig .tc .vmem S256x4096 .bf16 := Memref.whole cc0_stg1_0
abbrev outBuf : Memref sig .tc .hbm S8192x4096 .f32 := Memref.whole main_v1

/-- The direction's two slots. -/
def comm : Bool → Memref sig .tc .vmem S2x256x2048 .bf16
  | false => Memref.whole cc0_scratch0
  | true => Memref.whole cc0_scratch1
theorem comm_whole : ∀ b, (comm b).IsWhole
  | false => Memref.isWhole_whole _
  | true => Memref.isWhole_whole _

/-- The direction's staging buffer. -/
def stag : Bool → Memref sig .tc .vmem S256x2048 .f32
  | false => Memref.whole cc0_scratch2
  | true => Memref.whole cc0_scratch3
theorem stag_whole : ∀ b, (stag b).IsWhole
  | false => Memref.isWhole_whole _
  | true => Memref.isWhole_whole _

def sendS : Bool → DmaSems sig S2
  | false => cc0_scratch4
  | true => cc0_scratch5
def recvS : Bool → DmaSems sig S2
  | false => cc0_scratch6
  | true => cc0_scratch7
def copyS : Bool → DmaSems sig S_
  | false => cc0_scratch8
  | true => cc0_scratch9
def credS : Bool → Sems sig S2
  | false => cc0_scratch10
  | true => cc0_scratch11

/-- The first column the direction works on. -/
def col : Bool → ℕ
  | false => 0
  | true => 2048
theorem col_le : ∀ b, col b ≤ 2048
  | false => Nat.zero_le _
  | true => Nat.le_refl _

/-- The row offset of the chunk of `x` the direction adds at step `u` of the reduction. -/
def xoff (b : Bool) (c : Dev nD) (u : ℕ) : Fin 2 → ℕ :=
  if h : u < 31 then k0_off2 c (k0_off2_at ⟨2 * u + (if b then 1 else 0), by split <;> omega⟩) else k0_off1 c
theorem xoff_inb (b : Bool) (c : Dev nD) (u : ℕ) : ∀ a, xoff b c u a + S256x256.size a ≤ S8192x256.size a := by
  unfold xoff
  split
  · exact k0_off2_inb c _
  · exact k0_off1_inb c

/-- Where the direction's `n`-th finished block goes. -/
def ooff (b : Bool) (c : Dev nD) (n : ℕ) : Fin 2 → ℕ :=
  if h : 1 ≤ n ∧ n < 32 then
    match b with
    | false => k0_off5 c (k0_off5_at ⟨n - 1, by omega⟩)
    | true => k0_off6 c (BitVec.ofNat 32 (n - 1))
  else
    match b with
    | false => k0_off3 c
    | true => k0_off4 c
theorem ooff_inb (b : Bool) (c : Dev nD) (n : ℕ) : ∀ a, ooff b c n a + S256x2048.size a ≤ S8192x4096.size a := by
  unfold ooff
  split <;> cases b
  · exact k0_off5_inb c _
  · exact k0_off6_inb c ⟨n - 1, by omega⟩
  · exact k0_off3_inb c
  · exact k0_off4_inb c

/-- The slot a step sends from, and (at the step's successor) the slot it receives in. -/
abbrev slot (u : ℕ) : ℕ := u % 2
theorem slot_lt (u : ℕ) : slot u < 2 := Nat.mod_lt u (by decide)

/-! ## The parts of a step, at a direction -/

def takeB (b : Bool) (u : ℕ) : Act F PUnit :=
  if u = 0 then pure ⟨⟩ else takeCredit F (credS b) (slot (u + 1)) (slot_lt (u + 1))

def sendB (c : Dev nD) (b : Bool) (u : ℕ) : Act F PUnit :=
  send F (comm b) (comm_whole b) (sendS b) (recvS b) (slot u) (slot (u + 1)) (slot_lt u) (slot_lt (u + 1)) (dn b c)

def prodB (c : Dev nD) (b : Bool) (u : ℕ) : Act F (FVec F S256x2048 .f32) :=
  if u < 31 then product F xBuf wBuf (xoff b c u) (xoff_inb b c u) (col b) (col_le b)
  else pure (constant S256x2048 .f32 0x00000000#32)

def arriveB (b : Bool) (u : ℕ) : Act F PUnit :=
  await F (comm b) (comm_whole b) (recvS b) (slot (u + 1)) (slot u) (slot (u + 1)) (slot_lt (u + 1)) (slot_lt u) (slot_lt (u + 1))

def leaveB (b : Bool) (u : ℕ) : Act F PUnit :=
  await F (comm b) (comm_whole b) (sendS b) (slot u) (slot (u + 1)) (slot u) (slot_lt u) (slot_lt (u + 1)) (slot_lt u)

def fillB (b : Bool) (s : ℕ) (v : FVec F S1x256x2048 .bf16) : Act F PUnit :=
  fill F (comm b) (comm_whole b) (slot s) (slot_lt s) v

def emitB (c : Dev nD) (b : Bool) (n : ℕ) (v : FVec F S256x2048 .f32) : Act F PUnit :=
  emit F outBuf (stag b) (stag_whole b) (copyS b) (ooff b c n) (ooff_inb b c n) v

/-- What arrives at step `u`, and what is done with it. -/
def midB (c : Dev nD) (b : Bool) (u : ℕ) (p : FVec F S256x2048 .f32) : Act F PUnit := do
  arriveB F b u
  let v ← loadSlot F (comm b) (slot (u + 1)) (slot_lt (u + 1))
  if u < 30 then fillB F b (u + 1) (pack (accOf v p))
  else if u = 30 then do
    fillB F b (u + 1) (pack (accOf v p))
    emitB F c b (u - 30) (accOf v p)
  else emitB F c b (u - 30) (wide v)

def giveB (c : Dev nD) (b : Bool) (u : ℕ) : Act F PUnit :=
  if u < 61 then giveCredit F (credS b) (slot u) (slot_lt u) (up b c) else pure ⟨⟩

/-- One step. -/
def stepG (c : Dev nD) (u : ℕ) : Act F PUnit := do
  takeB F false u
  sendB F c false u
  takeB F true u
  sendB F c true u
  let p ← prodB F c false u
  let q ← prodB F c true u
  midB F c false u p
  midB F c true u q
  leaveB F false u
  giveB F c false u
  leaveB F true u
  giveB F c true u

/-- The steps from `u` on, `n` of them, then the exit barrier. -/
def stepsG (c : Dev nD) (u : ℕ) : ℕ → Act F PUnit
  | 0 => part F cc0_scratch12 (up false c) (up true c)
  | n + 1 => do
    stepG F c u
    stepsG c (u + 1) n

/-- The body after it has read its device's number. -/
def bodyG (c : Dev nD) : Act F PUnit := do
  greet F (up false c) (up true c)
  seed F xBuf wBuf (comm false) (comm true) (comm_whole false) (comm_whole true) (k0_off1 c) (k0_off1_inb c)
  stepsG F c 0 62

/-- A step's three parts, then the rest, are the steps from `u` on. -/
theorem steps_cons {c : Dev nD} {u n : ℕ} {x y z k : Act F PUnit}
    (h : (x >>= fun _ => y >>= fun _ => z) = stepG F c u) (hk : k = stepsG F c (u + 1) n) :
    (x >>= fun _ => y >>= fun _ => z >>= fun _ => k) = stepsG F c u (n + 1) := by
  subst hk
  show _ = (stepG F c u >>= fun _ => stepsG F c (u + 1) n)
  rw [← h]
  simp only [bind_assoc]

theorem bind_cong {α β : Type} {x : Act F α} {k k' : α → Act F β} (h : ∀ a, k a = k' a) : (x >>= k) = (x >>= k') :=
  congrArg _ (funext h)

theorem stated_eq :
    stated () () F xBuf (Memref.isWhole_whole _) wBuf (Memref.isWhole_whole _) outBuf (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7 cc0_scratch8 cc0_scratch9 cc0_scratch10 cc0_scratch11 cc0_scratch12
      = (Prog.lift .deviceId >>= fun c => bodyG F c) := by
  unfold stated bodyG
  refine bind_cong F fun c => bind_cong F fun _ => bind_cong F fun _ => ?_
  iterate 62 refine steps_cons F (by chain_rfl) ?_
  chain_rfl

end Cert.KernelIdeal.Ring

end
-- ==== Proof.Protocol.lean ====
/-
  The ring's protocol. A device's payments in a direction are numbered: first the greeting, then by turns the
  arrival of a step's copy at the neighbour downstream and the credit for the next step to the neighbour upstream,
  and last the parting signal. A payment's number is also its level, so every wait is below what its device still owes.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's rounds, the ring's rounds, and counters for the copies to the result -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × Counters)).trans embR
instance ER_landsIn : (ER (F := F)).LandsIn (upEmb : UEmb _ 𝕄) := by unfold ER; infer_instance

/-- The program calls nothing that needs a variant. -/
abbrev 𝒱₀ : Variants := Variants.none

/-! ## The ring -/

theorem up_dn (b : Bool) (c : Dev nD) : up b (dn b c) = c := by revert b c; decide +kernel
theorem dn_up (b : Bool) (c : Dev nD) : dn b (up b c) = c := by revert b c; decide +kernel
theorem dn_eq_up (b : Bool) (c : Dev nD) : dn b c = up (!b) c := rfl
def upE (b : Bool) : Dev nD ≃ Dev nD := ⟨up b, dn b, dn_up b, up_dn b⟩

/-! ## The slots -/

/-- The slot a step sends from. -/
def sl (u : ℕ) : Fin 2 := ⟨slot u, slot_lt u⟩
theorem sl_val (u : ℕ) : (sl u : ℕ) = u % 2 := rfl
theorem sl_add_two (u : ℕ) : sl (u + 2) = sl u := Fin.ext (by simp only [sl_val]; omega)

abbrev slotR (s : Fin 2) : Rect S2x256x2048 := Rect.unit (s := S2x256x2048) ![s.val, 0, 0] S1x256x2048.size (inb_slot s.isLt)

/-- Slot `s` of a buffer of two, as a copy names it. -/
abbrev slotOf (M : Memref sig .tc .vmem S2x256x2048 .bf16) (s : Fin 2) : Memref sig .tc .vmem S256x2048 .bf16 :=
  (M.slice (slotR s) (fun _ => rfl) : Memref sig .tc .vmem S1x256x2048 .bf16).squeeze S256x2048 squeezes_S1x256x2048_S256x2048
abbrev slotM (b : Bool) (s : Fin 2) : Memref sig .tc .vmem S256x2048 .bf16 := slotOf (comm b) s

/-- A slot's contents without their leading axis. -/
def flat (v : Vec F S1x256x2048 .bf16) : Vec F S256x2048 .bf16 :=
  fun x => v (Shape.reshapeEquiv squeezes_S1x256x2048_S256x2048.numel_eq x)
theorem flat_inj {v w : Vec F S1x256x2048 .bf16} (h : flat v = flat w) : v = w := by
  funext y
  obtain ⟨x, rfl⟩ := (Shape.reshapeEquiv squeezes_S1x256x2048_S256x2048.numel_eq).surjective y
  exact congrFun h x

/-- A memref is the device's, holding `v`. -/
def memHas (A : Memref sig .tc .vmem S256x2048 .bf16) (c : Dev nD) (v : Vec F S256x2048 .bf16) : sProp 𝕄 :=
  iprop(∃ f : Buf (Elt F) (A.view.loc (c : Thread nD τ)), ⌜A.view.read (Elt F) f = v⌝ ∗ (A.view.loc (c : Thread nD τ) ↦[A.view.set]{fullShare} f))
/-- A memref is the device's. -/
def memAny (A : Memref sig .tc .vmem S256x2048 .bf16) (c : Dev nD) : sProp 𝕄 :=
  iprop(∃ f : Buf (Elt F) (A.view.loc (c : Thread nD τ)), (A.view.loc (c : Thread nD τ) ↦[A.view.set]{fullShare} f))

/-- The slot is the device's, holding `v`. -/
def slotHas (b : Bool) (c : Dev nD) (s : Fin 2) (v : Vec F S1x256x2048 .bf16) : sProp 𝕄 := memHas (slotM b s) c (flat v)
/-- The slot is the device's. -/
def slotAny (b : Bool) (c : Dev nD) (s : Fin 2) : sProp 𝕄 := memAny (F := F) (slotM b s) c

instance slotHas_storable (b : Bool) (c : Dev nD) (s : Fin 2) (v : Vec F S1x256x2048 .bf16) : BI.Storable (upEmb : UEmb _ 𝕄) (slotHas b c s v) := by
  unfold slotHas memHas; infer_instance
instance slotAny_storable (b : Bool) (c : Dev nD) (s : Fin 2) : BI.Storable (upEmb : UEmb _ 𝕄) (slotAny (F := F) b c s) := by
  unfold slotAny memAny; infer_instance

theorem memHas_any (A : Memref sig .tc .vmem S256x2048 .bf16) (c : Dev nD) (v : Vec F S256x2048 .bf16) : memHas A c v ⊢ memAny A c := by
  unfold memHas memAny
  iintro ⟨%f, -, H⟩
  iexists f
  iexact H
theorem slotHas_any (b : Bool) (c : Dev nD) (s : Fin 2) (v : Vec F S1x256x2048 .bf16) : slotHas b c s v ⊢ slotAny b c s :=
  memHas_any _ c _

/-- The amount a copy of a slot counts. -/
abbrev N : ℕ := (slotM false 0).view.dmaCredit
theorem N_pos : 0 < N := View.dmaCredit_pos _ (by decide)
theorem N_eq (b : Bool) (s : Fin 2) : (slotM b s).view.dmaCredit = N := by
  cases b <;> rfl

/-! ## Contents -/

abbrev XBuf (F : FTy → Type) : Type := (cc0_stg0_0 : Ref sig .tc).ty.Contents (Elt F)
abbrev WBuf (F : FTy → Type) : Type := (cc0_stg1_0 : Ref sig .tc).ty.Contents (Elt F)

section Contents

variable (xs : Dev nD → XBuf F) (ws : Dev nD → WBuf F)

/-- Device `c`'s product of step `u` in direction `b`. -/
def prodA (b : Bool) (c : Dev nD) (u : ℕ) : FVec F S256x2048 .f32 :=
  prodOf (xBuf.view.readAt (Elt F) (Rect.unit (s := S8192x256) (xoff b c u) S256x256.size (xoff_inb b c u)).toLoadRect (xs c))
    (wBuf.view.readAt (Elt F) (Rect.unit (s := S256x4096) ![0, col b] S256x2048.size (inb_cols (col_le b))).toLoadRect (ws c))

/-- What device `c` sends at step `u` in direction `b`. -/
def sent (b : Bool) : ℕ → Dev nD → Vec F S1x256x2048 .bf16
  | 0, c => pack (prodA xs ws b c 31)
  | u + 1, c => if u < 31 then pack (accOf (sent b u (up b c)) (prodA xs ws b c u)) else sent b u (up b c)

/-- The finished block device `c` puts in the result as its `n`-th. -/
def block (b : Bool) (c : Dev nD) (n : ℕ) : FVec F S256x2048 .f32 :=
  if n = 0 then accOf (sent xs ws b 30 (up b c)) (prodA xs ws b c 30) else wide (sent xs ws b (n + 30) (up b c))

end Contents

/-! ## The cells -/

/-- A device's cells: the greeting's, the parting's, and by direction and slot the copies' departures, arrivals and credits. -/
abbrev Kd : Type := Fin 2 ⊕ (Fin 3 × Bool × Fin 2)

abbrev barK : Kd := .inl 0
abbrev extK : Kd := .inl 1
abbrev sndK (b : Bool) (s : Fin 2) : Kd := .inr (0, b, s)
abbrev rcvK (b : Bool) (s : Fin 2) : Kd := .inr (1, b, s)
abbrev crdK (b : Bool) (s : Fin 2) : Kd := .inr (2, b, s)

abbrev dmaAt (T : DmaSems sig S2) (s : Fin 2) : DmaSem sig :=
  ((T.slice (Rect.unit (s := S2) ![s.val] S1.size (inb_sem s.isLt)) : DmaSems sig S1).squeeze S_ squeezes_S1_S_ : DmaSems sig S_).sem
abbrev regAt (T : Sems sig S2) (s : Fin 2) : Sem sig :=
  ((T.slice (Rect.unit (s := S2) ![s.val] S1.size (inb_sem s.isLt)) : Sems sig S1).squeeze S_ squeezes_S1_S_ : Sems sig S_).sem
abbrev barS : Sem sig := (SemArray.scalar (sig.barrier 0 rfl) : Sems sig S_).sem

def ksem : Kd → SemLoc sig
  | .inl 0 => .reg barS
  | .inl 1 => .reg cc0_scratch12.sem
  | .inr (0, b, s) => .dma (dmaAt (sendS b) s)
  | .inr (1, b, s) => .dma (dmaAt (recvS b) s)
  | .inr (2, b, s) => .reg (regAt (credS b) s)

def kdList : List Kd := [barK, extK, sndK false 0, sndK false 1, sndK true 0, sndK true 1, rcvK false 0, rcvK false 1, rcvK true 0, rcvK true 1,
  crdK false 0, crdK false 1, crdK true 0, crdK true 1]

/-- Which cell a semaphore is. -/
def kdOf (sm : SemLoc sig) : Option Kd := kdList.find? fun k => decide (ksem k = sm)
theorem kdOf_ksem (k : Kd) : kdOf (ksem k) = some k := by revert k; decide +kernel

theorem ksem_inj : Function.Injective ksem := fun k k' h => by
  have h' := congrArg kdOf h
  rw [kdOf_ksem, kdOf_ksem] at h'
  exact Option.some.inj h'

abbrev kcell (ck : Dev nD × Kd) : GSem nD τ sig := ((ck.1 : Thread nD τ), ksem ck.2)
theorem kcell_inj : Function.Injective kcell := by
  rintro ⟨c, k⟩ ⟨c', k'⟩ h
  have h1 : c = c' := congrArg (fun g : GSem nD τ sig => g.1.1) h
  have h2 : ksem k = ksem k' := congrArg Prod.snd h
  rw [h1, ksem_inj h2]

/-! ## The schedule -/

/-- Direction `b`'s next slot downstream is free to be written at step `u`. -/
def Free (b : Bool) (c : Dev nD) (u : ℕ) : sProp 𝕄 :=
  iprop(slotAny b (dn b c) (sl (u + 1)) ∗ reached ER (kcell (dn b c, rcvK b (sl (u + 1)))) (u / 2))

def dutiesK : Kd → ℕ → Finset Bool
  | .inl _, R => if R = 0 then Finset.univ else ∅
  | .inr (0, _, _), R => if R < 31 then {false} else ∅
  | .inr (1, _, _), R => if R < 31 then {false} else ∅
  | .inr (2, _, s), R => if 2 * R + s.val + 1 < 62 then {false} else ∅

def amountK : Kd → ℕ
  | .inl _ => 1
  | .inr (0, _, _) => N
  | .inr (1, _, _) => N
  | .inr (2, _, _) => 1

theorem amountK_pos (k : Kd) : 0 < amountK k := by
  match k with
  | .inl _ => exact Nat.one_pos
  | .inr (0, _, _) => exact N_pos
  | .inr (1, _, _) => exact N_pos
  | .inr (2, _, _) => exact Nat.one_pos

section Schedule

variable (xs : Dev nD → XBuf F) (ws : Dev nD → WBuf F)

/-- Step `u`'s copy has arrived: the slot holds what the neighbour upstream sent, which waits for the next credit. -/
def Arrived (b : Bool) (c : Dev nD) (u : ℕ) : sProp 𝕄 :=
  iprop(slotHas b c (sl (u + 1)) (sent xs ws b u (up b c)) ∗ reached ER (kcell (up b c, crdK b (sl u))) (u / 2))

def payK (c : Dev nD) : Kd → ℕ → Bool → sProp 𝕄
  | .inl 0, _, b => Free b c 0
  | .inl 1, _, _ => iprop(emp)
  | .inr (0, b, s), _, _ => slotAny b c s
  | .inr (1, b, s), R, _ => Arrived xs ws b c (2 * R + 1 - s.val)
  | .inr (2, b, s), R, _ => Free b c (2 * R + s.val + 1)

def ringRd : Schedule (GSem nD τ sig) Bool 𝕄 where
  duties g r := match kdOf g.2 with | some k => dutiesK k r | none => ∅
  amount g _ _ := match kdOf g.2 with | some k => amountK k | none => 1
  payload g r d := match kdOf g.2 with | some k => payK xs ws g.1.1 k r d | none => iprop(emp)
  amount_pos g r d h := by
    cases hk : kdOf g.2 with
    | none => exact Nat.one_pos
    | some k => exact amountK_pos k

theorem duties_eq (c : Dev nD) (k : Kd) (r : ℕ) : (ringRd xs ws).duties (kcell (c, k)) r = dutiesK k r := by
  show (match kdOf (ksem k) with | some k => dutiesK k r | none => ∅) = _
  rw [kdOf_ksem]
theorem amount_eq (c : Dev nD) (k : Kd) (r : ℕ) (d : Bool) : (ringRd xs ws).amount (kcell (c, k)) r d = amountK k := by
  show (match kdOf (ksem k) with | some k => amountK k | none => 1) = _
  rw [kdOf_ksem]
theorem payload_eq (c : Dev nD) (k : Kd) (r : ℕ) (d : Bool) : (ringRd xs ws).payload (kcell (c, k)) r d = payK xs ws c k r d := by
  show (match kdOf (ksem k) with | some k => payK xs ws c k r d | none => iprop(emp)) = _
  rw [kdOf_ksem]

instance Free_storable (b : Bool) (c : Dev nD) (u : ℕ) : BI.Storable (upEmb : UEmb _ 𝕄) (Free (F := F) b c u) := by unfold Free; infer_instance
instance Arrived_storable (b : Bool) (c : Dev nD) (u : ℕ) : BI.Storable (upEmb : UEmb _ 𝕄) (Arrived xs ws b c u) := by unfold Arrived; infer_instance
instance ringRd_storable (g : GSem nD τ sig) (r : ℕ) (d : Bool) : BI.Storable (upEmb : UEmb _ 𝕄) ((ringRd xs ws).payload g r d) := by
  show BI.Storable (upEmb : UEmb _ 𝕄) (match kdOf g.2 with | some k => payK xs ws g.1.1 k r d | none => iprop(emp))
  cases kdOf g.2 with
  | none => infer_instance
  | some k =>
    match k with
    | .inl 0 => exact Free_storable _ _ _
    | .inl 1 => exact (inferInstance : BI.Storable (upEmb : UEmb _ 𝕄) (iprop(emp) : sProp 𝕄))
    | .inr (0, b, s) => exact slotAny_storable _ _ _
    | .inr (1, b, s) => exact Arrived_storable _ _ _ _ _
    | .inr (2, b, s) => exact Free_storable _ _ _

theorem expect_of (c : Dev nD) (k : Kd) (r : ℕ) {D : Finset Bool} (h : dutiesK k r = D) :
    (ringRd xs ws).expect (kcell (c, k)) r = D.card * amountK k := by
  unfold Schedule.expect
  rw [duties_eq, h]
  unfold Schedule.amountOf
  rw [Finset.sum_congr rfl fun d _ => amount_eq xs ws c k r d, Finset.sum_const, smul_eq_mul]

end Schedule

/-! ## The payments -/

/-- The cell of payment `j`, its round, its duty, its amount, and the device it goes to. -/
def pk (b : Bool) (j : ℕ) : Kd :=
  if j = 0 then barK else if j = 124 then extK else if j % 2 = 0 then crdK b (sl (j / 2 + 1)) else rcvK b (sl (j / 2 + 1))
def pr (j : ℕ) : ℕ := if j = 0 ∨ j = 124 then 0 else if j % 2 = 0 then (j / 2 - 1) / 2 else j / 2 / 2
def pd (b : Bool) (j : ℕ) : Bool := if j = 0 ∨ j = 124 then b else false
def pto (b : Bool) (j : ℕ) (c : Dev nD) : Dev nD := if j % 2 = 0 then up b c else dn b c
abbrev pa (b : Bool) (j : ℕ) : ℕ := amountK (pk b j)

theorem pk_zero (b : Bool) : pk b 0 = barK := rfl
theorem pk_last (b : Bool) : pk b 124 = extK := rfl
theorem pk_odd (b : Bool) (u : ℕ) : pk b (2 * u + 1) = rcvK b (sl (u + 1)) := by
  unfold pk
  rw [if_neg (by omega), if_neg (by omega), if_neg (by omega), show (2 * u + 1) / 2 = u by omega]
theorem pk_even (b : Bool) (u : ℕ) (h : u + 1 < 62) : pk b (2 * (u + 1)) = crdK b (sl u) := by
  unfold pk
  rw [if_neg (by omega), if_neg (by omega), if_pos (by omega), show 2 * (u + 1) / 2 + 1 = u + 2 by omega, sl_add_two]
theorem pr_odd (u : ℕ) : pr (2 * u + 1) = u / 2 := by
  unfold pr
  rw [if_neg (by omega), if_neg (by omega), show (2 * u + 1) / 2 = u by omega]
theorem pr_even (u : ℕ) (h : u + 1 < 62) : pr (2 * (u + 1)) = u / 2 := by
  unfold pr
  rw [if_neg (by omega), if_pos (by omega), show 2 * (u + 1) / 2 - 1 = u by omega]
theorem pd_odd (b : Bool) (u : ℕ) : pd b (2 * u + 1) = false := if_neg (by omega)
theorem pd_even (b : Bool) (u : ℕ) (h : u + 1 < 62) : pd b (2 * (u + 1)) = false := if_neg (by omega)
theorem pto_odd (b : Bool) (u : ℕ) (c : Dev nD) : pto b (2 * u + 1) c = dn b c := if_neg (by omega)
theorem pto_even (b : Bool) (u : ℕ) (c : Dev nD) : pto b (2 * u) c = up b c := if_pos (by omega)

def ptoE (b : Bool) (j : ℕ) : Dev nD ≃ Dev nD := if j % 2 = 0 then upE b else (upE b).symm
theorem ptoE_apply (b : Bool) (j : ℕ) (c : Dev nD) : ptoE b j c = pto b j c := by
  unfold ptoE pto
  split <;> rfl

/-- Every payment is among its cell's duties. -/
theorem pd_mem (b : Bool) (j : ℕ) (hj : j < 125) : pd b j ∈ dutiesK (pk b j) (pr j) := by
  rcases Nat.lt_or_ge j 1 with h0 | h0
  · obtain rfl : j = 0 := by omega
    show _ ∈ (if (0 : ℕ) = 0 then (Finset.univ : Finset Bool) else ∅)
    rw [if_pos rfl]; exact Finset.mem_univ _
  rcases Nat.lt_or_ge 123 j with h1 | h1
  · obtain rfl : j = 124 := by omega
    show _ ∈ (if (0 : ℕ) = 0 then (Finset.univ : Finset Bool) else ∅)
    rw [if_pos rfl]; exact Finset.mem_univ _
  rcases Nat.mod_two_eq_zero_or_one j with h | h
  · obtain ⟨u, rfl⟩ : ∃ u, j = 2 * (u + 1) := ⟨j / 2 - 1, by omega⟩
    rw [pk_even b u (by omega), pr_even u (by omega), pd_even b u (by omega)]
    show _ ∈ (if 2 * (u / 2) + (sl u).val + 1 < 62 then ({false} : Finset Bool) else ∅)
    rw [sl_val, if_pos (by omega)]; exact Finset.mem_singleton_self _
  · obtain ⟨u, rfl⟩ : ∃ u, j = 2 * u + 1 := ⟨j / 2, by omega⟩
    rw [pk_odd, pr_odd, pd_odd]
    show _ ∈ (if u / 2 < 31 then ({false} : Finset Bool) else ∅)
    rw [if_pos (by omega)]; exact Finset.mem_singleton_self _

/-! ## What is owed -/

def due1 (b : Bool) (j : ℕ) (c : Dev nD) : CellTallies nD τ sig ℕ := tallyAt (kcell (pto b j c, pk b j)) (j + 1) (pa b j)
def due (b : Bool) (k : ℕ) (c : Dev nD) : CellTallies nD τ sig ℕ := ∑ j ∈ Finset.Ico k 125, due1 b j c
def owed (c : Dev nD) (k k' : ℕ) : CellTallies nD τ sig ℕ := due false k c + due true k' c

theorem Ico_peel {k n : ℕ} (hk : k < n) : Finset.Ico k n = insert k (Finset.Ico (k + 1) n) := by
  ext j
  rw [Finset.mem_insert, Finset.mem_Ico, Finset.mem_Ico]
  omega
theorem due_peel (b : Bool) {k : ℕ} (hk : k < 125) (c : Dev nD) : due b k c = due b (k + 1) c + due1 b k c := by
  unfold due
  rw [Ico_peel hk, Finset.sum_insert (by rw [Finset.mem_Ico]; omega), add_comm]
theorem due_end (b : Bool) (c : Dev nD) : due b 125 c = 0 := by unfold due; rw [Finset.Ico_self, Finset.sum_empty]

/-- What is owed after `k` payments in direction `b` and `k'` in the other. -/
def owedAt (b : Bool) (c : Dev nD) (k k' : ℕ) : CellTallies nD τ sig ℕ := due b k c + due (!b) k' c
theorem owedAt_false (c : Dev nD) (k k' : ℕ) : owedAt false c k k' = owed c k k' := rfl
theorem owedAt_true (c : Dev nD) (k k' : ℕ) : owedAt true c k k' = owed c k' k := by
  show due true k c + due false k' c = _
  rw [add_comm]; rfl
theorem owedAt_peel (b : Bool) (c : Dev nD) {k : ℕ} (k' : ℕ) (hk : k < 125) : owedAt b c k k' = owedAt b c (k + 1) k' + due1 b k c := by
  unfold owedAt
  rw [due_peel b hk, add_right_comm]
theorem owedAt_end (b : Bool) (c : Dev nD) : owedAt b c 125 125 = 0 := by
  unfold owedAt; rw [due_end, due_end, add_zero]

theorem due_pos {b : Bool} {k : ℕ} {c : Dev nD} {g : GSem nD τ sig} {ι : ℕ} (h : 0 < due b k c g ι) : g.1.2 = .tc ∧ k < ι ∧ ι < 126 := by
  unfold due at h
  rw [Finset.sum_apply, Finsupp.finset_sum_apply] at h
  obtain ⟨j, hj, hpos⟩ : ∃ j ∈ Finset.Ico k 125, 0 < due1 b j c g ι := by
    by_contra hc
    push Not at hc
    exact absurd h (by rw [Finset.sum_eq_zero fun j hj => Nat.le_zero.mp (hc j hj)]; exact lt_irrefl _)
  unfold due1 at hpos
  rw [tallyAt_apply] at hpos
  by_cases hg : g = kcell (pto b j c, pk b j) ∧ ι = j + 1
  · rw [Finset.mem_Ico] at hj
    exact ⟨by rw [hg.1], by omega, by omega⟩
  · rw [if_neg hg] at hpos; exact absurd hpos (lt_irrefl _)

theorem owedAt_pos {b : Bool} {k k' : ℕ} {c : Dev nD} {g : GSem nD τ sig} {ι : ℕ} (h : 0 < owedAt b c k k' g ι) : g.1.2 = .tc ∧ min k k' < ι ∧ ι < 126 := by
  rcases Nat.eq_zero_or_pos (due b k c g ι) with h0 | h0
  · have : 0 < due (!b) k' c g ι := by
      have e : owedAt b c k k' g ι = due b k c g ι + due (!b) k' c g ι := rfl
      omega
    obtain ⟨a1, a2, a3⟩ := due_pos this
    exact ⟨a1, by omega, a3⟩
  · obtain ⟨a1, a2, a3⟩ := due_pos h0
    exact ⟨a1, by omega, a3⟩

/-! ## Levels -/

@[irreducible] def L : GSem nD τ sig → Finset ℕ := fun g => if g.1.2 = .tc then Finset.range 126 else ∅
@[irreducible] def lv : GSem nD τ sig → ℕ → ℕ := fun _ ι => ι

theorem mem_L {g : GSem nD τ sig} {ι : ℕ} (hg : g.1.2 = .tc) (hι : ι < 126) : ι ∈ L g := by
  unfold L
  rw [if_pos hg]; exact Finset.mem_range.mpr hι
theorem lv_eq (g : GSem nD τ sig) (ι : ℕ) : lv g ι = ι := by unfold lv; rfl

theorem mayWait_owed (b : Bool) (c : Dev nD) (sm : SemLoc sig) (ι k k' : ℕ) (hk : ι ≤ k) (hk' : ι ≤ k') (hι : ι < 126) :
    (levAts L lv : sProp 𝕄) ⊢ MayWait (c : Thread nD τ) sm ι (owedAt b c k k') :=
  MayOwe.of_cut (L := L) (lev := lv) ι
    (fun p hp => by rw [Finset.mem_singleton.mp hp]; exact mem_L rfl hι)
    (fun g ι' h => by
      obtain ⟨h1, h2, h3⟩ := owedAt_pos h
      exact mem_L h1 h3)
    (fun p hp => by rw [Finset.mem_singleton.mp hp, lv_eq])
    (fun g ι' h => by
      obtain ⟨h1, h2, h3⟩ := owedAt_pos h
      rw [lv_eq]
      omega)

end Cert.KernelIdeal.Ring
-- ==== Proof.Moves.lean ====
/-
  What each piece of a step does to what the device holds: the signals, the waits, the copies, the loads and the stores,
  each once, at a symbolic direction, slot and step.
-/
module

public import proofs.«01_k».proof.Proof.Protocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Reads and writes of a slot -/

/-- Writing a whole buffer through its full rectangle, then reading it. -/
theorem stag_read_write (b : Bool) (f : (stag b).view.ty.Contents (Elt F)) (w : Vec F S256x2048 .f32) :
    (stag b).view.read (Elt F) (((stag b).access (Rect.unit (s := S256x2048) ![0, 0] S256x2048.size Gen.inb_S256x2048_S256x2048_0_0)).write (Elt F) f w Finset.univ) = w := by
  funext y
  have e : (Rect.unit (s := S256x2048) ![0, 0] S256x2048.size Gen.inb_S256x2048_S256x2048_0_0).emb y = y := by
    funext a
    refine Fin.ext ?_
    match a with
    | 0 => show 0 + 1 * (y 0).val = (y 0).val; omega
    | 1 => show 0 + 1 * (y 1).val = (y 1).val; omega
  have h := View.read_slice_write_emb (v := (stag b).view) (Val := Elt F) (Rect.unit (s := S256x2048) ![0, 0] S256x2048.size Gen.inb_S256x2048_S256x2048_0_0) f w
    (M := Finset.univ) (x := y) (Finset.mem_univ _)
  rw [e] at h
  exact h

/-! ## What every device may use -/

section Moves

variable (xs : Dev nD → XBuf F) (ws : Dev nD → WBuf F) (K : Dev nD × Kd → ℕ)

/-- The cells' invariants, that each has reached its first round, and the levels. -/
def Ctx : sProp 𝕄 :=
  iprop((bigSep Finset.univ fun ck : Dev nD × Kd => cellInv ER (ringRd xs ws) (K ck) (kcell ck))
    ∗ (bigSep Finset.univ fun ck : Dev nD × Kd => reached ER (kcell ck) 0) ∗ levAts L lv)

instance Ctx_persistent : Persistent (Ctx xs ws K) := by unfold Ctx; infer_instance

theorem inv_at (ck : Dev nD × Kd) :
    (bigSep Finset.univ fun ck : Dev nD × Kd => (cellInv ER (ringRd xs ws) (K ck) (kcell ck) : sProp 𝕄)) ⊢ cellInv ER (ringRd xs ws) (K ck) (kcell ck) :=
  bigSep_elim (Finset.mem_univ ck)
theorem reached_at (ck : Dev nD × Kd) :
    (bigSep Finset.univ fun ck : Dev nD × Kd => (reached ER (kcell ck) 0 : sProp 𝕄)) ⊢ reached ER (kcell ck) 0 :=
  bigSep_elim (Finset.mem_univ ck)
theorem Ctx_inv (ck : Dev nD × Kd) : Ctx xs ws K ⊢ cellInv ER (ringRd xs ws) (K ck) (kcell ck) := by
  unfold Ctx
  iintro ⟨H, -, -⟩
  iapply (inv_at xs ws K ck) $$ H
theorem Ctx_reached (ck : Dev nD × Kd) : Ctx xs ws K ⊢ reached ER (kcell ck) 0 := by
  unfold Ctx
  iintro ⟨-, H, -⟩
  iapply (reached_at ck) $$ H
theorem Ctx_lev : Ctx xs ws K ⊢ levAts L lv := by
  unfold Ctx
  iintro ⟨-, -, H⟩
  iexact H

/-- What the device owes, whatever it has recorded of its waits. -/
def owesE (c : Dev nD) (O : CellTallies nD τ sig ℕ) : sProp 𝕄 := iprop(∃ W, owes (c : Thread nD τ) O W)

/-- The cell's owner is at the start of round `R`. -/
def pos (c : Dev nD) (k : Kd) (R : ℕ) : sProp 𝕄 := iprop(atPos ER (kcell (c, k)) R ∅ 0 ∗ reached ER (kcell (c, k)) R)

/-- The token of payment `j` in direction `b`. -/
def payTok (b : Bool) (c : Dev nD) (j : ℕ) : sProp 𝕄 := dutyTok ER (kcell (pto b j c, pk b j)) (pr j) (pd b j)

/-- The credit device `c` has for the payment `j` made to it in direction `b`. -/
def credOf (b : Bool) (c : Dev nD) (j : ℕ) : sProp 𝕄 := cred (tallyAt (kcell (c, pk b j)) (j + 1) (pa b j))

/-- A program's weakest precondition on device `c`. -/
abbrev WP {α : Type} (c : Dev nD) (p : Act F α) (Q : α → sProp 𝕄) : sProp 𝕄 :=
  wp frame (wpE (defs₀ (F := F)) 𝒱₀ (c : Thread nD τ) none) Set.univ p Q

/-! ## Signals and waits -/

theorem wp_signal_at (c dst : Dev nD) {g : GSem nD τ sig} {sem : Sem sig} (hg : g = ((dst : Thread nD τ), .reg sem)) {κ : ℕ} {r : ℕ} {d : Bool}
    (hd : d ∈ (ringRd xs ws).duties g r) (ha : (ringRd xs ws).amount g r d = 1) (ι : ℕ) {O₀ : CellTallies nD τ sig ℕ} (O : CellTallies nD τ sig ℕ)
    (hO : O₀ = O + tallyAt g ι 1) (Q : PUnit → sProp 𝕄) :
    iprop(cellInv ER (ringRd xs ws) κ g ∗ owesE c O₀ ∗ dutyTok ER g r d ∗ (ringRd xs ws).payload g r d ∗ reached ER g r)
      ⊢ iprop((owesE c O -∗ Q ⟨⟩) -∗ WP c (semSignalWord dst sem 1#32) Q) := by
  subst hg
  unfold owesE
  iintro ⟨HI, ⟨%W, HO⟩, Ht, Hp, Hr⟩ Hk
  simp only [semSignalWord, Prog.lift, Prog.bind_op, Prog.bind_ret, Prog.pure_eq_ret, wp_deviceId]
  iapply (Rounds.wp_signal 𝒱₀ ER (ringRd xs ws) (c : Thread nD τ) none (dst := (dst : Thread nD τ)) (κ := κ)
      (d := d) hd ha ι O hO) $$ [HI HO Ht Hp Hr]
  · isplitl [HI]; · iexact HI
    isplitl [HO]; · iexact HO
    isplitl [Ht]; · iexact Ht
    isplitl [Hp]; · iexact Hp
    iexact Hr
  iintro HO
  rw [wp_ret]
  imodintro
  iapply Hk
  iexists W
  iexact HO

theorem wp_pay (b : Bool) (c : Dev nD) (j k' : ℕ) (hj : j < 125) {sem : Sem sig} (hs : ksem (pk b j) = .reg sem) (h1 : pa b j = 1)
    (Q : PUnit → sProp 𝕄) :
    iprop(Ctx xs ws K ∗ owesE c (owedAt b c j k') ∗ payTok b c j ∗ payK xs ws (pto b j c) (pk b j) (pr j) (pd b j)
        ∗ reached ER (kcell (pto b j c, pk b j)) (pr j))
      ⊢ iprop((owesE c (owedAt b c (j + 1) k') -∗ Q ⟨⟩) -∗ WP c (semSignalWord (pto b j c) sem 1#32) Q) := by
  have hO : owedAt b c j k' = owedAt b c (j + 1) k' + tallyAt (kcell (pto b j c, pk b j)) (j + 1) 1 := by
    rw [owedAt_peel b c k' hj]; unfold due1; rw [h1]
  iintro ⟨#HC, HO, Ht, Hp, Hr⟩ Hk
  iapply (wp_signal_at xs ws c (pto b j c) (g := kcell (pto b j c, pk b j)) (by rw [← hs]) (κ := K (pto b j c, pk b j)) (r := pr j) (d := pd b j)
      (by rw [duties_eq]; exact pd_mem b j hj) (by rw [amount_eq]; exact h1) (j + 1) (owedAt b c (j + 1) k') hO Q) $$ [HC HO Ht Hp Hr]
  · isplitl [HC]; · iapply (Ctx_inv xs ws K (pto b j c, pk b j)); iexact HC
    isplitl [HO]; · iexact HO
    isplitl [Ht]; · unfold payTok; iexact Ht
    isplitl [Hp]; · iapply (Entails.of_eq (payload_eq xs ws (pto b j c) (pk b j) (pr j) (pd b j)).symm); iexact Hp
    iexact Hr
  iexact Hk

theorem wp_cell {c : Dev nD} {w : TpuEff nD τ sig (Elt F) Λ₀ .tc PUnit} {k : Kd} (R : ℕ) {D : Finset Bool} (hD : dutiesK k R = D) {n : ℕ}
    (hn : D.card * amountK k = n) (ι : ℕ) {O : CellTallies nD τ sig ℕ}
    (hw : ∀ K' : PUnit → sProp 𝕄, wpE (defs₀ (F := F)) 𝒱₀ (c : Thread nD τ) none Set.univ w K' = waitSpec (c : Thread nD τ) Set.univ (ksem k) n K')
    (hmay : (levAts L lv : sProp 𝕄) ⊢ MayWait (c : Thread nD τ) (ksem k) ι O) (Q : PUnit → sProp 𝕄) :
    iprop(Ctx xs ws K ∗ cred (tallyAt (kcell (c, k)) ι n) ∗ owesE c O ∗ pos c k R)
      ⊢ iprop(((owesE c O ∗ pos c k (R + 1) ∗ bigSep D (fun d => payK xs ws c k R d)) -∗ Q ⟨⟩) -∗ WP c (Prog.lift w) Q) := by
  unfold owesE pos
  rw [show (Prog.lift w : Act F PUnit) = Prog.op w Prog.ret from rfl]
  iintro ⟨#HC, Hc, ⟨%W, HO⟩, Hat, -⟩ Hk
  ihave HI := (Ctx_inv xs ws K (c, k)) $$ HC
  have hmay' : Ctx xs ws K ⊢ MayWait (c : Thread nD τ) (ksem k) ι O := BIBase.Entails.trans (@Ctx_lev F _ xs ws K) hmay
  have hm : 0 + n = (ringRd xs ws).expect ((c : Thread nD τ), ksem k) R := by
    rw [Nat.zero_add, ← hn]; exact (expect_of xs ws c k R hD).symm
  iapply (Rounds.wp_wait_rest_token 𝒱₀ ER (ringRd xs ws) (c : Thread nD τ) none (w := w) (sm := ksem k) (k' := n) (k := Prog.ret) (κ := K (c, k)) hw
      (Set.mem_univ _) ι (O := O) (W := W) (R := R) (m := 0) (T := ∅) hm) $$ [HI Hc HO Hat]
  · isplitl [HI]; · iexact HI
    isplitl [Hc]; · iexact Hc
    isplitl [HO]; · iexact HO
    isplitr; · iapply hmay'; iexact HC
    iexact Hat
  iintro ⟨HO, Hat, Hr, Hp⟩
  rw [wp_ret]
  imodintro
  iapply Hk
  isplitl [HO]; · iexists _; iexact HO
  isplitl [Hat Hr]
  · isplitl [Hat] <;> iassumption
  iapply (Entails.of_eq (by rw [Finset.sdiff_empty, duties_eq, hD]; exact bigSep_congr fun d _ => payload_eq xs ws c k R d)) $$ Hp

/-! ## The copies between devices -/

theorem wp_copy_at (c d : Dev nD) {src dst : Memref sig .tc .vmem S256x2048 .bf16} {sS sR : DmaSem sig} {g₁ g₂ : GSem nD τ sig}
    (hg₁ : g₁ = ((c : Thread nD τ), .dma sS)) (hg₂ : g₂ = ((d : Thread nD τ), .dma sR)) {hsc : dst.view.ref.isScScratch = false}
    {hsrc : src.view.WordExact} {hdst : dst.view.WordExact} {hsem : DmaTarget.Typed .vmem (.dma sR) (.remote (Dev.tc d) dst (.dma sS) hsc)}
    {κ₁ κ₂ r₁ r₂ : ℕ} (hd₁ : false ∈ (ringRd xs ws).duties g₁ r₁) (hd₂ : false ∈ (ringRd xs ws).duties g₂ r₂) (ι ι' n : ℕ)
    (hN : dst.view.dmaCredit = n) (hk₁ : (ringRd xs ws).amount g₁ r₁ false = n) (hk₂ : (ringRd xs ws).amount g₂ r₂ false = n)
    {O₀ : CellTallies nD τ sig ℕ} (O : CellTallies nD τ sig ℕ) (hO : O₀ = O + tallyAt g₂ ι n) {v : Vec F S256x2048 .bf16} {Z : sProp 𝕄}
    (hp₁ : memAny src c ⊢ (ringRd xs ws).payload g₁ r₁ false) (hp₂ : iprop(memHas dst d v ∗ Z) ⊢ (ringRd xs ws).payload g₂ r₂ false) (Q : PUnit → sProp 𝕄) :
    iprop(cellInv ER (ringRd xs ws) κ₁ g₁ ∗ cellInv ER (ringRd xs ws) κ₂ g₂ ∗ memHas src c v ∗ memAny dst d ∗ Z ∗ owesE c O₀
        ∗ dutyTok ER g₁ r₁ false ∗ reached ER g₁ r₁ ∗ dutyTok ER g₂ r₂ false ∗ reached ER g₂ r₂)
      ⊢ iprop(((cred (tallyAt g₁ ι' n) ∗ owesE c O) -∗ Q ⟨⟩)
          -∗ WP c (Prog.lift (.enqueueDma src (.remote (Dev.tc d) dst (.dma sS) hsc) (.dma sR) hsrc hdst hsem)) Q) := by
  subst hg₁ hg₂
  unfold owesE memHas memAny
  rw [show (Prog.lift (.enqueueDma src (.remote (Dev.tc d) dst (.dma sS) hsc) (.dma sR) hsrc hdst hsem) : Act F PUnit)
      = Prog.op (.enqueueDma src (.remote (Dev.tc d) dst (.dma sS) hsc) (.dma sR) hsrc hdst hsem) Prog.ret from rfl]
  iintro ⟨HI1, HI2, ⟨%fs, %hfs, Hs⟩, ⟨%fd, Hd⟩, HZ, ⟨%W, HO⟩, Ht1, Hr1, Ht2, Hr2⟩ Hk
  iapply (Rounds.wp_send_pointsTo_with 𝒱₀ ER (ringRd xs ws) (c : Thread nD τ) none (c' := (d : Thread nD τ)) (src := src) (dst := dst)
      (κ₁ := κ₁) (κ₂ := κ₂) (fs := fs) (fd := fd) (F := Z) hd₁ hd₂ ι ι' n hN hk₁ hk₂ O hO (W := W)
      (by refine BIBase.Entails.trans ?_ hp₁; unfold memAny; iintro H; iexists fs; iexact H)
      (by
        refine BIBase.Entails.trans (sep_mono_left ?_) hp₂
        unfold memHas
        iintro H
        iexists (dst.view.write (Elt F) fd (src.view.read (Elt F) fs) Finset.univ)
        isplitr
        · ipureintro
          rw [← hfs]
          exact View.read_write_univ _ _
        iexact H)) $$ [HI1 HI2 Hs Hd HO Ht1 Hr1 Ht2 Hr2 HZ]
  · isplitl [HI1]; · iexact HI1
    isplitl [HI2]; · iexact HI2
    isplitl [Hs]; · iexact Hs
    isplitl [Hd HZ]
    · isplitl [Hd]; · iexact Hd
      iexact HZ
    isplitl [HO]; · iexact HO
    isplitl [Ht1]; · iexact Ht1
    isplitl [Hr1]; · iexact Hr1
    isplitl [Ht2]; · iexact Ht2
    iexact Hr2
  iintro ⟨Hc, HO⟩
  rw [wp_ret]
  imodintro
  iapply Hk
  isplitl [Hc]; · iexact Hc
  iexists W
  iexact HO

theorem wp_sendB (b : Bool) (c : Dev nD) (u k' : ℕ) (hu : u < 62) (Q : PUnit → sProp 𝕄) :
    iprop(Ctx xs ws K ∗ slotHas b c (sl u) (sent xs ws b u c) ∗ Free b c u ∗ owesE c (owedAt b c (2 * u + 1) k')
        ∗ dutyTok ER (kcell (c, sndK b (sl u))) (u / 2) false ∗ reached ER (kcell (c, sndK b (sl u))) (u / 2)
        ∗ payTok b c (2 * u + 1) ∗ reached ER (kcell (c, crdK b (sl u))) (u / 2))
      ⊢ iprop(((cred (tallyAt (kcell (c, sndK b (sl u))) 0 N) ∗ owesE c (owedAt b c (2 * u + 2) k')) -∗ Q ⟨⟩) -∗ WP c (sendB F c b u) Q) := by
  have hd₁ : false ∈ (ringRd xs ws).duties (kcell (c, sndK b (sl u))) (u / 2) := by
    rw [duties_eq]; show false ∈ (if u / 2 < 31 then ({false} : Finset Bool) else ∅)
    rw [if_pos (by omega)]; exact Finset.mem_singleton_self _
  have hd₂ : false ∈ (ringRd xs ws).duties (kcell (dn b c, rcvK b (sl (u + 1)))) (u / 2) := by
    rw [duties_eq]; show false ∈ (if u / 2 < 31 then ({false} : Finset Bool) else ∅)
    rw [if_pos (by omega)]; exact Finset.mem_singleton_self _
  have hO : owedAt b c (2 * u + 1) k' = owedAt b c (2 * u + 2) k' + tallyAt (kcell (dn b c, rcvK b (sl (u + 1)))) (2 * u + 2) N := by
    rw [owedAt_peel b c k' (by omega : 2 * u + 1 < 125)]; unfold due1 pa; rw [pk_odd, pto_odd]; rfl
  have hrnd : 2 * (u / 2) + 1 - (sl (u + 1)).val = u := by rw [sl_val]; omega
  have hp₁ : memAny (slotM b (sl u)) c ⊢ (ringRd xs ws).payload (kcell (c, sndK b (sl u))) (u / 2) false := by
    rw [payload_eq]; exact .rfl
  have hp₂ : iprop(memHas (slotM b (sl (u + 1))) (dn b c) (flat (sent xs ws b u c)) ∗ reached ER (kcell (c, crdK b (sl u))) (u / 2))
      ⊢ (ringRd xs ws).payload (kcell (dn b c, rcvK b (sl (u + 1)))) (u / 2) false := by
    rw [payload_eq]
    show _ ⊢ Arrived xs ws b (dn b c) (2 * (u / 2) + 1 - (sl (u + 1)).val)
    rw [hrnd]
    unfold Arrived slotHas
    rw [up_dn]
  unfold payTok Free
  rw [pto_odd, pk_odd, pr_odd, pd_odd]
  iintro ⟨#HC, Hs, ⟨Hd, Hrd⟩, HO, Hts, Hrs, Htd, Hrc⟩ Hk
  ihave HI1 := (Ctx_inv xs ws K (c, sndK b (sl u))) $$ HC
  ihave HI2 := (Ctx_inv xs ws K (dn b c, rcvK b (sl (u + 1)))) $$ HC
  unfold sendB send
  iapply (wp_copy_at xs ws c (dn b c) (src := slotM b (sl u)) (dst := slotM b (sl (u + 1))) (g₁ := kcell (c, sndK b (sl u)))
      (g₂ := kcell (dn b c, rcvK b (sl (u + 1)))) rfl rfl hd₁ hd₂ (2 * u + 2) 0 N (N_eq b _) (amount_eq xs ws c (sndK b (sl u)) _ _)
      (amount_eq xs ws (dn b c) (rcvK b (sl (u + 1))) _ _) (owedAt b c (2 * u + 2) k') hO hp₁ hp₂ Q) $$ [HI1 HI2 Hs Hd HO Hts Hrs Htd Hrd Hrc]
  · isplitl [HI1]; · iexact HI1
    isplitl [HI2]; · iexact HI2
    isplitl [Hs]; · unfold slotHas; iexact Hs
    isplitl [Hd]; · unfold slotAny; iexact Hd
    isplitl [Hrc]; · iexact Hrc
    isplitl [HO]; · iexact HO
    isplitl [Hts]; · iexact Hts
    isplitl [Hrs]; · iexact Hrs
    isplitl [Htd]; · iexact Htd
    iexact Hrd
  iexact Hk

end Moves

end Cert.KernelIdeal.Ring
-- ==== Proof.Work.lean ====
/-
  The pieces of a step that touch only the device's own buffers: the products, the slots read and filled, and the
  finished blocks copied to the result.
-/
module

public import proofs.«01_k».proof.Proof.Moves
public import Idealize.ShloMosaic.Lib.Pipeline.Value
public import Idealize.ShloMosaic.Lib.Exec

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Slots -/

section Slots

variable (M : Memref sig .tc .vmem S2x256x2048 .bf16) (s : Fin 2) (c : Dev nD)

theorem slotOf_set : (slotOf M s).view.set = (M.access (slotR s)).set := View.set_reshape _ _

/-- What a load of the slot reads, by what a copy of it reads. -/
theorem slotOf_read (f : M.view.ty.Contents (Elt F)) : (slotOf M s).view.read (Elt F) f = flat (M.view.readAt (Elt F) (slotR s).toLoadRect f) := rfl

theorem slotOf_read_write (f : M.view.ty.Contents (Elt F)) (v : Vec F S1x256x2048 .bf16) :
    (slotOf M s).view.read (Elt F) ((M.access (slotR s)).write (Elt F) f v Finset.univ) = flat v := by
  have h : (M.access (slotR s)).read (Elt F) ((M.access (slotR s)).write (Elt F) f v Finset.univ) = v := View.read_write_univ _ _
  exact (slotOf_read M s _).trans (congrArg flat h)

theorem wp_loadSlot (v : Vec F S1x256x2048 .bf16) (Q : Vec F S1x256x2048 .bf16 → sProp 𝕄) :
    memHas (slotOf M s) c (flat v) ⊢ iprop((memHas (slotOf M s) c (flat v) -∗ Q v) -∗ WP c (loadSlot F M s.val s.isLt) Q) := by
  unfold memHas loadSlot
  rw [show (Prog.lift (.load M (slotR s).toLoadRect (View.loadsAt_vmem h_S1x256x2048)) : Act F (Vec F S1x256x2048 .bf16))
      = Prog.op (.load M (slotR s).toLoadRect (View.loadsAt_vmem h_S1x256x2048)) Prog.ret from rfl]
  iintro ⟨%f, %hf, H⟩ Hk
  iapply (wp_load 𝒱₀ (c : Thread nD τ) none Set.univ (m := M) (r := (slotR s).toLoadRect) (S := (slotOf M s).view.set)
    (by rw [slotOf_set, View.set_slice]; exact subset_rfl)) $$ H
  iintro H
  rw [wp_ret, flat_inj ((slotOf_read M s f).symm.trans hf)]
  imodintro
  iapply Hk
  iexists f
  isplitr
  · ipureintro; exact hf
  iexact H

theorem wp_fill (hM : M.IsWhole) (v : Vec F S1x256x2048 .bf16) (Q : PUnit → sProp 𝕄) :
    memAny (slotOf M s) c ⊢ iprop((memHas (slotOf M s) c (flat v) -∗ Q ⟨⟩) -∗ WP c (fill F M hM s.val s.isLt v) Q) := by
  unfold memHas memAny fill
  simp only [Prog.lift, Prog.bind_op, Prog.bind_ret]
  iintro ⟨%f, H⟩ Hk
  iapply (wp_load 𝒱₀ (c : Thread nD τ) none Set.univ (m := M) (r := (slotR s).toLoadRect) (S := (slotOf M s).view.set)
    (by rw [slotOf_set, View.set_slice]; exact subset_rfl)) $$ H
  iintro H
  iapply (wp_store 𝒱₀ (c : Thread nD τ) none Set.univ (m := M) (r := slotR s) (Mk := Finset.univ) (S := (slotOf M s).view.set)
    (by rw [slotOf_set]; exact subset_rfl)) $$ H
  iintro H
  rw [wp_ret]
  imodintro
  iapply Hk
  iexists ((M.access (slotR s)).write (Elt F) f v Finset.univ)
  isplitr
  · ipureintro; exact slotOf_read_write M s f v
  iexact H

end Slots

/-! ## Products -/

section Products

variable (xs : Dev nD → XBuf F) (ws : Dev nD → WBuf F) (c : Dev nD)

/-- The device's two input blocks. -/
def inputs : sProp 𝕄 :=
  iprop((((c : Thread nD τ).loc cc0_stg0_0) ↦{fullShare} (xs c : Buf (Elt F) ((c : Thread nD τ).loc cc0_stg0_0)))
    ∗ (((c : Thread nD τ).loc cc0_stg1_0) ↦{fullShare} (ws c : Buf (Elt F) ((c : Thread nD τ).loc cc0_stg1_0))))

theorem wp_product (o : Fin 2 → ℕ) (ho : ∀ a, o a + S256x256.size a ≤ S8192x256.size a) (k : ℕ) (hk : k ≤ 2048)
    (Q : FVec F S256x2048 .f32 → sProp 𝕄) :
    inputs xs ws c ⊢ iprop((inputs xs ws c -∗ Q (prodOf (xBuf.view.readAt (Elt F) (Rect.unit (s := S8192x256) o S256x256.size ho).toLoadRect (xs c))
        (wBuf.view.readAt (Elt F) (Rect.unit (s := S256x4096) ![0, k] S256x2048.size (inb_cols hk)).toLoadRect (ws c))))
      -∗ WP c (product F xBuf wBuf o ho k hk) Q) := by
  unfold inputs product
  simp only [Prog.lift, Prog.bind_op, Prog.bind_ret, Prog.pure_eq_ret]
  iintro ⟨Hx, Hw⟩ Hk
  iapply (wp_load 𝒱₀ (c : Thread nD τ) none Set.univ (m := xBuf) (r := (Rect.unit (s := S8192x256) o S256x256.size ho).toLoadRect)
    (S := Finset.univ) (Finset.subset_univ _)) $$ Hx
  iintro Hx
  iapply (wp_load 𝒱₀ (c : Thread nD τ) none Set.univ (m := wBuf) (r := (Rect.unit (s := S256x4096) ![0, k] S256x2048.size (inb_cols hk)).toLoadRect)
    (S := Finset.univ) (Finset.subset_univ _)) $$ Hw
  iintro Hw
  rw [wp_ret]
  imodintro
  iapply Hk
  isplitl [Hx] <;> iassumption

theorem wp_prodB (b : Bool) (u : ℕ) (Q : FVec F S256x2048 .f32 → sProp 𝕄) :
    inputs xs ws c ⊢ iprop((∀ p, ⌜u < 31 → p = prodA xs ws b c u⌝ -∗ inputs xs ws c -∗ Q p) -∗ WP c (prodB F c b u) Q) := by
  unfold prodB
  by_cases hu : u < 31
  · rw [if_pos hu]
    iintro HI Hk
    iapply (wp_product xs ws c (xoff b c u) (xoff_inb b c u) (col b) (col_le b) Q) $$ HI
    iintro HI
    iapply Hk $$ [] HI
    ipureintro
    exact fun _ => rfl
  · rw [if_neg hu]
    unfold WP
    rw [Prog.pure_eq_ret, wp_ret]
    iintro HI Hk
    imodintro
    iapply Hk $$ [] HI
    ipureintro
    exact fun h => absurd h hu

end Products

/-! ## Finished blocks -/

section Blocks

variable (c : Dev nD)

/-- The direction's staging buffer and its copy's semaphore. -/
def stage (b : Bool) : sProp 𝕄 :=
  iprop((∃ g : Buf (Elt F) ((stag b).view.loc (c : Thread nD τ)), (stag b).view.loc (c : Thread nD τ) ↦[(stag b).view.set]{fullShare} g)
    ∗ semVal ((c : Thread nD τ), .dma (copyS b).sem) 0)

abbrev OBuf (F : FTy → Type) : Type := (main_v1 : Ref sig .tc).ty.Contents (Elt F)

/-- The device's result. -/
def result (f : OBuf F) : sProp 𝕄 := ((c : Thread nD τ).loc main_v1) ↦{fullShare} (f : Buf (Elt F) ((c : Thread nD τ).loc main_v1))

/-- The result after a block is put at `o`. -/
def putAt (o : Fin 2 → ℕ) (ho : ∀ a, o a + S256x2048.size a ≤ S8192x4096.size a) (f : OBuf F) (v : Vec F S256x2048 .f32) : OBuf F :=
  (outBuf.slice (Rect.unit (s := S8192x4096) o S256x2048.size ho) (fun _ => rfl)).view.write (Elt F) f v Finset.univ

theorem wp_emitB (b : Bool) (n : ℕ) (v : FVec F S256x2048 .f32) (f : OBuf F) (O : CellTallies nD τ sig ℕ)
    (hmay : (levAts L lv : sProp 𝕄) ⊢ MayWait (c : Thread nD τ) (.dma (copyS b).sem) 0 O) (Q : PUnit → sProp 𝕄) :
    iprop((levAts L lv : sProp 𝕄) ∗ stage c b ∗ result c f ∗ owesE c O)
      ⊢ iprop(((stage c b ∗ result c (putAt (ooff b c n) (ooff_inb b c n) f v) ∗ owesE c O) -∗ Q ⟨⟩) -∗ WP c (emitB F c b n v) Q) := by
  unfold stage result owesE emitB emit
  simp only [Prog.lift, Prog.bind_op, Prog.bind_ret]
  iintro ⟨#HL, ⟨⟨%g, Hg⟩, Hv⟩, Hr, ⟨%W, HO⟩⟩ Hk
  iapply (wp_load 𝒱₀ (c : Thread nD τ) none Set.univ (m := stag b)
    (r := (Rect.unit (s := S256x2048) ![0, 0] S256x2048.size Gen.inb_S256x2048_S256x2048_0_0).toLoadRect) (S := (stag b).view.set) (View.setOn_subset_set _ _)) $$ Hg
  iintro Hg
  iapply (wp_store 𝒱₀ (c : Thread nD τ) none Set.univ (m := stag b)
    (r := Rect.unit (s := S256x2048) ![0, 0] S256x2048.size Gen.inb_S256x2048_S256x2048_0_0) (Mk := Finset.univ) (S := (stag b).view.set)
    ((View.setOn_subset_set _ _).trans (View.set_slice_subset _ _))) $$ Hg
  iintro Hg
  iapply (Transfers.wp_dmaLocal countersEmb 𝒱₀ (c : Thread nD τ) none (src := stag b) (sm := .dma (copyS b).sem) (Sd := Finset.univ)
    0 _ rfl (View.dmaCredit_pos _ (by decide)) (Finset.subset_univ _)) $$ [Hg Hr Hv]
  · isplitl [Hg]; · iexact Hg
    isplitl [Hr]; · iexact Hr
    iexact Hv
  iintro HF
  iapply (Transfers.wp_waitLocalO countersEmb 𝒱₀ (c : Thread nD τ) none 0 rfl) $$ [HF HO]
  · isplitl [HF]; · iexact HF
    isplitl [HO]; · iexact HO
    iapply hmay; iexact HL
  iintro ⟨⟨Hr, Hg⟩, Hv, HO⟩
  rw [wp_ret]
  imodintro
  iapply Hk
  isplitl [Hg Hv]
  · isplitl [Hg]; · iexists _; iexact Hg
    iexact Hv
  isplitl [Hr]
  · rw [stag_read_write, shapeCast_self]
    iexact Hr
  iexists _
  iexact HO

end Blocks

end Cert.KernelIdeal.Ring
-- ==== Proof.Turn.lean ====
/-
  One step of the ring, a direction at a time: what the device holds in a direction before the step, after its copy has
  started, after what arrived is dealt with, and before the next step.
-/
module

public import proofs.«01_k».proof.Proof.Work

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Turn

variable (xs : Dev nD → XBuf F) (ws : Dev nD → WBuf F) (K : Dev nD × Kd → ℕ)

/-! ## The waits of a step -/

theorem wp_await (b : Bool) (c : Dev nD) {k : Kd} {T : DmaSems sig S2} (r i j : Fin 2) (hk : ksem k = .dma (dmaAt T r)) (hN : amountK k = N)
    (R : ℕ) (hD : dutiesK k R = {false}) (ι : ℕ) {O : CellTallies nD τ sig ℕ}
    (hmay : (levAts L lv : sProp 𝕄) ⊢ MayWait (c : Thread nD τ) (ksem k) ι O) (Q : PUnit → sProp 𝕄) :
    iprop(Ctx xs ws K ∗ cred (tallyAt (kcell (c, k)) ι N) ∗ owesE c O ∗ pos c k R)
      ⊢ iprop(((owesE c O ∗ pos c k (R + 1) ∗ payK xs ws c k R false) -∗ Q ⟨⟩)
          -∗ WP c (await F (comm b) (comm_whole b) T r.val i.val j.val r.isLt i.isLt j.isLt) Q) := by
  unfold await
  have hw : ∀ K' : PUnit → sProp 𝕄, wpE (defs₀ (F := F)) 𝒱₀ (c : Thread nD τ) none Set.univ
      (.waitDma2 (dmaAt T r) (slotM b i) (slotM b j) (((comm_whole b).wordExact_slice rfl _ (words_slot i.isLt)).reshape _ _)
        (((comm_whole b).wordExact_slice rfl _ (words_slot j.isLt)).reshape _ _)) K' = waitSpec (c : Thread nD τ) Set.univ (ksem k) N K' := by
    intro K'
    rw [wpE_waitDma2_eq, hk, N_eq]
  iintro H Hk
  iapply (wp_cell xs ws K R hD (n := N) (by rw [hN, Finset.card_singleton, Nat.one_mul]) ι hw hmay Q) $$ H
  iintro ⟨HO, Hp, Hb⟩
  iapply Hk
  isplitl [HO]; · iexact HO
  isplitl [Hp]; · iexact Hp
  iapply (Entails.of_eq BI.bigSep_singleton) $$ Hb

/-! ## What a direction holds -/

abbrev oj (u : ℕ) : ℕ := min (2 * u + 1) 124

def takeRes (b : Bool) (c : Dev nD) (u : ℕ) : sProp 𝕄 := if u = 0 then Free b c 0 else credOf b c (2 * u)
def sendTok (b : Bool) (c : Dev nD) (v : ℕ) : sProp 𝕄 := dutyTok ER (kcell (c, sndK b (sl v))) (v / 2) false
def creds (b : Bool) (c : Dev nD) (k : ℕ) : sProp 𝕄 := bigSep (Finset.Ico k 125) (credOf b c)
def toks (b : Bool) (c : Dev nD) (k : ℕ) : sProp 𝕄 := bigSep (Finset.Ico k 125) (payTok b c)
def stoks (b : Bool) (c : Dev nD) (u : ℕ) : sProp 𝕄 := bigSep (Finset.Ico u 62) (sendTok b c)
def spare (b : Bool) (c : Dev nD) (u : ℕ) : sProp 𝕄 := if u = 62 then slotAny b c (sl (u + 1)) else iprop(emp)

theorem bigSep_peel {k n : ℕ} (hk : k < n) (Φ : ℕ → sProp 𝕄) : bigSep (Finset.Ico k n) Φ = iprop(Φ k ∗ bigSep (Finset.Ico (k + 1) n) Φ) := by
  rw [Ico_peel hk, BI.bigSep_insert (by rw [Finset.mem_Ico]; omega)]
  rfl
theorem creds_peel (b : Bool) (c : Dev nD) {k : ℕ} (hk : k < 125) : creds (F := F) b c k = iprop(credOf b c k ∗ creds b c (k + 1)) :=
  bigSep_peel hk _
theorem toks_peel (b : Bool) (c : Dev nD) {k : ℕ} (hk : k < 125) : toks (F := F) b c k = iprop(payTok b c k ∗ toks b c (k + 1)) :=
  bigSep_peel hk _
theorem stoks_peel (b : Bool) (c : Dev nD) {k : ℕ} (hk : k < 62) : stoks (F := F) b c k = iprop(sendTok b c k ∗ stoks b c (k + 1)) :=
  bigSep_peel hk _

/-- The device's places at its cells of a direction, in rounds: departures, arrivals and credits of the two slots. -/
def posn (b : Bool) (c : Dev nD) (u s₀ s₁ r₁ r₀ k₁ k₀ : ℕ) : sProp 𝕄 :=
  iprop(pos c (sndK b (sl u)) s₀ ∗ pos c (sndK b (sl (u + 1))) s₁ ∗ pos c (rcvK b (sl (u + 1))) r₁ ∗ pos c (rcvK b (sl u)) r₀
    ∗ pos c (crdK b (sl (u + 1))) k₁ ∗ pos c (crdK b (sl u)) k₀)

/-- Before step `u`. -/
def Dir (b : Bool) (c : Dev nD) (u : ℕ) : sProp 𝕄 :=
  iprop(slotHas b c (sl u) (sent xs ws b u c) ∗ takeRes b c u ∗ creds b c (2 * u + 1) ∗ toks b c (oj u) ∗ stoks b c u
    ∗ posn b c u (u / 2) ((u + 1) / 2) (u / 2) ((u + 1) / 2) ((u - 1) / 2) (u / 2) ∗ spare b c u)

/-- Its copy started. -/
def DirA (b : Bool) (c : Dev nD) (u : ℕ) : sProp 𝕄 :=
  iprop(creds b c (2 * u + 1) ∗ toks b c (2 * u + 2) ∗ stoks b c (u + 1) ∗ cred (tallyAt (kcell (c, sndK b (sl u))) 0 N)
    ∗ posn b c u (u / 2) ((u + 1) / 2) (u / 2) ((u + 1) / 2) ((u + 1) / 2) (u / 2))

/-- Its arrival dealt with. -/
def DirB (b : Bool) (c : Dev nD) (u : ℕ) : sProp 𝕄 :=
  iprop(slotHas b c (sl (u + 1)) (sent xs ws b (u + 1) c) ∗ reached ER (kcell (up b c, crdK b (sl u))) (u / 2)
    ∗ creds b c (2 * u + 2) ∗ toks b c (2 * u + 2) ∗ stoks b c (u + 1) ∗ cred (tallyAt (kcell (c, sndK b (sl u))) 0 N)
    ∗ posn b c u (u / 2) ((u + 1) / 2) (u / 2 + 1) ((u + 1) / 2) ((u + 1) / 2) (u / 2))

/-! ## The credit and the copy -/

theorem wp_takeB (b : Bool) (c : Dev nD) (u k' : ℕ) (hu : u < 62) (hk' : 2 * u + 1 ≤ k') (Q : PUnit → sProp 𝕄) :
    iprop(Ctx xs ws K ∗ takeRes b c u ∗ owesE c (owedAt b c (2 * u + 1) k') ∗ pos c (crdK b (sl (u + 1))) ((u - 1) / 2))
      ⊢ iprop(((Free b c u ∗ owesE c (owedAt b c (2 * u + 1) k') ∗ pos c (crdK b (sl (u + 1))) ((u + 1) / 2)) -∗ Q ⟨⟩) -∗ WP c (takeB F b u) Q) := by
  unfold takeB takeRes WP
  rcases Nat.eq_zero_or_pos u with rfl | h0
  · rw [if_pos rfl, if_pos rfl, Prog.pure_eq_ret, wp_ret]
    iintro ⟨-, Hf, HO, Hp⟩ Hk
    imodintro
    iapply Hk
    isplitl [Hf]; · iexact Hf
    isplitl [HO] <;> iassumption
  · obtain ⟨v, rfl⟩ : ∃ v, u = v + 1 := ⟨u - 1, by omega⟩
    have e2 : v + 1 - 1 = v := rfl
    have hR : (v + 1 + 1) / 2 = v / 2 + 1 := by omega
    rw [if_neg (by omega), if_neg (by omega), e2, hR, sl_add_two]
    have hD : dutiesK (crdK b (sl v)) (v / 2) = {false} := by
      show (if 2 * (v / 2) + (sl v).val + 1 < 62 then ({false} : Finset Bool) else ∅) = _
      rw [sl_val, if_pos (by omega)]
    have hpay : payK xs ws c (crdK b (sl v)) (v / 2) false = Free b c (v + 1) := by
      show Free b c (2 * (v / 2) + (sl v).val + 1) = _
      rw [sl_val, show 2 * (v / 2) + v % 2 + 1 = v + 1 by omega]
    have hmay := mayWait_owed (F := F) b c (ksem (crdK b (sl v))) (2 * (v + 1) + 1) (2 * (v + 1) + 1) k' (le_refl _) hk' (by omega)
    unfold credOf pa
    rw [pk_even b v (by omega)]
    have hsl : (⟨slot (v + 1 + 1), slot_lt (v + 1 + 1)⟩ : Fin 2) = sl v := sl_add_two v
    have hp : takeCredit F (credS b) (slot (v + 1 + 1)) (slot_lt (v + 1 + 1))
        = (Prog.lift (.semWait (regAt (credS b) (sl v)) 1) : Act F PUnit) := by
      show takeCredit F (credS b) (⟨slot (v + 1 + 1), slot_lt (v + 1 + 1)⟩ : Fin 2).val (⟨slot (v + 1 + 1), slot_lt (v + 1 + 1)⟩ : Fin 2).isLt = _
      rw [hsl]
      rfl
    rw [hp]
    have hw : ∀ K' : PUnit → sProp 𝕄, wpE (defs₀ (F := F)) 𝒱₀ (c : Thread nD τ) none Set.univ (.semWait (regAt (credS b) (sl v)) 1) K'
        = waitSpec (c : Thread nD τ) Set.univ (ksem (crdK b (sl v))) 1 K' := fun K' => rfl
    iintro ⟨HC, Hc, HO, Hp⟩ Hk
    iapply (wp_cell xs ws K (v / 2) hD (n := 1) rfl (2 * (v + 1) + 1) hw hmay Q) $$ [HC Hc HO Hp]
    · isplitl [HC]; · iexact HC
      isplitl [Hc]; · iexact Hc
      isplitl [HO] <;> iassumption
    iintro ⟨HO, Hp, Hb⟩
    iapply Hk
    isplitl [Hb]; · iapply (Entails.of_eq (BI.bigSep_singleton.trans hpay)) $$ Hb
    isplitl [HO] <;> iassumption

theorem wp_phaseA (b : Bool) (c : Dev nD) (u k' : ℕ) (hu : u < 62) (hk' : 2 * u + 1 ≤ k') (Q : PUnit → sProp 𝕄) :
    iprop(Ctx xs ws K ∗ Dir xs ws b c u ∗ owesE c (owedAt b c (2 * u + 1) k'))
      ⊢ iprop(((DirA b c u ∗ owesE c (owedAt b c (2 * u + 2) k')) -∗ Q ⟨⟩)
          -∗ WP c (takeB F b u) (fun _ => WP c (sendB F c b u) Q)) := by
  have hoj : oj u = 2 * u + 1 := by show min (2 * u + 1) 124 = _; omega
  unfold Dir DirA posn
  rw [hoj, toks_peel b c (by omega : 2 * u + 1 < 125), stoks_peel b c hu]
  iintro ⟨#HC, ⟨Hs, Ht, Hcr, ⟨Htk, Htks⟩, ⟨Hst, Hsts⟩, ⟨Hp1, Hp2, Hp3, Hp4, Hp5, Hp6⟩, -⟩, HO⟩ Hk
  iapply (wp_takeB xs ws K b c u k' hu hk' _) $$ [Ht HO Hp5]
  · isplitr; · iexact HC
    isplitl [Ht]; · iexact Ht
    isplitl [HO] <;> iassumption
  iintro ⟨Hf, HO, Hp5⟩
  unfold pos
  icases Hp1 with ⟨Hp1, #Hr1⟩
  icases Hp6 with ⟨Hp6, #Hr6⟩
  iapply (wp_sendB xs ws K b c u k' hu Q) $$ [Hs Hf HO Hst Htk]
  · isplitr; · iexact HC
    isplitl [Hs]; · iexact Hs
    isplitl [Hf]; · iexact Hf
    isplitl [HO]; · iexact HO
    isplitl [Hst]; · unfold sendTok; iexact Hst
    isplitr; · iexact Hr1
    isplitl [Htk]; · iexact Htk
    iexact Hr6
  iintro ⟨Hc, HO⟩
  iapply Hk
  isplitr [HO]
  · isplitl [Hcr]; · iexact Hcr
    isplitl [Htks]; · iexact Htks
    isplitl [Hsts]; · iexact Hsts
    isplitl [Hc]; · iexact Hc
    isplitl [Hp1]
    · isplitl [Hp1]; · iexact Hp1
      iexact Hr1
    isplitl [Hp2]; · iexact Hp2
    isplitl [Hp3]; · iexact Hp3
    isplitl [Hp4]; · iexact Hp4
    isplitl [Hp5]; · iexact Hp5
    isplitl [Hp6]; · iexact Hp6
    iexact Hr6
  iexact HO

/-! ## What arrives -/

/-- The result after step `u` in direction `b`. -/
def outB (b : Bool) (c : Dev nD) (u : ℕ) (f : OBuf F) : OBuf F :=
  if u < 30 then f else putAt (ooff b c (u - 30)) (ooff_inb b c (u - 30)) f (block xs ws b c (u - 30))

theorem wp_arriveB (b : Bool) (c : Dev nD) (u k' : ℕ) (hu : u < 62) (hk' : 2 * u + 2 ≤ k') (Q : PUnit → sProp 𝕄) :
    iprop(Ctx xs ws K ∗ credOf b c (2 * u + 1) ∗ owesE c (owedAt b c (2 * u + 2) k') ∗ pos c (rcvK b (sl (u + 1))) (u / 2))
      ⊢ iprop(((owesE c (owedAt b c (2 * u + 2) k') ∗ pos c (rcvK b (sl (u + 1))) (u / 2 + 1) ∗ Arrived xs ws b c u) -∗ Q ⟨⟩)
          -∗ WP c (arriveB F b u) Q) := by
  have hD : dutiesK (rcvK b (sl (u + 1))) (u / 2) = {false} := by
    show (if u / 2 < 31 then ({false} : Finset Bool) else ∅) = _
    rw [if_pos (by omega)]
  have hpay : payK xs ws c (rcvK b (sl (u + 1))) (u / 2) false = Arrived xs ws b c u := by
    show Arrived xs ws b c (2 * (u / 2) + 1 - (sl (u + 1)).val) = _
    rw [sl_val, show 2 * (u / 2) + 1 - (u + 1) % 2 = u by omega]
  have hmay := mayWait_owed (F := F) b c (ksem (rcvK b (sl (u + 1)))) (2 * u + 2) (2 * u + 2) k' (le_refl _) hk' (by omega)
  unfold credOf pa
  rw [pk_odd, ← hpay]
  exact wp_await xs ws K b c (k := rcvK b (sl (u + 1))) (T := recvS b) (sl (u + 1)) (sl u) (sl (u + 1)) rfl rfl (u / 2) hD (2 * u + 2) hmay Q

theorem wp_emitC (b : Bool) (c : Dev nD) (n : ℕ) (v : FVec F S256x2048 .f32) (f : OBuf F) (O : CellTallies nD τ sig ℕ)
    (hmay : (levAts L lv : sProp 𝕄) ⊢ MayWait (c : Thread nD τ) (.dma (copyS b).sem) 0 O) (Q : PUnit → sProp 𝕄) :
    iprop(Ctx xs ws K ∗ stage c b ∗ result c f ∗ owesE c O)
      ⊢ iprop(((stage c b ∗ result c (putAt (ooff b c n) (ooff_inb b c n) f v) ∗ owesE c O) -∗ Q ⟨⟩) -∗ WP c (emitB F c b n v) Q) :=
  BIBase.Entails.trans (sep_mono_left (@Ctx_lev F _ xs ws K)) (wp_emitB c b n v f O hmay Q)

theorem wp_midB (b : Bool) (c : Dev nD) (u k' : ℕ) (hu : u < 62) (hk' : 2 * u + 2 ≤ k') (p : FVec F S256x2048 .f32)
    (hp : u < 31 → p = prodA xs ws b c u) (f : OBuf F) (Q : PUnit → sProp 𝕄) :
    iprop(Ctx xs ws K ∗ DirA b c u ∗ owesE c (owedAt b c (2 * u + 2) k') ∗ stage c b ∗ result c f)
      ⊢ iprop(((DirB xs ws b c u ∗ owesE c (owedAt b c (2 * u + 2) k') ∗ stage c b ∗ result c (outB xs ws b c u f)) -∗ Q ⟨⟩)
          -∗ WP c (midB F c b u p) Q) := by
  have hmay := mayWait_owed (F := F) b c (.dma (copyS b).sem) 0 (2 * u + 2) k' (Nat.zero_le _) (Nat.zero_le _) (by omega)
  unfold DirA DirB posn outB midB WP
  rw [creds_peel b c (by omega : 2 * u + 1 < 125), wp_bind]
  iintro ⟨#HC, ⟨⟨Hcr, Hcrs⟩, Htks, Hsts, Hcs, ⟨Hp1, Hp2, Hp3, Hp4, Hp5, Hp6⟩⟩, HO, Hst, Hres⟩ Hk
  iapply (wp_arriveB xs ws K b c u k' hu hk' _) $$ [Hcr HO Hp3]
  · isplitr; · iexact HC
    isplitl [Hcr]; · iexact Hcr
    isplitl [HO] <;> iassumption
  iintro ⟨HO, Hp3, Ha⟩
  unfold Arrived slotHas
  icases Ha with ⟨Hs, Hr⟩
  rw [wp_bind]
  iapply (wp_loadSlot (comm b) (sl (u + 1)) c (sent xs ws b u (up b c)) _) $$ Hs
  iintro Hs
  by_cases h30 : u < 30
  · rw [if_pos h30, if_pos h30]
    ihave Hs := (memHas_any _ c _) $$ Hs
    iapply (wp_fill (comm b) (sl (u + 1)) c (comm_whole b) (pack (accOf (sent xs ws b u (up b c)) p)) Q) $$ Hs
    rw [show pack (accOf (sent xs ws b u (up b c)) p) = sent xs ws b (u + 1) c by
      rw [hp (by omega)]; exact (if_pos (by omega)).symm]
    iintro Hs
    iapply Hk
    isplitr [HO Hst Hres]
    · isplitl [Hs]; · iexact Hs
      isplitl [Hr]; · iexact Hr
      isplitl [Hcrs]; · iexact Hcrs
      isplitl [Htks]; · iexact Htks
      isplitl [Hsts]; · iexact Hsts
      isplitl [Hcs]; · iexact Hcs
      isplitl [Hp1]; · iexact Hp1
      isplitl [Hp2]; · iexact Hp2
      isplitl [Hp3]; · iexact Hp3
      isplitl [Hp4]; · iexact Hp4
      isplitl [Hp5] <;> iassumption
    isplitl [HO]; · iexact HO
    isplitl [Hst] <;> iassumption
  rw [if_neg h30, if_neg h30]
  by_cases h31 : u = 30
  · rw [if_pos h31, wp_bind]
    ihave Hs := (memHas_any _ c _) $$ Hs
    iapply (wp_fill (comm b) (sl (u + 1)) c (comm_whole b) (pack (accOf (sent xs ws b u (up b c)) p)) _) $$ Hs
    rw [show pack (accOf (sent xs ws b u (up b c)) p) = sent xs ws b (u + 1) c by
      rw [hp (by omega)]; exact (if_pos (by omega)).symm]
    rw [show accOf (sent xs ws b u (up b c)) p = block xs ws b c (u - 30) by
      rw [hp (by omega)]; subst h31; rfl]
    iintro Hs
    iapply (wp_emitC xs ws K b c (u - 30) (block xs ws b c (u - 30)) f (owedAt b c (2 * u + 2) k') hmay Q) $$ [Hst Hres HO]
    · isplitr; · iexact HC
      isplitl [Hst]; · iexact Hst
      isplitl [Hres] <;> iassumption
    iintro ⟨Hst, Hres, HO⟩
    iapply Hk
    isplitr [HO Hst Hres]
    · isplitl [Hs]; · iexact Hs
      isplitl [Hr]; · iexact Hr
      isplitl [Hcrs]; · iexact Hcrs
      isplitl [Htks]; · iexact Htks
      isplitl [Hsts]; · iexact Hsts
      isplitl [Hcs]; · iexact Hcs
      isplitl [Hp1]; · iexact Hp1
      isplitl [Hp2]; · iexact Hp2
      isplitl [Hp3]; · iexact Hp3
      isplitl [Hp4]; · iexact Hp4
      isplitl [Hp5] <;> iassumption
    isplitl [HO]; · iexact HO
    isplitl [Hst] <;> iassumption
  · rw [if_neg h31]
    rw [show wide (sent xs ws b u (up b c)) = block xs ws b c (u - 30) by
      unfold block; rw [if_neg (by omega), show u - 30 + 30 = u by omega]]
    rw [show sent xs ws b u (up b c) = sent xs ws b (u + 1) c from (if_neg (by omega)).symm]
    iapply (wp_emitC xs ws K b c (u - 30) (block xs ws b c (u - 30)) f (owedAt b c (2 * u + 2) k') hmay Q) $$ [Hst Hres HO]
    · isplitr; · iexact HC
      isplitl [Hst]; · iexact Hst
      isplitl [Hres] <;> iassumption
    iintro ⟨Hst, Hres, HO⟩
    iapply Hk
    isplitr [HO Hst Hres]
    · isplitl [Hs]; · iexact Hs
      isplitl [Hr]; · iexact Hr
      isplitl [Hcrs]; · iexact Hcrs
      isplitl [Htks]; · iexact Htks
      isplitl [Hsts]; · iexact Hsts
      isplitl [Hcs]; · iexact Hcs
      isplitl [Hp1]; · iexact Hp1
      isplitl [Hp2]; · iexact Hp2
      isplitl [Hp3]; · iexact Hp3
      isplitl [Hp4]; · iexact Hp4
      isplitl [Hp5] <;> iassumption
    isplitl [HO]; · iexact HO
    isplitl [Hst] <;> iassumption

/-! ## The step's end -/

theorem wp_leaveB (b : Bool) (c : Dev nD) (u : ℕ) (hu : u < 62) {O : CellTallies nD τ sig ℕ}
    (hmay : (levAts L lv : sProp 𝕄) ⊢ MayWait (c : Thread nD τ) (ksem (sndK b (sl u))) 0 O) (Q : PUnit → sProp 𝕄) :
    iprop(Ctx xs ws K ∗ cred (tallyAt (kcell (c, sndK b (sl u))) 0 N) ∗ owesE c O ∗ pos c (sndK b (sl u)) (u / 2))
      ⊢ iprop(((owesE c O ∗ pos c (sndK b (sl u)) (u / 2 + 1) ∗ slotAny b c (sl u)) -∗ Q ⟨⟩) -∗ WP c (leaveB F b u) Q) := by
  have hD : dutiesK (sndK b (sl u)) (u / 2) = {false} := by
    show (if u / 2 < 31 then ({false} : Finset Bool) else ∅) = _
    rw [if_pos (by omega)]
  exact wp_await xs ws K b c (k := sndK b (sl u)) (T := sendS b) (sl u) (sl (u + 1)) (sl u) rfl rfl (u / 2) hD 0 hmay Q

theorem wp_phaseC (b : Bool) (c : Dev nD) (u k' : ℕ) (hu : u < 62) (Q : PUnit → sProp 𝕄) :
    iprop(Ctx xs ws K ∗ DirB xs ws b c u ∗ owesE c (owedAt b c (2 * u + 2) k'))
      ⊢ iprop(((Dir xs ws b c (u + 1) ∗ owesE c (owedAt b c (oj (u + 1)) k')) -∗ Q ⟨⟩)
          -∗ WP c (leaveB F b u) (fun _ => WP c (giveB F c b u) Q)) := by
  have hmay := mayWait_owed (F := F) b c (ksem (sndK b (sl u))) 0 (2 * u + 2) k' (Nat.zero_le _) (Nat.zero_le _) (by omega)
  have hA : (u + 1 + 1) / 2 = u / 2 + 1 := by omega
  have hB : u + 1 - 1 = u := rfl
  have hC : 2 * (u + 1) = 2 * u + 2 := by omega
  have hT : takeRes (F := F) b c (u + 1) = credOf b c (2 * u + 2) := by unfold takeRes; rw [if_neg (by omega), hC]
  unfold DirB Dir posn
  rw [creds_peel b c (by omega : 2 * u + 2 < 125), hT, hA, hB, hC, sl_add_two]
  iintro ⟨#HC, ⟨Hs, Hr, ⟨Hcr, Hcrs⟩, Htks, Hsts, Hcs, ⟨Hp1, Hp2, Hp3, Hp4, Hp5, Hp6⟩⟩, HO⟩ Hk
  iapply (wp_leaveB xs ws K b c u hu hmay _) $$ [Hcs HO Hp1]
  · isplitr; · iexact HC
    isplitl [Hcs]; · iexact Hcs
    isplitl [HO] <;> iassumption
  iintro ⟨HO, Hp1, Hsl⟩
  unfold giveB WP
  by_cases h61 : u < 61
  · have hoj : oj (u + 1) = 2 * u + 3 := by show min (2 * (u + 1) + 1) 124 = _; omega
    rw [if_pos h61, hoj]
    ihave Htks := (Entails.of_eq (toks_peel (F := F) b c (by omega : 2 * u + 2 < 125))) $$ Htks
    icases Htks with ⟨Htk, Htks⟩
    unfold pos
    icases Hp4 with ⟨Hp4, #Hr4⟩
    have hs : ksem (pk b (2 * (u + 1))) = .reg (regAt (credS b) (sl u)) := by rw [pk_even b u (by omega)]; rfl
    have h1 : pa b (2 * (u + 1)) = 1 := by unfold pa; rw [pk_even b u (by omega)]; rfl
    have hpto : pto b (2 * (u + 1)) c = up b c := pto_even b (u + 1) c
    have hpr := pr_even u (by omega : u + 1 < 62)
    have hpay : payK xs ws (pto b (2 * (u + 1)) c) (pk b (2 * (u + 1))) (pr (2 * (u + 1))) (pd b (2 * (u + 1)))
        = iprop(slotAny b c (sl u) ∗ reached ER (kcell (c, rcvK b (sl u))) ((u + 1) / 2)) := by
      rw [hpto, pk_even b u (by omega), hpr]
      show Free b (up b c) (2 * (u / 2) + (sl u).val + 1) = _
      rw [sl_val, show 2 * (u / 2) + u % 2 + 1 = u + 1 by omega]
      unfold Free
      rw [dn_up, sl_add_two]
    have h := wp_pay xs ws K b c (2 * (u + 1)) k' (by omega) hs h1 Q
    rw [hpay, pk_even b u (by omega), hpr, hpto, hC] at h
    have hg : giveCredit F (credS b) (slot u) (slot_lt u) (up b c) = semSignalWord (up b c) (regAt (credS b) (sl u)) 1#32 := rfl
    rw [hg]
    iapply h $$ [HO Htk Hsl Hr]
    · isplitr; · iexact HC
      isplitl [HO]; · iexact HO
      isplitl [Htk]; · iexact Htk
      isplitl [Hsl]
      · isplitl [Hsl]; · iexact Hsl
        iexact Hr4
      iexact Hr
    iintro HO
    iapply Hk
    isplitr [HO]
    · isplitl [Hs]; · iexact Hs
      isplitl [Hcr]; · iexact Hcr
      isplitl [Hcrs]; · iexact Hcrs
      isplitl [Htks]; · iexact Htks
      isplitl [Hsts]; · iexact Hsts
      isplitr []
      · isplitl [Hp2]; · iexact Hp2
        isplitl [Hp1]; · iexact Hp1
        isplitl [Hp4]
        · isplitl [Hp4]; · iexact Hp4
          iexact Hr4
        isplitl [Hp3]; · iexact Hp3
        isplitl [Hp6] <;> iassumption
      unfold spare
      rw [if_neg (by omega)]
      iempintro
    iexact HO
  · obtain rfl : u = 61 := by omega
    rw [if_neg h61, Prog.pure_eq_ret, wp_ret]
    imodintro
    iapply Hk
    isplitr [HO]
    · isplitl [Hs]; · iexact Hs
      isplitl [Hcr]; · iexact Hcr
      isplitl [Hcrs]; · iexact Hcrs
      isplitl [Htks]; · iexact Htks
      isplitl [Hsts]; · iexact Hsts
      isplitr [Hsl]
      · isplitl [Hp2]; · iexact Hp2
        isplitl [Hp1]; · iexact Hp1
        isplitl [Hp4]; · iexact Hp4
        isplitl [Hp3]; · iexact Hp3
        isplitl [Hp6] <;> iassumption
      unfold spare
      rw [if_pos rfl]
      iexact Hsl
    iexact HO

end Turn

end Cert.KernelIdeal.Ring
-- ==== Proof.Whole.lean ====
/-
  A device's whole run: the greeting, the first products, the sixty-two steps, the parting, and the counters back at zero.
-/
module

public import proofs.«01_k».proof.Proof.Turn

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Whole

variable (xs : Dev nD → XBuf F) (ws : Dev nD → WBuf F) (K : Dev nD × Kd → ℕ)

/-! ## The steps -/

/-- Before step `u`, both directions, the result as it stands. -/
def State (c : Dev nD) (u : ℕ) (f : OBuf F) : sProp 𝕄 :=
  iprop(Dir xs ws false c u ∗ Dir xs ws true c u ∗ inputs xs ws c ∗ stage c false ∗ stage c true ∗ result c f ∗ owesE c (owed c (oj u) (oj u)))

/-- The result before step `u`. -/
def outAt (c : Dev nD) (f : OBuf F) : ℕ → OBuf F
  | 0 => f
  | u + 1 => outB xs ws true c u (outB xs ws false c u (outAt c f u))

theorem wp_step (c : Dev nD) (u : ℕ) (hu : u < 62) (f : OBuf F) (Q : PUnit → sProp 𝕄) :
    iprop(Ctx xs ws K ∗ State xs ws c u f)
      ⊢ iprop((State xs ws c (u + 1) (outB xs ws true c u (outB xs ws false c u f)) -∗ Q ⟨⟩) -∗ WP c (stepG F c u) Q) := by
  have hoj : oj u = 2 * u + 1 := by show min (2 * u + 1) 124 = _; omega
  have e1 : owed c (2 * u + 1) (2 * u + 1) = owedAt false c (2 * u + 1) (2 * u + 1) := rfl
  have e2 : owedAt false c (2 * u + 2) (2 * u + 1) = owedAt true c (2 * u + 1) (2 * u + 2) := (owedAt_true c _ _).symm
  have e3 : owedAt true c (2 * u + 2) (2 * u + 2) = owedAt false c (2 * u + 2) (2 * u + 2) := owedAt_true c _ _
  have e4 : owedAt false c (oj (u + 1)) (2 * u + 2) = owedAt true c (2 * u + 2) (oj (u + 1)) := (owedAt_true c _ _).symm
  have e5 : owedAt true c (oj (u + 1)) (oj (u + 1)) = owed c (oj (u + 1)) (oj (u + 1)) := owedAt_true c _ _
  have hle : 2 * u + 2 ≤ oj (u + 1) := by show _ ≤ min (2 * (u + 1) + 1) 124; omega
  unfold State stepG WP
  rw [hoj, e1]
  simp only [wp_bind]
  iintro ⟨#HC, HF, HT, HI, HsF, HsT, Hr, HO⟩ Hk
  iapply (wp_phaseA xs ws K false c u (2 * u + 1) hu (le_refl _) _) $$ [HF HO]
  · isplitr; · iexact HC
    isplitl [HF] <;> iassumption
  iintro ⟨HF, HO⟩
  rw [e2]
  iapply (wp_phaseA xs ws K true c u (2 * u + 2) hu (by omega) _) $$ [HT HO]
  · isplitr; · iexact HC
    isplitl [HT] <;> iassumption
  iintro ⟨HT, HO⟩
  rw [e3]
  iapply (wp_prodB xs ws c false u _) $$ HI
  iintro %p %hp HI
  iapply (wp_prodB xs ws c true u _) $$ HI
  iintro %q %hq HI
  iapply (wp_midB xs ws K false c u (2 * u + 2) hu (le_refl _) p hp f _) $$ [HF HO HsF Hr]
  · isplitr; · iexact HC
    isplitl [HF]; · iexact HF
    isplitl [HO]; · iexact HO
    isplitl [HsF] <;> iassumption
  iintro ⟨HF, HO, HsF, Hr⟩
  rw [← e3]
  iapply (wp_midB xs ws K true c u (2 * u + 2) hu (le_refl _) q hq _ _) $$ [HT HO HsT Hr]
  · isplitr; · iexact HC
    isplitl [HT]; · iexact HT
    isplitl [HO]; · iexact HO
    isplitl [HsT] <;> iassumption
  iintro ⟨HT, HO, HsT, Hr⟩
  rw [e3]
  iapply (wp_phaseC xs ws K false c u (2 * u + 2) hu _) $$ [HF HO]
  · isplitr; · iexact HC
    isplitl [HF] <;> iassumption
  iintro ⟨HF, HO⟩
  rw [e4]
  iapply (wp_phaseC xs ws K true c u (oj (u + 1)) hu _) $$ [HT HO]
  · isplitr; · iexact HC
    isplitl [HT] <;> iassumption
  iintro ⟨HT, HO⟩
  rw [e5]
  iapply Hk
  isplitl [HF]; · iexact HF
  isplitl [HT]; · iexact HT
  isplitl [HI]; · iexact HI
  isplitl [HsF]; · iexact HsF
  isplitl [HsT]; · iexact HsT
  isplitl [Hr] <;> iassumption

theorem wp_steps (c : Dev nD) (f : OBuf F) (Q : PUnit → sProp 𝕄) : ∀ n u : ℕ, u + n = 62 →
    (iprop(Ctx xs ws K ∗ State xs ws c u (outAt xs ws c f u))
      ⊢ iprop((State xs ws c 62 (outAt xs ws c f 62) -∗ WP c (part F cc0_scratch12 (up false c) (up true c)) Q) -∗ WP c (stepsG F c u n) Q))
  | 0, u, h => by
    obtain rfl : u = 62 := by omega
    iintro ⟨-, HS⟩ Hk
    iapply Hk $$ HS
  | n + 1, u, h => by
    have ih := wp_steps c f Q n (u + 1) (by omega)
    have hs := wp_step xs ws K c u (by omega) (outAt xs ws c f u) (fun _ => WP c (stepsG F c (u + 1) n) Q)
    rw [show stepsG F c u (n + 1) = (stepG F c u >>= fun _ => stepsG F c (u + 1) n) from rfl]
    unfold WP at hs ih ⊢
    rw [wp_bind]
    iintro ⟨#HC, HS⟩ Hk
    iapply hs $$ [HS]
    · isplitr; · iexact HC
      iexact HS
    iintro HS
    iapply ih $$ [HS]
    · isplitr; · iexact HC
      iexact HS
    iexact Hk

/-! ## The greeting and the first products -/

/-- A direction before anything has happened. -/
def DirI (b : Bool) (c : Dev nD) : sProp 𝕄 :=
  iprop((slotAny b c 0 ∗ slotAny b c 1) ∗ creds b c 0 ∗ toks b c 0 ∗ stoks b c 0 ∗ posn b c 0 0 0 0 0 0 0)

theorem wp_hello (b : Bool) (c : Dev nD) (k' : ℕ) (Q : PUnit → sProp 𝕄) :
    iprop(Ctx xs ws K ∗ slotAny b c 1 ∗ payTok b c 0 ∗ owesE c (owedAt b c 0 k'))
      ⊢ iprop((owesE c (owedAt b c 1 k') -∗ Q ⟨⟩) -∗ WP c (semSignalWord (up b c) barS 1#32) Q) := by
  have h := wp_pay xs ws K b c 0 k' (by decide) (sem := barS) rfl rfl Q
  have hpay : payK xs ws (pto b 0 c) (pk b 0) (pr 0) (pd b 0) = iprop(slotAny b c 1 ∗ reached ER (kcell (c, rcvK b 1)) 0) := by
    show Free b (up b c) 0 = _
    unfold Free
    rw [dn_up]
    rfl
  rw [hpay] at h
  have h' : iprop(Ctx xs ws K ∗ owesE c (owedAt b c 0 k') ∗ payTok b c 0 ∗ (slotAny b c 1 ∗ reached ER (kcell (c, rcvK b 1)) 0) ∗ reached ER (kcell (up b c, barK)) 0)
      ⊢ iprop((owesE c (owedAt b c 1 k') -∗ Q ⟨⟩) -∗ WP c (semSignalWord (up b c) barS 1#32) Q) := h
  iintro ⟨#HC, Hs, Ht, HO⟩ Hk
  iapply h' $$ [Hs Ht HO]
  · isplitr; · iexact HC
    isplitl [HO]; · iexact HO
    isplitl [Ht]; · iexact Ht
    isplitl [Hs]
    · isplitl [Hs]; · iexact Hs
      iapply (Ctx_reached xs ws K (c, rcvK b 1)); iexact HC
    iapply (Ctx_reached xs ws K (up b c, barK)); iexact HC
  iexact Hk

theorem bigSep_bool (Φ : Bool → sProp 𝕄) : bigSep Finset.univ Φ = iprop(Φ false ∗ Φ true) := by
  rw [show (Finset.univ : Finset Bool) = {false, true} by decide, BI.bigSep_insert (by decide), BI.bigSep_singleton]
  rfl

/-- The wait for both neighbours, at one of the two barriers. -/
theorem wp_meet (c : Dev nD) (i : Fin 2) {sem : Sem sig} (hs : ksem (.inl i) = .reg sem) (ι : ℕ) {O : CellTallies nD τ sig ℕ}
    (hmay : (levAts L lv : sProp 𝕄) ⊢ MayWait (c : Thread nD τ) (ksem (.inl i)) ι O) (Q : PUnit → sProp 𝕄) :
    iprop(Ctx xs ws K ∗ cred (tallyAt (kcell (c, .inl i)) ι 1) ∗ cred (tallyAt (kcell (c, .inl i)) ι 1) ∗ owesE c O ∗ pos c (.inl i) 0)
      ⊢ iprop(((owesE c O ∗ pos c (.inl i) 1 ∗ payK xs ws c (.inl i) 0 false ∗ payK xs ws c (.inl i) 0 true) -∗ Q ⟨⟩)
          -∗ WP c (semWaitWord sem 2#32) Q) := by
  have hw : ∀ K' : PUnit → sProp 𝕄, wpE (defs₀ (F := F)) 𝒱₀ (c : Thread nD τ) none Set.univ (.semWait sem 2) K'
      = waitSpec (c : Thread nD τ) Set.univ (ksem (.inl i)) 2 K' := fun K' => by rw [hs]; rfl
  have hD : dutiesK (.inl i) 0 = (Finset.univ : Finset Bool) := rfl
  have hcr : (tallyAt (kcell (c, .inl i)) ι 2 : CellTallies nD τ sig ℕ) = tallyAt (kcell (c, .inl i)) ι 1 + tallyAt (kcell (c, .inl i)) ι 1 := by
    exact (tallyAt_add (kcell (c, .inl i)) ι 1 1).symm
  have h := wp_cell xs ws K (k := .inl i) 0 hD (n := 2) rfl ι hw hmay Q
  rw [bigSep_bool] at h
  rw [show (semWaitWord sem 2#32 : Act F PUnit) = Prog.lift (.semWait sem 2) from rfl]
  iintro ⟨#HC, Hc, Hd, HO, Hp⟩ Hk
  iapply h $$ [Hc Hd HO Hp]
  · isplitr; · iexact HC
    isplitl [Hc Hd]
    · rw [hcr]
      iapply (cred_add _ _).2
      isplitl [Hc] <;> iassumption
    isplitl [HO] <;> iassumption
  iexact Hk

theorem wp_greet (c : Dev nD) (Q : PUnit → sProp 𝕄) :
    iprop(Ctx xs ws K ∗ slotAny false c 1 ∗ slotAny true c 1 ∗ payTok false c 0 ∗ payTok true c 0 ∗ credOf false c 0 ∗ credOf true c 0
        ∗ pos c barK 0 ∗ owesE c (owed c 0 0))
      ⊢ iprop(((Free false c 0 ∗ Free true c 0 ∗ pos c barK 1 ∗ owesE c (owed c 1 1)) -∗ Q ⟨⟩)
          -∗ WP c (greet F (up false c) (up true c)) Q) := by
  have e2 : owedAt false c 1 0 = owedAt true c 0 1 := (owedAt_true c _ _).symm
  have e3 : owedAt true c 1 1 = owed c 1 1 := owedAt_true c _ _
  have hmay := mayWait_owed (F := F) false c (ksem barK) 1 1 1 (le_refl _) (le_refl _) (by decide)
  have e1 : owed c 0 0 = owedAt false c 0 0 := rfl
  have hm : iprop(Ctx xs ws K ∗ credOf false c 0 ∗ credOf true c 0 ∗ owesE c (owed c 1 1) ∗ pos c barK 0)
      ⊢ iprop(((owesE c (owed c 1 1) ∗ pos c barK 1 ∗ Free false c 0 ∗ Free true c 0) -∗ Q ⟨⟩) -∗ WP c (semWaitWord barS 2#32) Q) :=
    wp_meet xs ws K c 0 (sem := barS) rfl 1 hmay Q
  unfold WP at hm
  unfold greet WP
  rw [e1]
  simp only [wp_bind]
  iintro ⟨#HC, Hs, Hs', Ht, Ht', Hc, Hc', Hp, HO⟩ Hk
  iapply (wp_hello xs ws K false c 0 _) $$ [Hs Ht HO]
  · isplitr; · iexact HC
    isplitl [Hs]; · iexact Hs
    isplitl [Ht] <;> iassumption
  iintro HO
  rw [e2]
  iapply (wp_hello xs ws K true c 1 _) $$ [Hs' Ht' HO]
  · isplitr; · iexact HC
    isplitl [Hs']; · iexact Hs'
    isplitl [Ht'] <;> iassumption
  iintro HO
  rw [e3]
  iapply hm $$ [Hc Hc' Hp HO]
  · isplitr; · iexact HC
    isplitl [Hc]; · iexact Hc
    isplitl [Hc']; · iexact Hc'
    isplitl [HO] <;> iassumption
  iintro ⟨HO, Hp, Hf, Hf'⟩
  iapply Hk
  isplitl [Hf]; · iexact Hf
  isplitl [Hf']; · iexact Hf'
  isplitl [Hp] <;> iassumption

theorem wp_seed (c : Dev nD) (Q : PUnit → sProp 𝕄) :
    iprop(inputs xs ws c ∗ slotAny false c 0 ∗ slotAny true c 0)
      ⊢ iprop(((inputs xs ws c ∗ slotHas false c 0 (sent xs ws false 0 c) ∗ slotHas true c 0 (sent xs ws true 0 c)) -∗ Q ⟨⟩)
          -∗ WP c (seed F xBuf wBuf (comm false) (comm true) (comm_whole false) (comm_whole true) (k0_off1 c) (k0_off1_inb c)) Q) := by
  have hfill (b : Bool) (R : PUnit → sProp 𝕄) : slotAny b c 0 ⊢ iprop((slotHas b c 0 (sent xs ws b 0 c) -∗ R ⟨⟩)
      -∗ WP c (fill F (comm b) (comm_whole b) 0 (by decide) (sent xs ws b 0 c)) R) :=
    wp_fill (comm b) (0 : Fin 2) c (comm_whole b) (sent xs ws b 0 c) R
  unfold seed WP
  simp only [wp_bind]
  iintro ⟨HI, Hs, Hs'⟩ Hk
  iapply (wp_product xs ws c (k0_off1 c) (k0_off1_inb c) 0 (Nat.zero_le _) _) $$ HI
  iintro HI
  iapply (hfill false _) $$ Hs
  iintro Hs
  iapply (wp_product xs ws c (k0_off1 c) (k0_off1_inb c) 2048 (le_refl _) _) $$ HI
  iintro HI
  iapply (hfill true _) $$ Hs'
  iintro Hs'
  iapply Hk
  isplitl [HI]; · iexact HI
  isplitl [Hs] <;> iassumption

/-! ## The parting -/

theorem wp_bye (b : Bool) (c : Dev nD) (k' : ℕ) (Q : PUnit → sProp 𝕄) :
    iprop(Ctx xs ws K ∗ payTok b c 124 ∗ owesE c (owedAt b c 124 k'))
      ⊢ iprop((owesE c (owedAt b c 125 k') -∗ Q ⟨⟩) -∗ WP c (semSignalWord (up b c) cc0_scratch12.sem 1#32) Q) := by
  have h : iprop(Ctx xs ws K ∗ owesE c (owedAt b c 124 k') ∗ payTok b c 124 ∗ emp ∗ reached ER (kcell (up b c, extK)) 0)
      ⊢ iprop((owesE c (owedAt b c 125 k') -∗ Q ⟨⟩) -∗ WP c (semSignalWord (up b c) cc0_scratch12.sem 1#32) Q) :=
    wp_pay xs ws K b c 124 k' (by decide) (sem := cc0_scratch12.sem) rfl rfl Q
  iintro ⟨#HC, Ht, HO⟩ Hk
  iapply h $$ [Ht HO]
  · isplitr; · iexact HC
    isplitl [HO]; · iexact HO
    isplitl [Ht]; · iexact Ht
    isplitr; · iempintro
    iapply (Ctx_reached xs ws K (up b c, extK)); iexact HC
  iexact Hk

/-- A cell past its last round is a counter at zero. -/
theorem close_at (c : Dev nD) (k : Kd) (R : ℕ) (hR : ∀ r, R ≤ r → dutiesK k r = ∅) :
    iprop(Ctx xs ws K ∗ pos c k R) ⊢ iprop(|={Set.univ}=> semVal (kcell (c, k)) 0) := by
  unfold pos
  iintro ⟨#HC, Hp, -⟩
  ihave HI := (Ctx_inv xs ws K (c, k)) $$ HC
  iapply (cell_close ER (ringRd xs ws) (Set.mem_univ (K (c, k))) (fun h => h) (R := R) (fun r hr => (duties_eq xs ws c k r).trans (hR r hr)))
  isplitl [HI] <;> iassumption

/-- A direction when everything has happened. -/
def DirE (b : Bool) (c : Dev nD) : sProp 𝕄 :=
  iprop((slotAny b c 0 ∗ slotAny b c 1) ∗ (semVal (kcell (c, sndK b 0)) 0 ∗ semVal (kcell (c, sndK b 1)) 0)
    ∗ (semVal (kcell (c, rcvK b 0)) 0 ∗ semVal (kcell (c, rcvK b 1)) 0) ∗ semVal (kcell (c, crdK b 0)) 0 ∗ semVal (kcell (c, crdK b 1)) 0)

theorem close_dir (b : Bool) (c : Dev nD) :
    iprop(Ctx xs ws K ∗ slotAny b c 0 ∗ slotAny b c 1 ∗ posn b c 62 31 31 31 31 30 31) ⊢ iprop(|={Set.univ}=> DirE (F := F) b c) := by
  unfold posn DirE
  iintro ⟨#HC, Hs, Hs', Hp1, Hp2, Hp3, Hp4, Hp5, Hp6⟩
  imod (close_at xs ws K c (sndK b 0) 31 (fun r hr => if_neg (by omega))) $$ [Hp1] with H1
  · isplitr; · iexact HC
    iexact Hp1
  imod (close_at xs ws K c (sndK b 1) 31 (fun r hr => if_neg (by omega))) $$ [Hp2] with H2
  · isplitr; · iexact HC
    iexact Hp2
  imod (close_at xs ws K c (rcvK b 1) 31 (fun r hr => if_neg (by omega))) $$ [Hp3] with H3
  · isplitr; · iexact HC
    iexact Hp3
  imod (close_at xs ws K c (rcvK b 0) 31 (fun r hr => if_neg (by omega))) $$ [Hp4] with H4
  · isplitr; · iexact HC
    iexact Hp4
  imod (close_at xs ws K c (crdK b 1) 30 (fun r hr => if_neg (by show ¬(2 * r + 1 + 1 < 62); omega))) $$ [Hp5] with H5
  · isplitr; · iexact HC
    iexact Hp5
  imod (close_at xs ws K c (crdK b 0) 31 (fun r hr => if_neg (by show ¬(2 * r + 0 + 1 < 62); omega))) $$ [Hp6] with H6
  · isplitr; · iexact HC
    iexact Hp6
  imodintro
  isplitl [Hs Hs']
  · isplitl [Hs] <;> iassumption
  isplitl [H1 H2]
  · isplitl [H1] <;> iassumption
  isplitl [H3 H4]
  · isplitl [H4] <;> iassumption
  isplitl [H6] <;> iassumption

/-- Everything has happened. -/
def Done (c : Dev nD) (f : OBuf F) : sProp 𝕄 :=
  iprop(DirE false c ∗ DirE true c ∗ (semVal (kcell (c, barK)) 0 ∗ semVal (kcell (c, extK)) 0) ∗ inputs xs ws c ∗ stage c false ∗ stage c true
    ∗ result c f ∗ owesE c 0)

theorem wp_part (c : Dev nD) (f : OBuf F) (Q : PUnit → sProp 𝕄) :
    iprop(Ctx xs ws K ∗ State xs ws c 62 f ∗ pos c barK 1 ∗ pos c extK 0)
      ⊢ iprop((Done xs ws c f -∗ Q ⟨⟩) -∗ WP c (part F cc0_scratch12 (up false c) (up true c)) Q) := by
  have e1 : owed c (oj 62) (oj 62) = owedAt false c 124 124 := rfl
  have e2 : owedAt false c 125 124 = owedAt true c 124 125 := (owedAt_true c _ _).symm
  have e3 : owedAt true c 125 125 = 0 := owedAt_end true c
  have e0 (b : Bool) : toks (F := F) b c (oj 62) = toks b c 124 := rfl
  have hT (b : Bool) : takeRes (F := F) b c 62 = credOf b c 124 := if_neg (by decide)
  have hS (b : Bool) : spare (F := F) b c 62 = slotAny b c 1 := if_pos rfl
  have hmay : (levAts L lv : sProp 𝕄) ⊢ MayWait (c : Thread nD τ) (ksem extK) 125 0 := by
    have h := mayWait_owed (F := F) true c (ksem extK) 125 125 125 (le_refl _) (le_refl _) (by decide)
    rw [e3] at h
    exact h
  have hm (R : PUnit → sProp 𝕄) : iprop(Ctx xs ws K ∗ credOf false c 124 ∗ credOf true c 124 ∗ owesE c 0 ∗ pos c extK 0)
      ⊢ iprop(((owesE c 0 ∗ pos c extK 1 ∗ emp ∗ emp) -∗ R ⟨⟩) -∗ WP c (semWaitWord cc0_scratch12.sem 2#32) R) :=
    wp_meet xs ws K c 1 (sem := cc0_scratch12.sem) rfl 125 hmay R
  unfold WP at hm
  unfold State Dir part WP
  rw [hT, hT, hS, hS, e1, e0 false, e0 true]
  simp only [wp_bind]
  iintro ⟨#HC, ⟨⟨Hs, Hc, -, Ht, -, Hp, Hs'⟩, ⟨Hz, Hd, -, Hv, -, Hq, Hz'⟩, HI, HsF, HsT, Hr, HO⟩, HpB, HpE⟩ Hk
  ihave Ht := (Entails.of_eq (toks_peel (F := F) false c (by decide : 124 < 125))) $$ Ht
  ihave Hv := (Entails.of_eq (toks_peel (F := F) true c (by decide : 124 < 125))) $$ Hv
  icases Ht with ⟨Ht, -⟩
  icases Hv with ⟨Hv, -⟩
  iapply (wp_bye xs ws K false c 124 _) $$ [Ht HO]
  · isplitr; · iexact HC
    isplitl [Ht] <;> iassumption
  iintro HO
  rw [e2]
  iapply (wp_bye xs ws K true c 125 _) $$ [Hv HO]
  · isplitr; · iexact HC
    isplitl [Hv] <;> iassumption
  iintro HO
  rw [e3]
  iapply (hm _) $$ [Hc Hd HpE HO]
  · isplitr; · iexact HC
    isplitl [Hc]; · iexact Hc
    isplitl [Hd]; · iexact Hd
    isplitl [HO] <;> iassumption
  iintro ⟨HO, HpE, -, -⟩
  rw [Prog.pure_eq_ret, wp_ret]
  ihave Hs := (slotHas_any false c (sl 62) _) $$ Hs
  ihave Hz := (slotHas_any true c (sl 62) _) $$ Hz
  imod (close_dir xs ws K false c) $$ [Hs Hs' Hp] with HF
  · isplitr; · iexact HC
    isplitl [Hs]; · iexact Hs
    isplitl [Hs'] <;> iassumption
  imod (close_dir xs ws K true c) $$ [Hz Hz' Hq] with HT
  · isplitr; · iexact HC
    isplitl [Hz]; · iexact Hz
    isplitl [Hz'] <;> iassumption
  imod (close_at xs ws K c barK 1 (fun r hr => if_neg (by omega))) $$ [HpB] with HB
  · isplitr; · iexact HC
    iexact HpB
  imod (close_at xs ws K c extK 1 (fun r hr => if_neg (by omega))) $$ [HpE] with HE
  · isplitr; · iexact HC
    iexact HpE
  imodintro
  iapply Hk
  unfold Done
  isplitl [HF]; · iexact HF
  isplitl [HT]; · iexact HT
  isplitl [HB HE]
  · isplitl [HB] <;> iassumption
  isplitl [HI]; · iexact HI
  isplitl [HsF]; · iexact HsF
  isplitl [HsT]; · iexact HsT
  isplitl [Hr] <;> iassumption

/-! ## The whole -/

theorem wp_body (c : Dev nD) (f : OBuf F) (Q : PUnit → sProp 𝕄) :
    iprop(Ctx xs ws K ∗ DirI false c ∗ DirI true c ∗ pos c barK 0 ∗ pos c extK 0 ∗ inputs xs ws c ∗ stage c false ∗ stage c true
        ∗ result c f ∗ owesE c (owed c 0 0))
      ⊢ iprop((Done xs ws c (outAt xs ws c f 62) -∗ Q ⟨⟩) -∗ WP c (bodyG F c) Q) := by
  have hT (b : Bool) : takeRes (F := F) b c 0 = Free b c 0 := if_pos rfl
  have hS (b : Bool) : spare (F := F) b c 0 = iprop(emp) := if_neg (by decide)
  have hst := wp_steps xs ws K c f Q 62 0 rfl
  unfold DirI
  rw [creds_peel false c (by decide : 0 < 125), creds_peel true c (by decide : 0 < 125), toks_peel false c (by decide : 0 < 125),
    toks_peel true c (by decide : 0 < 125)]
  unfold bodyG
  unfold WP at hst ⊢
  simp only [wp_bind]
  iintro ⟨#HC, ⟨⟨Hs, Hs'⟩, ⟨Hc, Hcs⟩, ⟨Ht, Hts⟩, Hst, Hp⟩, ⟨⟨Hz, Hz'⟩, ⟨Hd, Hds⟩, ⟨Hv, Hvs⟩, Hsv, Hq⟩, HpB, HpE, HI, HsF, HsT, Hr, HO⟩ Hk
  iapply (wp_greet xs ws K c _) $$ [Hs' Hz' Ht Hv Hc Hd HpB HO]
  · isplitr; · iexact HC
    isplitl [Hs']; · iexact Hs'
    isplitl [Hz']; · iexact Hz'
    isplitl [Ht]; · iexact Ht
    isplitl [Hv]; · iexact Hv
    isplitl [Hc]; · iexact Hc
    isplitl [Hd]; · iexact Hd
    isplitl [HpB] <;> iassumption
  iintro ⟨Hf, Hf', HpB, HO⟩
  iapply (wp_seed xs ws c _) $$ [HI Hs Hz]
  · isplitl [HI]; · iexact HI
    isplitl [Hs] <;> iassumption
  iintro ⟨HI, Hs, Hz⟩
  iapply hst $$ [Hs Hz Hf Hf' Hcs Hds Hts Hvs Hst Hsv Hp Hq HI HsF HsT Hr HO]
  · isplitr; · iexact HC
    unfold State Dir
    rw [hT, hT, hS, hS, show owed c (oj 0) (oj 0) = owed c 1 1 from rfl]
    isplitl [Hs Hf Hcs Hts Hst Hp]
    · isplitl [Hs]; · iexact Hs
      isplitl [Hf]; · iexact Hf
      isplitl [Hcs]; · iexact Hcs
      isplitl [Hts]; · iexact Hts
      isplitl [Hst]; · iexact Hst
      isplitl [Hp]; · iexact Hp
      iempintro
    isplitl [Hz Hf' Hds Hvs Hsv Hq]
    · isplitl [Hz]; · iexact Hz
      isplitl [Hf']; · iexact Hf'
      isplitl [Hds]; · iexact Hds
      isplitl [Hvs]; · iexact Hvs
      isplitl [Hsv]; · iexact Hsv
      isplitl [Hq]; · iexact Hq
      iempintro
    isplitl [HI]; · iexact HI
    isplitl [HsF]; · iexact HsF
    isplitl [HsT]; · iexact HsT
    isplitl [Hr]; · iexact Hr
    iexact HO
  iintro HS
  iapply (wp_part xs ws K c (outAt xs ws c f 62) Q) $$ [HS HpB HpE]
  · isplitr; · iexact HC
    isplitl [HS]; · iexact HS
    isplitl [HpB] <;> iassumption
  iexact Hk

end Whole

end Cert.KernelIdeal.Ring
-- ==== Proof.Fund.lean ====
/-
  What the launch deals the devices: the cells, the tokens of the payments and the copies, and the credits for what is owed.
-/
module

public import proofs.«01_k».proof.Proof.Whole
public import proofs.«01_k».proof.Proof.Gen.KernelIdeal.Frame

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The tokens -/

/-- A duty of the schedule by who pays it: a payment, or the departure of a copy. -/
abbrev Due : Type := Bool × (Fin 125 ⊕ Fin 62)

def dueCell : Due → Kd × ℕ × Bool
  | (b, .inl j) => (pk b j, pr j, pd b j)
  | (b, .inr u) => (sndK b (sl u), u.val / 2, false)

/-- Which duty a cell's is. -/
def dueOf : Kd × ℕ × Bool → Bool × (ℕ ⊕ ℕ)
  | (.inl i, _, b) => (b, .inl (124 * i.val))
  | (.inr (0, b, s), r, _) => (b, .inr (2 * r + s.val))
  | (.inr (1, b, s), r, _) => (b, .inl (2 * (2 * r + 1 - s.val) + 1))
  | (.inr (2, b, s), r, _) => (b, .inl (2 * (2 * r + s.val + 1)))

theorem dueOf_dueCell (x : Due) : dueOf (dueCell x) = (x.1, Sum.map Fin.val Fin.val x.2) := by revert x; decide +kernel

theorem dueCell_inj : Function.Injective dueCell := fun x y h => by
  have h' : (x.1, Sum.map Fin.val Fin.val x.2) = (y.1, Sum.map Fin.val Fin.val y.2) :=
    (dueOf_dueCell x).symm.trans ((congrArg dueOf h).trans (dueOf_dueCell y))
  have h1 : x.1 = y.1 := (Prod.ext_iff.mp h').1
  exact Prod.ext h1 (Sum.map_injective.mpr ⟨Fin.val_injective, Fin.val_injective⟩ (Prod.ext_iff.mp h').2)

/-- The device whose cell it is. -/
def dueDev : Due → Dev nD ≃ Dev nD
  | (b, .inl j) => ptoE b j
  | (_, .inr _) => Equiv.refl _

def tokOf (x : Dev nD × Due) : GSem nD τ sig × ℕ × Bool := (kcell (dueDev x.2 x.1, (dueCell x.2).1), (dueCell x.2).2)
theorem tokOf_inj : Function.Injective tokOf := by
  rintro ⟨c, x⟩ ⟨c', x'⟩ h
  have h1 : (dueDev x c, (dueCell x).1) = (dueDev x' c', (dueCell x').1) := kcell_inj (congrArg Prod.fst h)
  have h2 : (dueCell x).2 = (dueCell x').2 := congrArg (fun y : GSem nD τ sig × ℕ × Bool => y.2) h
  have hx : x = x' := dueCell_inj (Prod.ext (congrArg Prod.snd h1) h2)
  subst hx
  have hc : c = c' := (dueDev x).injective (congrArg Prod.fst h1)
  rw [hc]

def ringToks : Finset (GSem nD τ sig × ℕ × Bool) := Finset.univ.map ⟨tokOf, tokOf_inj⟩
def ringCells : Finset (GSem nD τ sig) := Finset.univ.map ⟨kcell, kcell_inj⟩

/-- The tokens device `c` pays with. -/
def held (c : Dev nD) : sProp 𝕄 := iprop((toks false c 0 ∗ stoks false c 0) ∗ toks true c 0 ∗ stoks true c 0)

theorem bigSep_below (n : ℕ) (Φ : ℕ → sProp 𝕄) : (bigSep Finset.univ fun j : Fin n => Φ j) = bigSep (Finset.Ico 0 n) Φ := by
  have e : Finset.Ico 0 n = (Finset.univ : Finset (Fin n)).map Fin.valEmbedding := by
    ext j
    rw [Finset.mem_Ico, Finset.mem_map]
    exact ⟨fun h => ⟨⟨j, h.2⟩, Finset.mem_univ _, rfl⟩, fun ⟨i, _, hi⟩ => ⟨Nat.zero_le _, hi ▸ i.isLt⟩⟩
  rw [e, BI.bigSep_map]
  rfl

theorem held_eq : bigSep ringToks (fun x => (dutyTok ER x.1 x.2.1 x.2.2 : sProp 𝕄)) = bigSep Finset.univ fun c : Dev nD => held c := by
  unfold ringToks
  rw [BI.bigSep_map, BI.bigSep_univ_prod]
  refine bigSep_congr fun c _ => ?_
  have hb (b : Bool) : (bigSep Finset.univ fun i : Fin 125 ⊕ Fin 62 => (dutyTok ER (tokOf (c, b, i)).1 (tokOf (c, b, i)).2.1 (tokOf (c, b, i)).2.2 : sProp 𝕄))
      = iprop(toks b c 0 ∗ stoks b c 0) := by
    rw [BI.bigSep_univ_sum]
    unfold toks stoks
    rw [← bigSep_below, ← bigSep_below]
    refine congrArg₂ _ (bigSep_congr fun j _ => ?_) rfl
    unfold payTok
    rw [← ptoE_apply]
    rfl
  show bigSep (Finset.univ : Finset (Bool × (Fin 125 ⊕ Fin 62))) (fun x => (dutyTok ER (tokOf (c, x)).1 (tokOf (c, x)).2.1 (tokOf (c, x)).2.2 : sProp 𝕄)) = _
  rw [BI.bigSep_univ_prod, bigSep_bool, hb, hb]
  rfl

/-! ## The semaphores -/

/-- The semaphores the kernel names besides the barrier's. -/
abbrev osem : Unit ⊕ ((Fin 3 × Bool × Fin 2) ⊕ Bool) → SemLoc sig
  | .inl _ => ksem extK
  | .inr (.inl k) => ksem (.inr k)
  | .inr (.inr b) => .dma (copyS b).sem

theorem ownSemFacts : Pipeline.OwnSemFacts cfg0.spec osem := by decide +kernel

/-- The counters of the copies to the result. -/
def copies0 (c : Dev nD) : sProp 𝕄 := iprop(semVal ((c : Thread nD τ), .dma (copyS false).sem) 0 ∗ semVal ((c : Thread nD τ), .dma (copyS true).sem) 0)

theorem ownSems0_eq (c : Dev nD) : (Pipeline.ownSems0 (Ix := ℕ) (Name := ℕ) (U := UU) (Lvl := ℕ) (Val := Elt F) (τ := τ) osem c : sProp 𝕄)
    = iprop(semVal (kcell (c, extK)) 0 ∗ (bigSep Finset.univ fun k : Fin 3 × Bool × Fin 2 => semVal (kcell (c, .inr k)) 0) ∗ copies0 c) := by
  unfold Pipeline.ownSems0 copies0
  rw [BI.bigSep_univ_sum, BI.bigSep_univ_sum, bigSep_bool, Finset.univ_unique, BI.bigSep_singleton]
  rfl

theorem unscopedSems0_eq (c : Dev nD) : (unscopedSems0 c : sProp 𝕄) = semVal (kcell (c, barK)) 0 := by
  unfold unscopedSems0
  rw [bigSep_eq_bigSepL_of_eq [SemLoc.reg barS] (by decide) (by decide)]
  rfl

theorem bigSep_two (Φ : Fin 2 → sProp 𝕄) : bigSep Finset.univ Φ = iprop(Φ 0 ∗ Φ 1) := by
  rw [show (Finset.univ : Finset (Fin 2)) = {0, 1} by decide, BI.bigSep_insert (by decide), BI.bigSep_singleton]
  rfl
theorem bigSep_Kd (Φ : Kd → sProp 𝕄) : bigSep Finset.univ Φ = iprop((Φ barK ∗ Φ extK) ∗ bigSep Finset.univ fun k => Φ (.inr k)) := by
  rw [BI.bigSep_univ_sum, bigSep_two]
  rfl

section Deal

variable (xs : Dev nD → XBuf F) (ws : Dev nD → WBuf F)

/-- What device `c` has of its cells and tokens. -/
def linear (c : Dev nD) : sProp 𝕄 := iprop((bigSep Finset.univ fun k : Kd => pos c k 0) ∗ held c)

/-- What the launch element deals device `c`. -/
def G (c : Dev nD) : sProp 𝕄 := iprop((bigSep Finset.univ fun k : Kd => roundState ER (ringRd xs ws) (kcell (c, k)) 0) ∗ linear c)

/-- The cells' invariants and first rounds. -/
def records (K : Dev nD × Kd → ℕ) : sProp 𝕄 :=
  iprop((bigSep Finset.univ fun ck : Dev nD × Kd => cellInv ER (ringRd xs ws) (K ck) (kcell ck))
    ∗ bigSep Finset.univ fun ck : Dev nD × Kd => reached ER (kcell ck) 0)
instance records_persistent (K : Dev nD × Kd → ℕ) : Persistent (records xs ws K) := by unfold records; infer_instance

/-- What it is after the cells' invariants are in place. -/
def G' (c : Dev nD) : sProp 𝕄 := iprop(∃ K : Dev nD × Kd → ℕ, records xs ws K ∗ linear c ∗ copies0 c)

theorem fund_ring : BI.own (ER (initOf ringCells ringToks)) ⊢ (|==> bigSep Finset.univ (G xs ws) : sProp 𝕄) := by
  have hX (Φ : GSem nD τ sig → sProp 𝕄) : bigSep ringCells Φ = bigSep Finset.univ fun c : Dev nD => bigSep Finset.univ fun k : Kd => Φ (kcell (c, k)) := by
    unfold ringCells
    rw [BI.bigSep_map, BI.bigSep_univ_prod]
    rfl
  iintro HX
  imod (Rounds.fund ER (ringRd xs ws) ringCells ringToks) $$ HX with ⟨Hst, Hr, Hat, Htok⟩
  imodintro
  ihave Hst := (Entails.of_eq (hX fun g => roundState ER (ringRd xs ws) g 0)) $$ Hst
  ihave Hat := (Entails.of_eq (hX fun g => atPos ER g 0 ∅ 0)) $$ Hat
  ihave Hr := (Entails.of_eq (hX fun g => reached ER g 0)) $$ Hr
  ihave Htok := (Entails.of_eq held_eq) $$ Htok
  unfold G linear pos
  simp only [bigSep_sep']
  isplitl [Hst]; · iexact Hst
  isplitl [Hat Hr]
  · isplitl [Hat] <;> iassumption
  iexact Htok

theorem core_alloc (c : Dev nD) :
    iprop(Pipeline.ownSems0 (Ix := ℕ) (Name := ℕ) (U := UU) (Lvl := ℕ) (Val := Elt F) (τ := τ) osem c ∗ unscopedSems0 c ∗ G xs ws c)
      ⊢ |={Set.univ}=> iprop((bigSep Finset.univ fun k : Kd => iprop(∃ κ : ℕ, cellInv ER (ringRd xs ws) κ (kcell (c, k)))) ∗ linear c ∗ copies0 c) := by
  have halloc : iprop((bigSep Finset.univ fun k : Kd => semVal (kcell (c, k)) 0) ∗ bigSep Finset.univ fun k : Kd => roundState ER (ringRd xs ws) (kcell (c, k)) 0)
      ⊢ (|={Set.univ}=> bigSep Finset.univ fun k : Kd => iprop(∃ κ : ℕ, cellInv ER (ringRd xs ws) κ (kcell (c, k))) : sProp 𝕄) := by
    rw [← bigSep_sep']
    exact (bigSep_mono fun k _ => (Rounds.body_intro ER (ringRd xs ws) (kcell (c, k))).trans inv_alloc).trans (bigSep_fupd _ _)
  rw [ownSems0_eq, unscopedSems0_eq]
  rw [bigSep_Kd fun k => (semVal (kcell (c, k)) 0 : sProp 𝕄)] at halloc
  unfold G
  iintro ⟨⟨HE, HR, HC⟩, HB, Hst, Hlin⟩
  imod halloc $$ [HE HR HB Hst] with Hinv
  · isplitr [Hst]
    · isplitr [HR]
      · isplitl [HB] <;> iassumption
      iexact HR
    iexact Hst
  imodintro
  isplitl [Hinv]; · iexact Hinv
  isplitl [Hlin] <;> iassumption

theorem pos_reached (c : Dev nD) (k : Kd) : pos (F := F) c k 0 ⊢ iprop(reached ER (kcell (c, k)) 0 ∗ pos c k 0) := by
  unfold pos
  iintro ⟨Ha, #Hr⟩
  isplitr; · iexact Hr
  isplitl; · iexact Ha
  iexact Hr

theorem linear_reached (c : Dev nD) :
    linear (F := F) c ⊢ iprop((bigSep Finset.univ fun k : Kd => reached ER (kcell (c, k)) 0) ∗ linear c) := by
  have hp : (bigSep Finset.univ fun k : Kd => pos (F := F) c k 0)
      ⊢ iprop((bigSep Finset.univ fun k : Kd => reached ER (kcell (c, k)) 0) ∗ bigSep Finset.univ fun k : Kd => pos c k 0) :=
    (bigSep_mono fun k _ => pos_reached c k).trans (Entails.of_eq (bigSep_sep' Finset.univ _ _))
  unfold linear
  iintro ⟨Hp, Hh⟩
  ihave Hp := hp $$ Hp
  icases Hp with ⟨Hr, Hp⟩
  isplitl [Hr]; · iexact Hr
  isplitl [Hp] <;> iassumption

theorem deal (K : Dev nD × Kd → ℕ) (c : Dev nD) : iprop(records xs ws K ∗ linear c ∗ copies0 c) ⊢ G' xs ws c := by
  unfold G'
  iintro H
  iexists K
  iexact H

theorem deal_all (K : Dev nD × Kd → ℕ) :
    iprop(records xs ws K ∗ bigSep Finset.univ fun c : Dev nD => iprop(linear c ∗ copies0 c)) ⊢ bigSep Finset.univ (G' xs ws) :=
  (sep_mono_left (BI.bigSep_of_persistent (Finset.univ : Finset (Dev nD)) (records xs ws K))).trans (by
    rw [← bigSep_sep']
    exact bigSep_mono fun c _ => deal xs ws K c)

theorem regroup :
    (bigSep Finset.univ fun c : Dev nD => iprop((bigSep Finset.univ fun k : Kd => iprop(∃ κ : ℕ, cellInv ER (ringRd xs ws) κ (kcell (c, k)))) ∗ linear c ∗ copies0 c) : sProp 𝕄)
      ⊢ bigSep Finset.univ (G' xs ws) := by
  have hl : (bigSep Finset.univ fun c : Dev nD => linear (F := F) c)
      ⊢ iprop((bigSep Finset.univ fun ck : Dev nD × Kd => reached ER (kcell ck) 0) ∗ bigSep Finset.univ fun c : Dev nD => linear c) := by
    rw [BI.bigSep_univ_prod, ← bigSep_sep']
    exact bigSep_mono fun c _ => linear_reached c
  rw [bigSep_sep', bigSep_sep', ← BI.bigSep_univ_prod (fun ck : Dev nD × Kd => iprop(∃ κ : ℕ, cellInv ER (ringRd xs ws) κ (kcell ck)))]
  iintro ⟨HI, Hlin, Hc⟩
  ihave HK := (BI.bigSep_exists_pi Finset.univ (fun (ck : Dev nD × Kd) (κ : ℕ) => (cellInv ER (ringRd xs ws) κ (kcell ck) : sProp 𝕄))) $$ HI
  icases HK with ⟨%K, #HI⟩
  ihave Hl := hl $$ Hlin
  icases Hl with ⟨#HR, Hlin⟩
  iapply (deal_all xs ws K)
  isplitr
  · unfold records
    isplitl; · iexact HI
    iexact HR
  rw [bigSep_sep']
  isplitl [Hlin] <;> iassumption

/-- The step over all the devices at once. -/
theorem glob : (bigSep Finset.univ fun c => iprop(Pipeline.ownSems0 (Ix := ℕ) (Name := ℕ) (U := UU) (Lvl := ℕ) (Val := Elt F) (τ := τ) osem c ∗ unscopedSems0 c ∗ G xs ws c) : sProp 𝕄)
    ⊢ |={Set.univ}=> bigSep Finset.univ (G' xs ws) :=
  ((bigSep_mono fun c _ => core_alloc xs ws c).trans (bigSep_fupd _ _)).trans (BI.fupd_mono (regroup xs ws))

end Deal

/-! ## The credits -/

theorem cred_sum {α : Type} [DecidableEq α] (s : Finset α) (f : α → CellTallies nD τ sig ℕ) :
    (cred (∑ x ∈ s, f x) : sProp 𝕄) = bigSep s fun x => cred (f x) := by
  induction s using Finset.induction_on with
  | empty => rw [Finset.sum_empty, BI.bigSep_empty, cred_zero]; rfl
  | insert a s ha ih =>
    rw [Finset.sum_insert ha, BI.bigSep_insert ha, ← ih]
    exact BI.Entails.antisymm (cred_add _ _).1 (cred_add _ _).2

theorem sum_onto (e : Dev nD ≃ Dev nD) (c : Dev nD) (k : Kd) (ι a : ℕ) (sm : SemLoc sig) (κ : ℕ) :
    ∑ d : Dev nD, (tallyAt (kcell (e d, k)) ι a : CellTallies nD τ sig ℕ) ((c : Thread nD τ), sm) κ
      = (tallyAt (kcell (c, k)) ι a : CellTallies nD τ sig ℕ) ((c : Thread nD τ), sm) κ := by
  refine (Equiv.sum_comp e fun d => (tallyAt (kcell (d, k)) ι a : CellTallies nD τ sig ℕ) ((c : Thread nD τ), sm) κ).trans ?_
  refine Finset.sum_eq_single c (fun d _ hd => ?_) (fun h => absurd (Finset.mem_univ _) h)
  rw [tallyAt_apply, if_neg fun h => hd (congrArg (fun g : GSem nD τ sig => g.1.1) h.1).symm]

/-- What all the devices owe one cell in a direction is what its device has credit for. -/
theorem sum_due (b : Bool) (c : Dev nD) (sm : SemLoc sig) (κ : ℕ) :
    ∑ d : Dev nD, due b 0 d ((c : Thread nD τ), sm) κ
      = ∑ j ∈ Finset.Ico 0 125, (tallyAt (kcell (c, pk b j)) (j + 1) (pa b j) : CellTallies nD τ sig ℕ) ((c : Thread nD τ), sm) κ := by
  unfold due
  simp only [Finset.sum_apply, Finsupp.finset_sum_apply]
  rw [Finset.sum_comm]
  refine Finset.sum_congr rfl fun j _ => ?_
  unfold due1
  simp only [← ptoE_apply]
  exact sum_onto (ptoE b j) c (pk b j) (j + 1) (pa b j) sm κ

theorem launch_sum (c : Dev nD) :
    (∑ sm : SemLoc sig, tallyOn ((c : Thread nD τ), sm) (launchCredit (Pipeline.owing fun d => owed d 0 0) 0 ((c : Thread nD τ), sm)) : CellTallies nD τ sig ℕ)
      = (∑ j ∈ Finset.Ico 0 125, tallyAt (kcell (c, pk false j)) (j + 1) (pa false j)) + ∑ j ∈ Finset.Ico 0 125, tallyAt (kcell (c, pk true j)) (j + 1) (pa true j) := by
  funext g
  ext ι
  obtain ⟨t, sm⟩ := g
  rw [Finset.sum_apply, Finsupp.finset_sum_apply]
  by_cases ht : t = (c : Thread nD τ)
  · subst ht
    rw [Finset.sum_eq_single sm (fun sm' _ h => by rw [tallyOn_ne (fun e => h (congrArg Prod.snd e).symm)]; rfl) (fun h => absurd (Finset.mem_univ _) h),
      tallyOn_self, Pipeline.launchCredit_owing]
    show ∑ d : Dev nD, (due false 0 d ((c : Thread nD τ), sm) ι + due true 0 d ((c : Thread nD τ), sm) ι) = _
    rw [Finset.sum_add_distrib, sum_due, sum_due, Pi.add_apply, Finsupp.add_apply]
    simp only [Finset.sum_apply, Finsupp.finset_sum_apply]
  · rw [Finset.sum_eq_zero fun sm' _ => by rw [tallyOn_ne (fun e => ht (congrArg Prod.fst e))]; rfl]
    rw [Pi.add_apply, Finsupp.add_apply]
    simp only [Finset.sum_apply, Finsupp.finset_sum_apply]
    have hz (b : Bool) : ∑ j ∈ Finset.Ico 0 125, (tallyAt (kcell (c, pk b j)) (j + 1) (pa b j) : CellTallies nD τ sig ℕ) (t, sm) ι = 0 :=
      Finset.sum_eq_zero fun j _ => by rw [tallyAt_apply, if_neg fun h => ht (congrArg Prod.fst h.1)]
    rw [hz, hz, Nat.add_zero]

theorem launch_creds (c : Dev nD) : (Pipeline.launchCred (fun d => owed d 0 0) c : sProp 𝕄) ⊢ iprop(creds false c 0 ∗ creds true c 0) := by
  unfold Pipeline.launchCred creds credOf
  rw [← cred_sum, ← cred_sum, ← cred_sum, launch_sum]
  exact (cred_add _ _).1

end Cert.KernelIdeal.Ring
-- ==== Proof.Equation.lean ====
/-
  The printed body is the short program.
-/
module

public import proofs.«01_k».proof.Proof.Program
public meta import Idealize.ShloMosaic.Lib.Tactic.ProgEq

@[expose] public section

namespace Cert.KernelIdeal.Ring

open Cert.KernelIdeal Cert.KernelIdeal.Gen
open Idealize.ShloMosaic Idealize.SL.Sem
open scoped Idealize.ShloMosaic.ProgEq

prog_eq printed_eq_stated : Cert.KernelIdeal.Ring.printed Cert.KernelIdeal.Ring.stated from Cert.KernelIdeal to Cert.KernelIdeal at () () by intros; rfl

end Cert.KernelIdeal.Ring
-- ==== Proof.Launch.lean ====
/-
  The run of the whole machine: what each device starts from and ends with, and the launch of all of them.
-/
module

public import proofs.«01_k».proof.Proof.Fund
public import proofs.«01_k».proof.Proof.Equation
public import Idealize.ShloMosaic.Lib.Ring
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The buffers of two slots, and the staging buffers -/

theorem slots_disjoint (s s' : Fin 2) (h : s ≠ s') : Disjoint (slotR s).set (slotR s').set :=
  Ring.lead_disjoint (s := S2x256x2048) (0 : Fin 3) 1 (fun j : Fin 2 => (![j.val, 0, 0] : Fin 3 → ℕ)) S1x256x2048.size (fun j => inb_slot j.isLt)
    (fun j => by simp) rfl s s' h
theorem slots_cover : Finset.univ.biUnion (fun s => (slotR s).set) = Finset.univ :=
  Ring.lead_cover (s := S2x256x2048) (0 : Fin 3) 1 (fun j : Fin 2 => (![j.val, 0, 0] : Fin 3 → ℕ)) S1x256x2048.size (fun j => inb_slot j.isLt)
    (fun j => by simp) (fun j a ha => by fin_cases a <;> first | exact absurd rfl ha | rfl) rfl
    (fun a ha => by fin_cases a <;> first | exact absurd rfl ha | rfl) rfl

theorem set_false (s : Fin 2) : (slotM false s).view.set = (slotR s).set := (slotOf_set _ s).trans (View.set_slice_whole cc0_scratch0 (slotR s))
theorem set_true (s : Fin 2) : (slotM true s).view.set = (slotR s).set := (slotOf_set _ s).trans (View.set_slice_whole cc0_scratch1 (slotR s))

/-- The slot holding `f`. -/
def slotPts (b : Bool) (c : Dev nD) (s : Fin 2) (f : Buf (Elt F) ((comm b).view.loc (c : Thread nD τ))) : sProp 𝕄 :=
  (slotM b s).view.loc (c : Thread nD τ) ↦[(slotM b s).view.set]{fullShare} f
theorem slotPts_false (c : Dev nD) (s : Fin 2) (f) : slotPts (F := F) false c s f = (((c : Thread nD τ).loc cc0_scratch0) ↦[(slotR s).set]{fullShare} f : sProp 𝕄) := by
  unfold slotPts
  rw [set_false]
  rfl
theorem slotPts_true (c : Dev nD) (s : Fin 2) (f) : slotPts (F := F) true c s f = (((c : Thread nD τ).loc cc0_scratch1) ↦[(slotR s).set]{fullShare} f : sProp 𝕄) := by
  unfold slotPts
  rw [set_true]
  rfl

/-- The direction's buffer of two slots. -/
def ringBuf (b : Bool) (c : Dev nD) : sProp 𝕄 :=
  iprop(∃ f : Buf (Elt F) ((comm b).view.loc (c : Thread nD τ)), (comm b).view.loc (c : Thread nD τ) ↦{fullShare} f)

theorem slots_in : ∀ (b : Bool) (c : Dev nD), ringBuf b c ⊢ (iprop(slotAny b c 0 ∗ slotAny b c 1) : sProp 𝕄)
  | false, c => Ring.slots2_split (U := UU) (ℓ := (c : Thread nD τ).loc cc0_scratch0) (q := fullShare) (fun s => (slotR s).set) slots_disjoint slots_cover
    (slotPts false c 0) (slotPts false c 1) (slotPts_false c 0) (slotPts_false c 1)
  | true, c => Ring.slots2_split (U := UU) (ℓ := (c : Thread nD τ).loc cc0_scratch1) (q := fullShare) (fun s => (slotR s).set) slots_disjoint slots_cover
    (slotPts true c 0) (slotPts true c 1) (slotPts_true c 0) (slotPts_true c 1)
theorem slots_out : ∀ (b : Bool) (c : Dev nD), (iprop(slotAny b c 0 ∗ slotAny b c 1) : sProp 𝕄) ⊢ ringBuf b c
  | false, c => Ring.slots2_join (U := UU) (ℓ := (c : Thread nD τ).loc cc0_scratch0) (q := fullShare) (fun s => (slotR s).set) slots_disjoint slots_cover
    (slotPts false c 0) (slotPts false c 1) (slotPts_false c 0) (slotPts_false c 1)
  | true, c => Ring.slots2_join (U := UU) (ℓ := (c : Thread nD τ).loc cc0_scratch1) (q := fullShare) (fun s => (slotR s).set) slots_disjoint slots_cover
    (slotPts true c 0) (slotPts true c 1) (slotPts_true c 0) (slotPts_true c 1)

/-- The direction's staging buffer. -/
def stagBuf (b : Bool) (c : Dev nD) : sProp 𝕄 :=
  iprop(∃ g : Buf (Elt F) ((stag b).view.loc (c : Thread nD τ)), (stag b).view.loc (c : Thread nD τ) ↦{fullShare} g)

theorem stage_eq (c : Dev nD) (b : Bool) : stage c b = (iprop(stagBuf b c ∗ semVal ((c : Thread nD τ), .dma (copyS b).sem) 0) : sProp 𝕄) := by
  unfold stage stagBuf
  rw [(stag_whole b).set_eq_univ]

theorem scratch_eq (c : Dev nD) : (Pipeline.scopedRest (Ix := ℕ) (Name := ℕ) (U := UU) (Lvl := ℕ) (Val := Elt F) spec0 c : sProp 𝕄)
    = iprop(ringBuf false c ∗ ringBuf true c ∗ stagBuf false c ∗ stagBuf true c) := scopedRest0_eq c

/-! ## What a device starts from and ends with -/

variable (m : (ℓ : Loc nD τ sig) → Buf (Elt F) ℓ) (ρ : Dev nD → PrngReg)

/-- Device `c`'s blocks of the arguments, as its memory holds them. -/
def argX (c : Dev nD) : XBuf F := Gen.iblk m c 0 t0_0
def argW (c : Dev nD) : WBuf F := Gen.iblk m c 1 t0_0
/-- What the result array of device `c` holds at first, and at last. -/
def out0 (c : Dev nD) : OBuf F := m ((c : Thread nD τ).loc main_v1)
def outN (c : Dev nD) : OBuf F := outAt (argX m) (argW m) c (out0 m c) 62

def start (c : Dev nD) : sProp 𝕄 :=
  iprop((∃ K : Dev nD × Kd → ℕ, Ctx (argX m) (argW m) K) ∗ linear c ∗ copies0 c ∗ (creds false c 0 ∗ creds true c 0) ∗ result c (out0 m c))
def Φ₀ (c : Dev nD) : sProp 𝕄 := iprop(start m c ∗ Pipeline.scopedRest spec0 c)
def Φ₁ (c : Dev nD) : sProp 𝕄 :=
  iprop((semVal (kcell (c, barK)) 0 ∗ result c (outN m c)) ∗ Pipeline.ownSems0 osem c ∗ Pipeline.scopedRest spec0 c)

def dats (_ : Fin 1) (c : Dev nD) : Pipeline.Dat τ (Elt F) ℕ ℕ UU ℕ cfg0 c where
  A w := Gen.V m c (Pipeline.arrRef spec0 w)
  after w _ := match w with
    | ⟨0, _⟩ => argX m c
    | ⟨1, _⟩ => argW m c
  Φ t := match t with
    | ⟨0, _⟩ => Φ₀ m c
    | ⟨_ + 1, _⟩ => Φ₁ m c
  q _ := fullShare
  owed t := match t with
    | ⟨0, _⟩ => owed c 0 0
    | ⟨_ + 1, _⟩ => 0

theorem share_eq (c : Dev nD) (w : Fin cfg0.W) : (dats m 0 c).share w = fullShare := by unfold Pipeline.Dat.share; split <;> rfl

theorem before_x (c : Dev nD) (d) : (dats m 0 c).before (0 : Fin 2) t0_0 d = argX m c := by
  unfold Pipeline.Dat.before
  rw [if_pos (fetch0_0 t0_0)]
  rfl
theorem before_w (c : Dev nD) (d) : (dats m 0 c).before (1 : Fin 2) t0_0 d = argW m c := by
  unfold Pipeline.Dat.before
  rw [if_pos (fetch0_1 t0_0)]
  rfl

/-! ## The body -/

theorem bigSep_ring (Φ : Fin 3 × Bool × Fin 2 → sProp 𝕄) : bigSep Finset.univ Φ
    = iprop(((Φ (0, false, 0) ∗ Φ (0, false, 1)) ∗ Φ (0, true, 0) ∗ Φ (0, true, 1)) ∗ ((Φ (1, false, 0) ∗ Φ (1, false, 1)) ∗ Φ (1, true, 0) ∗ Φ (1, true, 1))
      ∗ (Φ (2, false, 0) ∗ Φ (2, false, 1)) ∗ Φ (2, true, 0) ∗ Φ (2, true, 1)) := by
  have h3 (Ψ : Fin 3 → sProp 𝕄) : bigSep Finset.univ Ψ = iprop(Ψ 0 ∗ Ψ 1 ∗ Ψ 2) := bigSep_univ_eq_bigSepL [0, 1, 2] (by decide) (by decide) Ψ
  rw [BI.bigSep_univ_prod, h3, BI.bigSep_univ_prod, BI.bigSep_univ_prod, BI.bigSep_univ_prod, bigSep_bool, bigSep_bool, bigSep_bool]
  simp only [bigSep_two]

theorem body_of (c : Dev nD) (K : Dev nD × Kd → ℕ) (Q : PUnit → sProp 𝕄) :
    iprop(Ctx (argX m) (argW m) K ∗ linear c ∗ copies0 c ∗ (creds false c 0 ∗ creds true c 0) ∗ result c (out0 m c) ∗ Pipeline.scopedRest spec0 c
        ∗ inputs (argX m) (argW m) c ∗ owesE c (owed c 0 0))
      ⊢ iprop((∀ u, (Φ₁ m c ∗ inputs (argX m) (argW m) c ∗ owesE c 0) -∗ Q u) -∗ WP c (bodyG F c) Q) := by
  have hb := wp_body (argX m) (argW m) K c (out0 m c) Q
  unfold DirI posn at hb
  unfold linear held copies0
  rw [scratch_eq, bigSep_Kd, bigSep_ring]
  iintro ⟨#HC, ⟨⟨⟨HB, HE⟩, ⟨⟨S0, S1⟩, S2, S3⟩, ⟨⟨R0, R1⟩, R2, R3⟩, ⟨C0, C1⟩, C2, C3⟩, ⟨Tf, Uf⟩, Tt, Ut⟩, ⟨Y0, Y1⟩, ⟨Cf, Ct⟩, Hres, ⟨B0, B1, G0, G1⟩, Hin, Ho⟩ HQ
  ihave Hs0 := (slots_in false c) $$ B0
  ihave Hs1 := (slots_in true c) $$ B1
  iapply hb $$ [HB HE S0 S1 S2 S3 R0 R1 R2 R3 C0 C1 C2 C3 Tf Uf Tt Ut Y0 Y1 Cf Ct Hres G0 G1 Hin Ho Hs0 Hs1]
  · isplitr; · iexact HC
    isplitl [Hs0 Cf Tf Uf S0 S1 R0 R1 C0 C1]
    · isplitl [Hs0]; · iexact Hs0
      isplitl [Cf]; · iexact Cf
      isplitl [Tf]; · iexact Tf
      isplitl [Uf]; · iexact Uf
      isplitl [S0]; · iexact S0
      isplitl [S1]; · iexact S1
      isplitl [R1]; · iexact R1
      isplitl [R0]; · iexact R0
      isplitl [C1]; · iexact C1
      iexact C0
    isplitl [Hs1 Ct Tt Ut S2 S3 R2 R3 C2 C3]
    · isplitl [Hs1]; · iexact Hs1
      isplitl [Ct]; · iexact Ct
      isplitl [Tt]; · iexact Tt
      isplitl [Ut]; · iexact Ut
      isplitl [S2]; · iexact S2
      isplitl [S3]; · iexact S3
      isplitl [R3]; · iexact R3
      isplitl [R2]; · iexact R2
      isplitl [C3]; · iexact C3
      iexact C2
    isplitl [HB]; · iexact HB
    isplitl [HE]; · iexact HE
    isplitl [Hin]; · iexact Hin
    isplitl [G0 Y0]
    · irw [stage_eq]
      isplitl [G0] <;> iassumption
    isplitl [G1 Y1]
    · irw [stage_eq]
      isplitl [G1] <;> iassumption
    isplitl [Hres]; · iexact Hres
    iexact Ho
  unfold Done DirE
  rw [stage_eq, stage_eq]
  iintro ⟨⟨Hs0, ⟨S0, S1⟩, ⟨R0, R1⟩, C0, C1⟩, ⟨Hs1, ⟨S2, S3⟩, ⟨R2, R3⟩, C2, C3⟩, ⟨HB, HE⟩, Hin, ⟨G0, Y0⟩, ⟨G1, Y1⟩, Hres, Ho⟩
  ihave B0 := (slots_out false c) $$ Hs0
  ihave B1 := (slots_out true c) $$ Hs1
  iapply HQ
  unfold Φ₁
  irw [scratch_eq, ownSems0_eq, bigSep_ring]
  isplitr [Hin Ho]
  · isplitl [HB Hres]
    · isplitl [HB]; · iexact HB
      iexact Hres
    isplitr [B0 B1 G0 G1]
    · isplitl [HE]; · iexact HE
      isplitr [Y0 Y1]
      · isplitl [S0 S1 S2 S3]
        · isplitl [S0 S1]; · (isplitl [S0] <;> iassumption)
          isplitl [S2] <;> iassumption
        isplitl [R0 R1 R2 R3]
        · isplitl [R0 R1]; · (isplitl [R0] <;> iassumption)
          isplitl [R2] <;> iassumption
        isplitl [C0 C1]; · (isplitl [C0] <;> iassumption)
        isplitl [C2] <;> iassumption
      unfold copies0
      isplitl [Y0] <;> iassumption
    isplitl [B0]; · iexact B0
    isplitl [B1]; · iexact B1
    isplitl [G0] <;> iassumption
  isplitl [Hin] <;> iassumption

/-! ## The obligation -/

theorem owns_buf (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

theorem owes_in (c : Dev nD) : (dats m 0 c).owesAt 0 t0_0.castSucc ⊢ owesE c (owed c 0 0) := by
  unfold Pipeline.Dat.owesAt owesE
  iintro ⟨%W, -, H⟩
  iexists W
  iexact H
theorem owes_out (c : Dev nD) : owesE c 0 ⊢ (dats m 0 c).owesAt 0 t0_0.succ := by
  unfold Pipeline.Dat.owesAt owesE
  iintro ⟨%W, H⟩
  iexists W
  isplitr; · (ipureintro; exact fun _ _ => Or.inl trivial)
  iexact H

theorem body_prog (t : Fin cfg0.N) : Gen.bodyAt0 (F := F) t = Prog.op .deviceId fun c => bodyG F c := by
  rw [fin_N0 t]
  exact (printed_eq_stated F _ _ _ _ _ _ _ _ _ _ _ _ _ _ _ _ _ _ _ _ _ _ _).trans (stated_eq F)

theorem row (t : Fin cfg0.N) : defs₀ (F := F) .tc cfg0.body (cfg0.bodyArgs t (cfg0.slots t)) = Gen.bodyAt0 t := rfl
theorem staged_x : stage0_0 (cfg0.slots t0_0 (0 : Fin 2)) = Memref.whole cc0_stg0_0 := rfl
theorem staged_w : stage0_1 (cfg0.slots t0_0 (1 : Fin 2)) = Memref.whole cc0_stg1_0 := rfl
theorem Φ_first (c : Dev nD) : (dats m 0 c).Φ t0_0.castSucc = Φ₀ m c := rfl
theorem Φ_last (c : Dev nD) : (dats m 0 c).Φ t0_0.succ = Φ₁ m c := rfl

theorem wp_here (c : Dev nD) (k : Dev nD → Act F PUnit) (Q : PUnit → sProp 𝕄) :
    wp frame (wpE (defs₀ (F := F)) 𝒱₀ (c : Thread nD τ) none) Set.univ (Prog.op .deviceId k) Q = WP c (k c) Q := wp_deviceId 𝒱₀ (c : Thread nD τ) none Set.univ

theorem body_obligation (c : Dev nD) : Pipeline.BodyObligation (dats m 0 c) (defs₀ (F := F)) 𝒱₀ 0 Set.univ := fun t => by
  rw [fin_N0 t, bigSep_W0, bigSep_W0]
  simp only []
  rw [row, body_prog, Φ_first, Φ_last, wp_here]
  simp only [staged_x, staged_w, owns_buf]
  rw [show (dats m 0 c).after (0 : Fin 2) t0_0 = argX m c from rfl, show (dats m 0 c).after (1 : Fin 2) t0_0 = argW m c from rfl]
  unfold Φ₀ start
  iintro ⟨⟨⟨⟨%K, HC⟩, Hlin, Hcp, Hcr, Hres⟩, Hscr⟩, Ho, ⟨%d, %f, %hf, Hx⟩, ⟨%d', %f', %hf', Hw⟩⟩
  ihave Ho := (owes_in m c) $$ Ho
  rw [before_x] at hf
  rw [before_w] at hf'
  subst hf hf'
  iapply (body_of m c K _) $$ [HC Hlin Hcp Hcr Hres Hscr Ho Hx Hw]
  · isplitl [HC]; · iexact HC
    isplitl [Hlin]; · iexact Hlin
    isplitl [Hcp]; · iexact Hcp
    isplitl [Hcr]; · iexact Hcr
    isplitl [Hres]; · iexact Hres
    isplitl [Hscr]; · iexact Hscr
    isplitl [Hx Hw]
    · unfold inputs
      isplitl [Hx]; · iexact Hx
      iexact Hw
    iexact Ho
  iintro %u ⟨HΦ, Hin, Ho⟩
  isplitl [HΦ]; · iexact HΦ
  isplitl [Ho]; · iapply (owes_out m c) $$ Ho
  unfold inputs
  icases Hin with ⟨Hx, Hw⟩
  isplitl [Hx]
  · iexists (argX m c)
    isplitr; · (ipureintro; rfl)
    iexact Hx
  iexists (argW m c)
  isplitr; · (ipureintro; rfl)
  iexact Hw

/-! ## The launch -/

def u₀ : UU := (initOf (Pipeline.cells cfgs cellOf_inj) (Pipeline.launchToks cfgs cellOf_inj), (initOf ringCells ringToks, 1))

theorem start_intro (c : Dev nD) :
    iprop(Pipeline.unscopedRestP Pipeline.Prefetch.none cfg0.spec c (fun b => m ((c : Thread nD τ).loc b)) ∗ levAts L lv
        ∗ Pipeline.launchCred (fun d => owed d 0 0) c ∗ prngReg c (ρ c) ∗ G' (argX m) (argW m) c)
      ⊢ |={Set.univ}=> iprop(start m c ∗ emp) := by
  rw [show Pipeline.unscopedRestP Pipeline.Prefetch.none cfg0.spec c (fun b => m ((c : Thread nD τ).loc b)) = (result c (out0 m c) : sProp 𝕄) from unscopedRest0_eq c _]
  unfold G' records
  iintro ⟨Hres, Hlev, Hcr, -, ⟨%K, ⟨HI, HR⟩, Hlin, Hcp⟩⟩
  ihave Hcr := (launch_creds c) $$ Hcr
  imodintro
  unfold start Ctx
  isplitl
  · isplitl [HI HR Hlev]
    · iexists K
      isplitl [HI]; · iexact HI
      isplitl [HR]; · iexact HR
      iexact Hlev
    isplitl [Hlin]; · iexact Hlin
    isplitl [Hcp]; · iexact Hcp
    isplitl [Hcr]; · iexact Hcr
    iexact Hres
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N)
      ⊢ iprop((unscopedSems0 c ∗ result c (outN m c)) ∗ Pipeline.ownSems0 osem c ∗ Pipeline.scopedRest cfg0.spec c) := by
  rw [show (dats m 0 c).Φ (Fin.last cfg0.N) = Φ₁ m c from rfl, unscopedSems0_eq]
  exact BI.Entails.refl _

theorem L_ne (g : GSem nD τ sig) (h : g.1.2 ≠ .tc) : L g = ∅ := by
  unfold L
  exact if_neg h

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait_owed false c _ 0 0 0 (le_refl _) (le_refl _) (by decide)
    · show (levAts L lv : sProp 𝕄) ⊢ MayWait (c : Thread nD τ) _ 0 0
      rw [MayWait_zero]
      iintro -
      iempintro

theorem read_result (c : Dev nD) (f : OBuf F) (s' : Phys nD τ sig (Elt F)) :
    iprop(result c f ∗ SI s') ⊢ (iprop(⌜s'.mem.mem ((c : Thread nD τ).loc main_v1) = f⌝ ∗ SI s') : sProp 𝕄) := by
  unfold result
  iintro ⟨H, HSI⟩
  icombine HSI H gives %h
  isplitr
  · ipureintro
    exact funext fun i => h i (Finset.mem_univ _)
  iexact HSI

theorem read_end (c : Dev nD) (s' : Phys nD τ sig (Elt F)) :
    iprop((unscopedSems0 c ∗ result c (outN m c)) ∗ emp ∗ SI s')
      ⊢ |={Set.univ}=> (iprop(⌜s'.mem.mem ((c : Thread nD τ).loc main_v1) = outN m c
          ∧ ∀ sm : SemLoc sig, sm.isScoped .tc = false → s'.mem.sem ((c.tc : Thread nD τ), sm) = 0⌝ ∗ SI s') : sProp 𝕄) := by
  iintro ⟨⟨Hu, Hr⟩, -, HSI⟩
  ihave H := (read_result c (outN m c) s') $$ [Hr HSI]
  · isplitl [Hr] <;> iassumption
  icases H with ⟨%h1, HSI⟩
  imod (Pipeline.unscopedSems0_read (X := unscopedSems0 c) (c := c) fupd_intro s') $$ [Hu HSI] with ⟨%h2, HSI⟩
  · isplitl [Hu] <;> iassumption
  imodintro
  isplitr
  · ipureintro
    exact ⟨h1, h2⟩
  iexact HSI

theorem fund_ring' : BI.own (embR (initOf ringCells ringToks, 1)) ⊢ (|==> bigSep Finset.univ (G (argX m) (argW m)) : sProp 𝕄) := fund_ring (argX m) (argW m)

theorem fund_all : (ownU u₀ : sProp 𝕄)
    ⊢ |={Set.univ}=> iprop(BI.own (EP (initOf (Pipeline.cells cfgs cellOf_inj) (Pipeline.launchToks cfgs cellOf_inj))) ∗ bigSep Finset.univ (G (argX m) (argW m))) := by
  unfold u₀
  iintro Hu
  ihave H := (ownU_pair _ _) $$ Hu
  icases H with ⟨HP, HX⟩
  imod (fund_ring' m) $$ HX with HG
  imodintro
  isplitl [HP] <;> iassumption

theorem main_one (c : Dev nD) : main (F := F) c = Prog.op (.customCall (Pipeline.entry (0 : Fin 1)) ()) fun _ => .ret ⟨⟩ := (main_chain c).trans rfl

set_option maxRecDepth 16384 in
/-- Every run ends: each window's array at what the pipeline leaves, the result at `outN`, every counter zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = (dats m 0 c).arrAt w cfg0.N)
      ∧ r.2.mem ((c : Thread nD τ).loc main_v1) = outN m c) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := main_one)
    (hbody := fun c => (body_obligation m c).loose) (hne := block_pos0) (harr := arr_whole0) (hstage := stage_whole0) (hshare := share_eq m)
    (hdistinct := winFacts0.arr_inj)
    (O₀ := fun d => owed d 0 0) (howed₀ := fun _ => rfl) (howedN := fun _ => rfl)
    (L := L) (lv := lv) (hL := L_ne) (hwaits := waits m)
    (G := G (argX m) (argW m)) (G' := G' (argX m) (argW m)) (u₀ := u₀)
    (hu₀ := fund_all m)
    (hglob := glob (argX m) (argW m))
    (hA := fun _ _ => rfl) (hpf := fun _ k => k.elim0)
    (X := start m) (Y := fun c => iprop(unscopedSems0 c ∗ result c (outN m c))) (Z := fun _ => iprop(emp))
    (hX := start_intro m ρ) (hin := phi0_intro m) (hout := phi1_exit m)
    (QY := fun c s => s.mem ((c : Thread nD τ).loc main_v1) = outN m c
      ∧ ∀ sm : SemLoc sig, sm.isScoped .tc = false → s.sem ((c.tc : Thread nD τ), sm) = 0)
    (hY := read_end m)
    (hQ := fun _ h hs => ⟨fun c => ⟨(h c).1, (h c).2.2.1⟩, sem_eq_zero hs fun c => (h c).2.2.2⟩)

/-- Of every run: the arguments as they were, the result at `outN`, every counter zero. -/
theorem run_ends : θ_run defs (onTc (τ := τ) (main (F := F))) ⟨m, fun _ => 0, ρ⟩ (fun r =>
    (∀ c : Dev nD, r.2.mem ((c.tc : Thread nD τ).loc main_v1) = outN m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).2, ((h.1 c).1 0).trans ((dats m 0 c).arrAt_in 0 rfl _), ((h.1 c).1 1).trans ((dats m 0 c).arrAt_in 1 rfl _)⟩, h.2⟩) (run_main m ρ)

end Cert.KernelIdeal.Ring
-- ==== Proof.Bridge.lean ====
/-
  The kernel as printed and as idealized run the same program: the two bodies are equal at the machine's own floats.
-/
module

public import proofs.«01_k».proof.Proof.Launch
public import proofs.«01_k».proof.Proof.Gen.Kernel
public import Idealize.ShloMosaic.PureOps.BitExact
public meta import Idealize.ShloMosaic.Lib.Tactic.ProgEq

@[expose] public section

namespace Cert.Kernel.Ring

open Cert.Kernel Cert.Kernel.Gen
open Idealize.ShloMosaic Idealize.SL.Sem

/-- The print's body, its float type after two arguments that say nothing. -/
noncomputable def printed (_ _ : Unit) (F : FTy → Type) [FloatOps F] (X : Memref sig .tc .vmem S8192x256 .bf16) (hX : X.IsWhole) (W : Memref sig .tc .vmem S256x4096 .bf16) (hW : W.IsWhole)
    (O : Memref sig .tc .hbm S8192x4096 .f32) (hO : O.IsWhole) (M : Memref sig .tc .vmem S2x256x2048 .bf16) (hM : M.IsWhole)
    (N : Memref sig .tc .vmem S2x256x2048 .bf16) (hN : N.IsWhole) (G : Memref sig .tc .vmem S256x2048 .f32) (hG : G.IsWhole)
    (H : Memref sig .tc .vmem S256x2048 .f32) (hH : H.IsWhole) (SM SN RM RN : DmaSems sig S2) (KM KN : DmaSems sig S_)
    (CM CN : Sems sig S2) (E : Sems sig S_) : Prog (TpuEff nD τ sig (Elt F) Λ₀ .tc) PUnit :=
  cc0_body (F := F) X hX W hW O hO M hM N hN G hG H hH SM SN RM RN KM KN CM CN E

end Cert.Kernel.Ring

namespace Cert.KernelIdeal.Ring

open Idealize.ShloMosaic Idealize.SL.Sem
open scoped Idealize.ShloMosaic.ProgEq

set_option maxHeartbeats 0 in
prog_eq printed_eq : Cert.Kernel.Ring.printed Cert.KernelIdeal.Ring.printed from Cert.Kernel to Cert.KernelIdeal at () () by intros; rfl

/-- So the two launches call the same bodies. -/
theorem defs_eq : Cert.Kernel.defs₀ (F := Bits) = Cert.KernelIdeal.defs₀ (F := Bits) := by
  unfold Cert.Kernel.defs₀ Cert.KernelIdeal.defs₀
  refine congrArg Defs.onTc ?_
  funext ℓ x
  match ℓ, x with
  | 0, (t, s) => exact printed_eq Bits _ _ _ _ _ _ _ _ _ _ _ _ _ _ _ _ _ _ _ _ _ _ _
  | ⟨_ + 1, h⟩, _ => exact absurd h (Nat.not_lt.2 (Nat.le_add_left _ _))

end Cert.KernelIdeal.Ring
-- ==== Proof.Frames.lean ====
/-
  The kernel's runs, as printed and as idealized.
-/
module

public import proofs.«01_k».proof.Defs
public import proofs.«01_k».proof.Proof.Launch
public import proofs.«01_k».proof.Proof.Bridge

@[expose] public section

noncomputable section

namespace Cert.KernelIdeal.Ring

open Idealize.ShloMosaic Idealize.SL.Sem

/-- Over any floats the kernel ends, keeps its arguments and leaves every counter at zero. -/
theorem runs_any {F : FTy → Type} [FloatOps F] (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run Cert.KernelIdeal.defs _ _).mono (fun _ h => ⟨fun c => (h.1 c).2, h.2⟩) (run_ends m ρ)

/-- The idealized kernel's frame. -/
theorem runs_ideal : Cert.quiescent_KernelIdeal (hKernelIdeal := Cert.KernelIdeal.Gen.facts) := fun m ρ _ => runs_any m ρ

/-- The printed launch's table of bodies is the idealized one's. -/
theorem table_eq : Cert.Kernel.defs (F := Bits) = Cert.KernelIdeal.defs (F := Bits) :=
  congrArg (Pipeline.defs Cert.KernelIdeal.pcfgs) defs_eq

/-- The printed kernel's frame, by the equality of the two tables. -/
theorem runs_printed : Cert.quiescent_Kernel (hKernel := Cert.Kernel.Gen.facts) := by
  intro m ρ _
  rw [table_eq]
  exact runs_any (F := Bits) m ρ

end Cert.KernelIdeal.Ring
-- ==== Proof.Offsets.lean ====
/-
  The printed neighbours and offsets in closed form: a device's place on the ring is the number of the chunk
  it starts from, a neighbour is one place away, and a step's chunk is so many places on.
-/
module

public import proofs.«01_k».proof.Proof.Steps

@[expose] public section

noncomputable section

namespace Cert.KernelIdeal.Ring

open Cert.KernelIdeal Cert.KernelIdeal.Gen
open Idealize.ShloMosaic Idealize.SL.Sem

/-- A device's place on the ring. -/
def place (c : Dev nD) : ℕ := k0_off1 c 0 / 256

/-- How far on from a device's place the chunk of step `u` is. -/
def ahead : Bool → ℕ → ℕ
  | false, u => 31 - u
  | true, u => u + 1

/-- How far on from a device's place its `n`-th finished block is. -/
def doneAt : Bool → ℕ → ℕ
  | false, n => 33 - n
  | true, n => n + 31

theorem place_lt (c : Dev nD) : place c < 32 := by revert c; decide +kernel
theorem place_inj {c c' : Dev nD} : place c = place c' → c = c' := by revert c c'; decide +kernel
theorem place_up (b : Bool) (c : Dev nD) : place (up b c) = (place c + (if b then 1 else 31)) % 32 := by revert b c; decide +kernel

theorem xoff_row_fin : ∀ (b : Bool) (u : Fin 32) (c : Dev nD), xoff b c u.val 0 = 256 * ((place c + ahead b u.val) % 32) := by decide +kernel
theorem xoff_col_fin : ∀ (b : Bool) (u : Fin 32) (c : Dev nD), xoff b c u.val 1 = 0 := by decide +kernel
theorem ooff_row_fin : ∀ (b : Bool) (n : Fin 32) (c : Dev nD), ooff b c n.val 0 = 256 * ((place c + doneAt b n.val) % 32) := by decide +kernel
theorem ooff_col_fin : ∀ (b : Bool) (n : Fin 32) (c : Dev nD), ooff b c n.val 1 = col b := by decide +kernel

theorem xoff_row (b : Bool) (c : Dev nD) {u : ℕ} (hu : u < 32) : xoff b c u 0 = 256 * ((place c + ahead b u) % 32) := xoff_row_fin b ⟨u, hu⟩ c
theorem xoff_col (b : Bool) (c : Dev nD) {u : ℕ} (hu : u < 32) : xoff b c u 1 = 0 := xoff_col_fin b ⟨u, hu⟩ c
theorem ooff_row (b : Bool) (c : Dev nD) {n : ℕ} (hn : n < 32) : ooff b c n 0 = 256 * ((place c + doneAt b n) % 32) := ooff_row_fin b ⟨n, hn⟩ c
theorem ooff_col (b : Bool) (c : Dev nD) {n : ℕ} (hn : n < 32) : ooff b c n 1 = col b := ooff_col_fin b ⟨n, hn⟩ c

end Cert.KernelIdeal.Ring
-- ==== Proof.Sum.lean ====
/-
  Over the extended reals: what goes round the ring is a sum of the devices' shares, a finished block is the sum
  over all devices, and the blocks of both directions fill the result.
-/
module

public import proofs.«01_k».proof.Proof.Whole
public import proofs.«01_k».proof.Proof.Offsets
public import Idealize.ShloMosaic.Lib.MatmulPlain
public import Idealize.ShloMosaic.Lib.Pipeline.Value

@[expose] public section

noncomputable section

namespace Cert.KernelIdeal.Ring

open Cert.KernelIdeal Cert.KernelIdeal.Gen
open Idealize.ShloMosaic Idealize.ShloMosaic.ValueIdx Idealize.SL.Sem
open scoped BigOperators

/-- Row `i` of chunk `q`, chunks numbered round the ring. -/
def rowAt (q : ℕ) (i : Fin 256) : Fin 8192 := ⟨256 * (q % 32) + i.val, by omega⟩
/-- Column `j` of the direction's half. -/
def colAt (b : Bool) (j : Fin 2048) : Fin 4096 := ⟨col b + j.val, by have := col_le b; omega⟩

theorem rowAt_congr {q q' : ℕ} (h : q % 32 = q' % 32) (i : Fin 256) : rowAt q i = rowAt q' i := by unfold rowAt; simp only [h]

section Shares

variable (xs : Dev nD → XBuf Ideal) (ws : Dev nD → WBuf Ideal)

/-- An entry of a device's part of the first array, and of the second. -/
abbrev xEntry (x : FVec Ideal ⟨2, ![8192, 256]⟩ .bf16) (R : Fin 8192) (k : Fin 256) : EReal := x (ix2 R k)
abbrev wEntry (w : FVec Ideal ⟨2, ![256, 4096]⟩ .bf16) (k : Fin 256) (C : Fin 4096) : EReal := w (ix2 k C)

/-- Device `c`'s share of the result at a row and a column. -/
def share (c : Dev nD) (R : Fin 8192) (C : Fin 4096) : EReal := ∑ k : Fin 256, xEntry (xs c) R k * wEntry (ws c) k C

/-- The sum of all devices' shares. -/
def total (R : Fin 8192) (C : Fin 4096) : EReal := ∑ c : Dev nD, share xs ws c R C

theorem prodOf_apply (x : Vec Ideal S256x256 .bf16) (w : Vec Ideal S256x2048 .bf16) (i : Fin 256) (j : Fin 2048) :
    prodOf x w (ix2 i j) = ∑ k : Fin 256, (x : FVec Ideal ⟨2, ![256, 256]⟩ .bf16) (ix2 i k) * (w : FVec Ideal ⟨2, ![256, 2048]⟩ .bf16) (ix2 k j) := by
  unfold prodOf
  rw [shapeCast_self, shapeCast_self]
  refine (Ideal.matmul_plain_apply (M := 256) (K := 256) (N := 2048) none x w (constant S256x2048 .f32 0x00000000#32) i j).trans ?_
  have h0 : (constant S256x2048 .f32 0x00000000#32 : FVec Ideal S256x2048 .f32) (ix2 i j) = 0 := Ideal.ofBits_zero_f32
  rw [h0]
  exact zero_add _

theorem prodA_apply (b : Bool) (c : Dev nD) {u : ℕ} (hu : u < 32) (i : Fin 256) (j : Fin 2048) :
    prodA xs ws b c u (ix2 i j) = share xs ws c (rowAt (place c + ahead b u) i) (colAt b j) := by
  unfold prodA share
  rw [prodOf_apply]
  refine Finset.sum_congr rfl fun k _ => ?_
  refine congrArg₂ (fun p q : EReal => p * q) ?_ ?_
  · refine congrArg (xs c) (funext fun a => Fin.ext ?_)
    match a with
    | ⟨0, _⟩ =>
      show xoff b c u 0 + 1 * i.val = 256 * ((place c + ahead b u) % 32) + i.val
      rw [xoff_row b c hu, Nat.one_mul]
    | ⟨1, _⟩ =>
      show xoff b c u 1 + 1 * k.val = k.val
      rw [xoff_col b c hu, Nat.one_mul, Nat.zero_add]
  · refine congrArg (ws c) (funext fun a => Fin.ext ?_)
    match a with
    | ⟨0, _⟩ =>
      show 0 + 1 * k.val = k.val
      omega
    | ⟨1, _⟩ =>
      show col b + 1 * j.val = col b + j.val
      omega

theorem wide_pack (v : FVec Ideal S256x2048 .f32) : wide (pack v) = v := by
  unfold wide pack
  rw [shapeCast_shapeCast]
  rfl

/-- Going `k` places upstream. -/
theorem place_iter (b : Bool) (k : ℕ) (c : Dev nD) : place ((up b)^[k] c) = (place c + k * (if b then 1 else 31)) % 32 := by
  induction k generalizing c with
  | zero => have := place_lt c; simp only [Function.iterate_zero, id_eq]; omega
  | succ k ih =>
    rw [Function.iterate_succ_apply, ih, place_up]
    cases b <;> simp <;> omega

/-- Thirty-two places upstream from a device, every device is met once. -/
theorem sum_iter (b : Bool) (c : Dev nD) (f : Dev nD → EReal) : ∑ k ∈ Finset.range 32, f ((up b)^[k] c) = ∑ d : Dev nD, f d := by
  rw [Finset.sum_range]
  refine Function.Bijective.sum_comp (e := fun k : Fin 32 => (up b)^[k.val] c) ?_ f
  refine (Fintype.bijective_iff_injective_and_card _).2 ⟨fun k k' h => ?_, rfl⟩
  have h' := congrArg place h
  simp only [place_iter] at h'
  apply Fin.ext
  cases b <;> simp at h' <;> omega

theorem wide_sent (b : Bool) (i : Fin 256) (j : Fin 2048) : ∀ (u : ℕ) (hu : u ≤ 31) (c : Dev nD),
    wide (sent xs ws b u c) (ix2 i j)
      = ∑ k ∈ Finset.range (u + 1), share xs ws ((up b)^[k] c) (rowAt (place c + ahead b (if u = 0 then 31 else u - 1)) i) (colAt b j)
  | 0, _, c => by
    show wide (pack _) _ = _
    rw [wide_pack, prodA_apply xs ws b c (by omega), Finset.sum_range_one]
    rfl
  | u + 1, hu, c => by
    have hs : sent xs ws b (u + 1) c = pack (accOf (sent xs ws b u (up b c)) (prodA xs ws b c u)) := by
      show (if u < 31 then _ else _) = _
      rw [if_pos (by omega)]
    rw [hs, wide_pack, Finset.sum_range_succ']
    show wide (sent xs ws b u (up b c)) (ix2 i j) + prodA xs ws b c u (ix2 i j) = _
    rw [wide_sent b i j u (by omega) (up b c), prodA_apply xs ws b c (by omega)]
    have hr : rowAt (place (up b c) + ahead b (if u = 0 then 31 else u - 1)) i = rowAt (place c + ahead b u) i := by
      apply rowAt_congr
      rw [place_up]
      have := place_lt c
      by_cases hu0 : u = 0
      · subst hu0
        cases b <;> simp [ahead] <;> omega
      · rw [if_neg hu0]
        cases b <;> simp [ahead] <;> omega
    rw [hr]
    rfl

/-- After the reduction a slot's contents only travel. -/
theorem sent_travels (b : Bool) : ∀ (n : ℕ) (c : Dev nD), sent xs ws b (n + 31) c = sent xs ws b 31 ((up b)^[n] c)
  | 0, c => by rw [Nat.zero_add]; rfl
  | n + 1, c => by
    have hs : sent xs ws b (n + 1 + 31) c = sent xs ws b (n + 31) (up b c) := by
      rw [show n + 1 + 31 = (n + 31) + 1 by omega]
      show (if n + 31 < 31 then _ else _) = _
      rw [if_neg (by omega)]
    rw [hs, sent_travels b n]
    rfl

theorem block_wide (b : Bool) (c : Dev nD) (n : ℕ) : block xs ws b c n = wide (sent xs ws b 31 ((up b)^[n] c)) := by
  unfold block
  split
  · next h =>
    subst h
    have hs : sent xs ws b 31 c = pack (accOf (sent xs ws b 30 (up b c)) (prodA xs ws b c 30)) := by
      show (if 30 < 31 then _ else _) = _
      rw [if_pos (by omega)]
    rw [Function.iterate_zero, id_eq, hs, wide_pack]
  · next h =>
    obtain ⟨k, rfl⟩ := Nat.exists_eq_succ_of_ne_zero h
    rw [show k.succ + 30 = k + 31 by omega, sent_travels]
    rfl

theorem block_apply (b : Bool) (c : Dev nD) {n : ℕ} (hn : n < 32) (i : Fin 256) (j : Fin 2048) :
    block xs ws b c n (ix2 i j) = total xs ws (rowAt (place c + doneAt b n) i) (colAt b j) := by
  rw [block_wide, wide_sent xs ws b i j 31 (le_refl _), sum_iter b _ fun d => share xs ws d _ _]
  unfold total
  rw [rowAt_congr (q' := place c + doneAt b n)]
  rw [place_iter]
  cases b <;> simp [ahead, doneAt] <;> omega

/-! ## The result -/

/-- An index is in the direction's `n`-th finished block of device `c`. -/
def InBlock (b : Bool) (c : Dev nD) (n : ℕ) (R : Fin 8192) (C : Fin 4096) : Prop :=
  (256 * ((place c + doneAt b n) % 32) ≤ R.val ∧ R.val < 256 * ((place c + doneAt b n) % 32) + 256) ∧ (col b ≤ C.val ∧ C.val < col b + 2048)

theorem putAt_block (b : Bool) (c : Dev nD) {n : ℕ} (hn : n < 32) (f : OBuf Ideal) (R : Fin 8192) (C : Fin 4096) :
    (InBlock b c n R C → putAt (ooff b c n) (ooff_inb b c n) f (block xs ws b c n) (ix2 R C) = total xs ws R C)
    ∧ (¬ InBlock b c n R C → putAt (ooff b c n) (ooff_inb b c n) f (block xs ws b c n) (ix2 R C) = f (ix2 R C)) := by
  have he := View.write_whole_slice_unit main_v1 (ooff b c n) S256x2048.size (ooff_inb b c n) f (block xs ws b c n)
  have hp : putAt (ooff b c n) (ooff_inb b c n) f (block xs ws b c n) = _ := he
  have hiff : InBlock b c n R C ↔ ∀ a : Fin 2, ooff b c n a ≤ ((ix2 R C : S8192x4096.Idx) a).val ∧ ((ix2 R C : S8192x4096.Idx) a).val < ooff b c n a + S256x2048.size a := by
    rw [Fin.forall_fin_two, ooff_row b c hn, ooff_col b c hn]
    exact Iff.rfl
  constructor
  · intro hin
    rw [hp]
    unfold updateSlice
    refine (dif_pos (hiff.mp hin)).trans ?_
    obtain ⟨⟨h1, h2⟩, h3, h4⟩ := hin
    have hb := block_apply xs ws b c hn ⟨R.val - 256 * ((place c + doneAt b n) % 32), by omega⟩ ⟨C.val - col b, by omega⟩
    have hR : rowAt (place c + doneAt b n) ⟨R.val - 256 * ((place c + doneAt b n) % 32), by omega⟩ = R := Fin.ext (by
      show 256 * ((place c + doneAt b n) % 32) + (R.val - 256 * ((place c + doneAt b n) % 32)) = R.val
      omega)
    have hC : colAt b ⟨C.val - col b, by omega⟩ = C := Fin.ext (by
      show col b + (C.val - col b) = C.val
      omega)
    rw [hR, hC] at hb
    rw [← hb]
    refine congrArg (block xs ws b c n) (funext fun a => Fin.ext ?_)
    match a with
    | ⟨0, _⟩ =>
      show R.val - ooff b c n 0 = R.val - 256 * ((place c + doneAt b n) % 32)
      rw [ooff_row b c hn]
    | ⟨1, _⟩ =>
      show C.val - ooff b c n 1 = C.val - col b
      rw [ooff_col b c hn]
  · intro hout
    rw [hp]
    unfold updateSlice
    exact dif_neg fun h => hout (hiff.mpr h)

/-- What a step leaves at an index: the sum where it has put a block, or what was there. -/
theorem outB_apply (b : Bool) (c : Dev nD) {u : ℕ} (hu : u < 62) (f : OBuf Ideal) (R : Fin 8192) (C : Fin 4096)
    (h : f (ix2 R C) = total xs ws R C ∨ (30 ≤ u ∧ InBlock b c (u - 30) R C)) :
    outB xs ws b c u f (ix2 R C) = total xs ws R C := by
  unfold outB
  split
  · next hlt =>
    rcases h with h | h
    · exact h
    · omega
  · next hge =>
    have hp := putAt_block xs ws b c (n := u - 30) (by omega) f R C
    by_cases hin : InBlock b c (u - 30) R C
    · exact hp.1 hin
    · rcases h with h | h
      · exact (hp.2 hin).trans h
      · exact absurd h.2 hin

theorem outAt_apply (c : Dev nD) (f : OBuf Ideal) (R : Fin 8192) (C : Fin 4096) : ∀ (u : ℕ), u ≤ 62 →
    (∃ b n, n + 30 < u ∧ InBlock b c n R C) → outAt xs ws c f u (ix2 R C) = total xs ws R C
  | 0, _, ⟨_, _, h, _⟩ => absurd h (by omega)
  | u + 1, hu, ⟨b, n, hn, hin⟩ => by
    show outB xs ws true c u (outB xs ws false c u (outAt xs ws c f u)) (ix2 R C) = _
    by_cases hlt : n + 30 < u
    · have ih := outAt_apply c f R C u (by omega) ⟨b, n, hlt, hin⟩
      exact outB_apply xs ws true c (by omega) _ R C (.inl (outB_apply xs ws false c (by omega) _ R C (.inl ih)))
    · have hnu : u - 30 = n := by omega
      cases b
      · exact outB_apply xs ws true c (by omega) _ R C (.inl (outB_apply xs ws false c (by omega) _ R C (.inr ⟨by omega, by rw [hnu]; exact hin⟩)))
      · exact outB_apply xs ws true c (by omega) _ R C (.inr ⟨by omega, by rw [hnu]; exact hin⟩)

/-- Every index is in some block. -/
theorem covered (c : Dev nD) (R : Fin 8192) (C : Fin 4096) : ∃ b n, n + 30 < 62 ∧ InBlock b c n R C := by
  have hp := place_lt c
  by_cases hC : C.val < 2048
  · refine ⟨false, (place c + 33 - R.val / 256) % 32, by omega, ⟨?_, ?_⟩⟩
    · simp only [doneAt]; omega
    · simp only [col]; omega
  · refine ⟨true, (R.val / 256 + 33 - place c) % 32, by omega, ⟨?_, ?_⟩⟩
    · simp only [doneAt]; omega
    · simp only [col]; omega

theorem outAt_total (c : Dev nD) (f : OBuf Ideal) (R : Fin 8192) (C : Fin 4096) : outAt xs ws c f 62 (ix2 R C) = total xs ws R C :=
  outAt_apply xs ws c f R C 62 (le_refl _) (covered c R C)

end Shares

end Cert.KernelIdeal.Ring
-- ==== Proof.Result.lean ====
/-
  The value claim: on every device the kernel's result is the product of the whole arrays, which the reference computes.
-/
module

public import proofs.«01_k».proof.Defs
public import proofs.«01_k».proof.Proof.Launch
public import proofs.«01_k».proof.Proof.Sum
public import proofs.«01_k».proof.Proof.Gen.ReferenceIdeal
public import Idealize.ShloMosaic.Lib.StackMember
public import Idealize.ShloMosaic.Lib.Layout

@[expose] public section

noncomputable section

namespace Cert.KernelIdeal.Ring

open Cert.KernelIdeal Cert.KernelIdeal.Gen
open Idealize.ShloMosaic Idealize.ShloMosaic.ValueIdx Idealize.SL.Sem
open scoped BigOperators

/-- A device's part of the first array is what the body finds in its buffer. -/
theorem argX_eq (m : (ℓ : Loc nD τ sig) → Buf (Elt Ideal) ℓ) (c : Dev nD) : argX m c = m ((c.tc : Thread nD τ).loc main_arg0) := by
  unfold argX Gen.iblk
  funext i
  refine congrArg (m ((c.tc : Thread nD τ).loc main_arg0)) (funext fun a => Fin.ext ?_)
  exact Pipeline.Window.rect_emb_val_of_index_zero (cfg0.win 0) Gen.t0_0 a (by fin_cases a <;> rfl) i

/-- The same of the second array. -/
theorem argW_eq (m : (ℓ : Loc nD τ sig) → Buf (Elt Ideal) ℓ) (c : Dev nD) : argW m c = m ((c.tc : Thread nD τ).loc main_arg1) := by
  unfold argW Gen.iblk
  funext i
  refine congrArg (m ((c.tc : Thread nD τ).loc main_arg1)) (funext fun a => Fin.ext ?_)
  exact Pipeline.Window.rect_emb_val_of_index_zero (cfg0.win 1) Gen.t0_0 a (by fin_cases a <;> rfl) i

abbrev WholeX : Type := FVec Ideal ⟨2, ![8192, 8192]⟩ .bf16
abbrev WholeW : Type := FVec Ideal ⟨2, ![8192, 4096]⟩ .bf16

/-- The product of the whole arrays, at a row and a column. -/
def wholeProduct (X : WholeX) (W : WholeW) (R : Fin 8192) (C : Fin 4096) : EReal := ∑ K : Fin 8192, X (ix2 R K) * W (ix2 K C)

/-- The devices' shares add up to the product of the whole arrays. -/
theorem total_product (X : WholeX) (W : WholeW) (xs : Dev nD → XBuf Ideal) (ws : Dev nD → WBuf Ideal)
    (hx : ∀ c, xs c = Layout.block ⟨2, ![8192, 256]⟩ ⟨2, ![8192, 8192]⟩ 1 32 c X)
    (hw : ∀ c, ws c = Layout.block ⟨2, ![256, 4096]⟩ ⟨2, ![8192, 4096]⟩ 0 32 c W) (R : Fin 8192) (C : Fin 4096) :
    total xs ws R C = wholeProduct X W R C := by
  unfold total share wholeProduct
  rw [← Equiv.sum_comp ((finProdFinEquiv (m := 32) (n := 256)).trans (finCongr (by norm_num : 32 * 256 = 8192))), Fintype.sum_prod_type]
  refine Finset.sum_congr rfl fun c _ => Finset.sum_congr rfl fun k _ => ?_
  rw [hx c, hw c]
  refine congrArg₂ (fun p q : EReal => p * q) ?_ ?_
  · refine congrArg X (funext fun a => Fin.ext ?_)
    match a with
    | ⟨0, _⟩ => rfl
    | ⟨1, _⟩ =>
      show c.val * 256 + k.val = k.val + 256 * c.val
      omega
  · refine congrArg W (funext fun a => Fin.ext ?_)
    match a with
    | ⟨0, _⟩ =>
      show c.val * 256 + k.val = k.val + 256 * c.val
      omega
    | ⟨1, _⟩ => rfl

/-- The reference's product, at a row and a column. -/
theorem reference_apply (X : WholeX) (W : WholeW) (R : Fin 8192) (C : Fin 4096) :
    Host.dotGeneral Cert.ReferenceIdeal.dot_S8192x8192_S8192x4096_S8192x4096_1_0_0_1_n_n none
      (extf .f32 X Cert.ReferenceIdeal.Gen.bitsLt_bf16_f32 : FVec Ideal ⟨2, ![8192, 8192]⟩ .f32)
      (extf .f32 W Cert.ReferenceIdeal.Gen.bitsLt_bf16_f32 : FVec Ideal ⟨2, ![8192, 4096]⟩ .f32) (ix2 R C) = wholeProduct X W R C :=
  StackMember.dotGeneral_plain_apply (m := 8192) (n := 4096) (k := 8192) none _ _ R C

/-- Every device's result is the reference's. -/
theorem result_eq (m : (ℓ : Loc nD τ sig) → Buf (Elt Ideal) ℓ) (X : WholeX) (W : WholeW)
    (hx : ∀ c : Dev nD, m ((c.tc : Thread nD τ).loc main_arg0) = Layout.block ⟨2, ![8192, 256]⟩ ⟨2, ![8192, 8192]⟩ 1 32 c X)
    (hw : ∀ c : Dev nD, m ((c.tc : Thread nD τ).loc main_arg1) = Layout.block ⟨2, ![256, 4096]⟩ ⟨2, ![8192, 4096]⟩ 0 32 c W) (c : Dev nD) :
    outN m c = Host.dotGeneral Cert.ReferenceIdeal.dot_S8192x8192_S8192x4096_S8192x4096_1_0_0_1_n_n none
      (extf .f32 X Cert.ReferenceIdeal.Gen.bitsLt_bf16_f32 : FVec Ideal ⟨2, ![8192, 8192]⟩ .f32)
      (extf .f32 W Cert.ReferenceIdeal.Gen.bitsLt_bf16_f32 : FVec Ideal ⟨2, ![8192, 4096]⟩ .f32) := by
  funext I
  have hI : I = ix2 (I 0) (I 1) := eq_ix2 (n0 := 8192) (n1 := 4096) I
  rw [hI]
  refine (outAt_total (argX m) (argW m) c (out0 m c) (I 0) (I 1)).trans ?_
  refine (total_product X W (argX m) (argW m) (fun c => (argX_eq m c).trans (hx c)) (fun c => (argW_eq m c).trans (hw c)) (I 0) (I 1)).trans ?_
  exact (reference_apply X W (I 0) (I 1)).symm

end Cert.KernelIdeal.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem

/-- The reference runs on one device's host alone and declares no semaphore. -/
theorem runs_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's product. -/
theorem same_value : Cert.algebraic_KernelIdeal_ReferenceIdeal (hKernelIdeal := Cert.KernelIdeal.Gen.facts)
    (hReferenceIdeal := Cert.ReferenceIdeal.Gen.facts) := by
  intro m ρ m' ρ' _ parts
  exact ⟨_, (θ_run Cert.KernelIdeal.defs _ _).mono
      (fun _ h c => ⟨(h.1 c).1.trans (Cert.KernelIdeal.Ring.result_eq m _ _ (fun d => (parts d).1) (fun d => (parts d).2) c), (h.1 c).2⟩)
      (Cert.KernelIdeal.Ring.run_ends m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, Cert.KernelIdeal.Ring.runs_printed,
    Cert.KernelIdeal.Ring.runs_ideal, runs_reference, trivial, same_value⟩

end Cert.Proof

end
